-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "underflow" .f32 0xC3160000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v41)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v43)) (v3 : (c : Dev Cert.Kernel2Ideal.nD) → Buf (Elt Ideal) ((c.tc : Thread Cert.Kernel2Ideal.nD Cert.Kernel2Ideal.τ).loc Cert.Kernel2Ideal.main_v31_3)) (v4 : (c : Dev Cert.Kernel2Ideal.nD) → Buf (Elt Ideal) ((c.tc : Thread Cert.Kernel2Ideal.nD Cert.Kernel2Ideal.τ).loc Cert.Kernel2Ideal.main_v53)) (v5 : (c : Dev Cert.Kernel2Ideal.nD) → Buf (Elt Ideal) ((c.tc : Thread Cert.Kernel2Ideal.nD Cert.Kernel2Ideal.τ).loc Cert.Kernel2Ideal.main_v54)) (v6 : (c : Dev Cert.Kernel2Ideal.nD) → Buf (Elt Ideal) ((c.tc : Thread Cert.Kernel2Ideal.nD Cert.Kernel2Ideal.τ).loc Cert.Kernel2Ideal.main_v55)) (v7 : (c : Dev Cert.Kernel2Ideal.nD) → Buf (Elt Ideal) ((c.tc : Thread Cert.Kernel2Ideal.nD Cert.Kernel2Ideal.τ).loc Cert.Kernel2Ideal.main_v65)) (v8 : (c : Dev Cert.Kernel2Ideal.nD) → Buf (Elt Ideal) ((c.tc : Thread Cert.Kernel2Ideal.nD Cert.Kernel2Ideal.τ).loc Cert.Kernel2Ideal.main_v31_8)) (v9 : (c : Dev Cert.Kernel2Ideal.nD) → Buf (Elt Ideal) ((c.tc : Thread Cert.Kernel2Ideal.nD Cert.Kernel2Ideal.τ).loc Cert.Kernel2Ideal.main_v67)) (v10 : (c : Dev Cert.Kernel2Ideal.nD) → Buf (Elt Ideal) ((c.tc : Thread Cert.Kernel2Ideal.nD Cert.Kernel2Ideal.τ).loc Cert.Kernel2Ideal.main_v31_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v43) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_v53) = v4 c
          ∧ r.2.mem ((c.tc : Thread Cert.Kernel2Ideal.nD Cert.Kernel2Ideal.τ).loc Cert.Kernel2Ideal.main_v54) = v5 c
          ∧ r.2.mem ((c.tc : Thread Cert.Kernel2Ideal.nD Cert.Kernel2Ideal.τ).loc Cert.Kernel2Ideal.main_v55) = v6 c
          ∧ r.2.mem ((c.tc : Thread Cert.Kernel2Ideal.nD Cert.Kernel2Ideal.τ).loc Cert.Kernel2Ideal.main_v65) = v7 c
          ∧ r.2.mem ((c.tc : Thread Cert.Kernel2Ideal.nD Cert.Kernel2Ideal.τ).loc Cert.Kernel2Ideal.main_v31_8) = v8 c
          ∧ r.2.mem ((c.tc : Thread Cert.Kernel2Ideal.nD Cert.Kernel2Ideal.τ).loc Cert.Kernel2Ideal.main_v67) = v9 c
          ∧ r.2.mem ((c.tc : Thread Cert.Kernel2Ideal.nD Cert.Kernel2Ideal.τ).loc Cert.Kernel2Ideal.main_v31_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_v65) = v4 c
          ∧ r.2.mem ((c.tc : Thread Cert.Reference2Ideal.nD Cert.Reference2Ideal.τ).loc Cert.Reference2Ideal.main_v66) = v5 c
          ∧ r.2.mem ((c.tc : Thread Cert.Reference2Ideal.nD Cert.Reference2Ideal.τ).loc Cert.Reference2Ideal.main_v58) = v6 c
          ∧ r.2.mem ((c.tc : Thread Cert.Reference2Ideal.nD Cert.Reference2Ideal.τ).loc Cert.Reference2Ideal.main_v68) = v7 c
          ∧ r.2.mem ((c.tc : Thread Cert.Reference2Ideal.nD Cert.Reference2Ideal.τ).loc Cert.Reference2Ideal.main_v69) = v8 c
          ∧ r.2.mem ((c.tc : Thread Cert.Reference2Ideal.nD Cert.Reference2Ideal.τ).loc Cert.Reference2Ideal.main_v70) = v9 c
          ∧ r.2.mem ((c.tc : Thread Cert.Reference2Ideal.nD Cert.Reference2Ideal.τ).loc Cert.Reference2Ideal.main_v71) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S_ : Shape := ⟨0, ![]⟩

class Facts : Prop where
  bcast_S_S8x2048x512 : S_.BroadcastsInDim S8x2048x512 (![] : Fin 0 → Fin S8x2048x512.rank)

variable [Facts]

def fn {F : FTy → Type} [FloatOps F] (main_arg0 : FVec F S8x2048x1024 .f32) (main_arg1 : FVec F S8x2048x512 .f32) (main_arg2 : FVec F S8x2048x512 .f32) (main_arg3 : FVec F S8x2048x512 .f32) (main_arg4 : FVec F S8x2048x512 .f32) (main_arg5 : FVec F S8x2048x512 .f32) (main_arg6 : FVec F S1x1024x1024 .f32) : IVec S8x2048x512 1 :=
  let main_v0 : FVec F S8x2048x512 .f32 := Host.absf main_arg2
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_v3 : FVec F S8x2048x512 .f32 := Host.absf main_arg3
  let main_cst_0 : FVec F S_ .f32 := constant S_ .f32 0x7F800000#32
  let main_v4 : FVec F S8x2048x512 .f32 := broadcastInDim S8x2048x512 ![] bcast_S_S8x2048x512 main_cst_0
  let main_v5 : IVec S8x2048x512 1 := cmpf .olt main_v3 main_v4
  let main_v6 : IVec S8x2048x512 1 := andi main_v2 main_v5
  main_v6
-- ==== Kernel.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S_ : Shape := ⟨0, ![]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1024x1024 : Shape := ⟨2, ![1024, 1024]⟩
abbrev S8x2048x4x128 : Shape := ⟨4, ![8, 2048, 4, 128]⟩
abbrev S8x4x2048x128 : Shape := ⟨4, ![8, 4, 2048, 128]⟩
abbrev S8x4x128x2048 : Shape := ⟨4, ![8, 4, 128, 2048]⟩
abbrev S128 : Shape := ⟨1, ![128]⟩
abbrev S128x1 : Shape := ⟨2, ![128, 1]⟩
abbrev S8x4x1x128x2048 : Shape := ⟨5, ![8, 4, 1, 128, 2048]⟩
abbrev S8x4x2x128x2048 : Shape := ⟨5, ![8, 4, 2, 128, 2048]⟩
abbrev S8x8x128x2048 : Shape := ⟨4, ![8, 8, 128, 2048]⟩
abbrev S8x8x256x512 : Shape := ⟨4, ![8, 8, 256, 512]⟩
abbrev S8x8x512x256 : Shape := ⟨4, ![8, 8, 512, 256]⟩
abbrev S512x1024 : Shape := ⟨2, ![512, 1024]⟩
abbrev S1x2048x512 : Shape := ⟨3, ![1, 2048, 512]⟩
abbrev S1x8x512x256 : Shape := ⟨4, ![1, 8, 512, 256]⟩
abbrev S1x8x128x256 : Shape := ⟨4, ![1, 8, 128, 256]⟩
abbrev S1x256x512 : Shape := ⟨3, ![1, 256, 512]⟩
abbrev S1x256x1024 : Shape := ⟨3, ![1, 256, 1024]⟩
abbrev S8x1x256 : Shape := ⟨3, ![8, 1, 256]⟩
abbrev S512x256 : Shape := ⟨2, ![512, 256]⟩
abbrev S8x256x256 : Shape := ⟨3, ![8, 256, 256]⟩
abbrev S1 : Shape := ⟨1, ![1]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S1x256x256 : Shape := ⟨3, ![1, 256, 256]⟩
abbrev S1x1x256 : Shape := ⟨3, ![1, 1, 256]⟩
abbrev S1x1x1 : Shape := ⟨3, ![1, 1, 1]⟩
abbrev S1x1x64x256 : Shape := ⟨4, ![1, 1, 64, 256]⟩
abbrev S64x256 : Shape := ⟨2, ![64, 256]⟩
abbrev S256x512 : Shape := ⟨2, ![256, 512]⟩
abbrev S256x1024 : Shape := ⟨2, ![256, 1024]⟩

abbrev nBuf : Space → Nat
  | .hbm => 64
  | .vmem => 21
  | .smem => 1
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S1x1024x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S256, .i32⟩
  | .hbm, ⟨12, _⟩ => ⟨S1x256, .i32⟩
  | .hbm, ⟨13, _⟩ => ⟨S256, .i32⟩
  | .hbm, ⟨14, _⟩ => ⟨S256x1, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .bf16⟩
  | .hbm, ⟨19, _⟩ => ⟨S1024x1024, .f32⟩
  | .hbm, ⟨20, _⟩ => ⟨S1024x1024, .bf16⟩
  | .hbm, ⟨21, _⟩ => ⟨S8x2048x512, .f32⟩
  | .hbm, ⟨22, _⟩ => ⟨S8x2048x512, .f32⟩
  | .hbm, ⟨23, _⟩ => ⟨S8x2048x4x128, .f32⟩
  | .hbm, ⟨24, _⟩ => ⟨S8x4x2048x128, .f32⟩
  | .hbm, ⟨25, _⟩ => ⟨S8x4x128x2048, .f32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128x1, .i1⟩
  | .hbm, ⟨31, _⟩ => ⟨S_, .f32⟩
  | .hbm, ⟨32, _⟩ => ⟨S_, .f32⟩
  | .hbm, ⟨33, _⟩ => ⟨S8x4x128x2048, .i1⟩
  | .hbm, ⟨34, _⟩ => ⟨S8x4x128x2048, .f32⟩
  | .hbm, ⟨35, _⟩ => ⟨S8x4x128x2048, .f32⟩
  | .hbm, ⟨36, _⟩ => ⟨S128x1, .i1⟩
  | .hbm, ⟨37, _⟩ => ⟨S_, .f32⟩
  | .hbm, ⟨38, _⟩ => ⟨S_, .f32⟩
  | .hbm, ⟨39, _⟩ => ⟨S8x4x128x2048, .i1⟩
  | .hbm, ⟨40, _⟩ => ⟨S8x4x128x2048, .f32⟩
  | .hbm, ⟨41, _⟩ => ⟨S8x4x128x2048, .f32⟩
  | .hbm, ⟨42, _⟩ => ⟨S8x4x1x128x2048, .f32⟩
  | .hbm, ⟨43, _⟩ => ⟨S8x4x1x128x2048, .f32⟩
  | .hbm, ⟨44, _⟩ => ⟨S8x4x2x128x2048, .f32⟩
  | .hbm, ⟨45, _⟩ => ⟨S8x8x128x2048, .f32⟩
  | .hbm, ⟨46, _⟩ => ⟨S8x8x128x2048, .bf16⟩
  | .hbm, ⟨47, _⟩ => ⟨S8x2048x512, .bf16⟩
  | .hbm, ⟨48, _⟩ => ⟨S8x8x256x512, .f32⟩
  | .hbm, ⟨49, _⟩ => ⟨S8x8x512x256, .f32⟩
  | .hbm, ⟨50, _⟩ => ⟨S8x8x512x256, .bf16⟩
  | .hbm, ⟨51, _⟩ => ⟨S8x2048x512, .f32⟩
  | .hbm, ⟨52, _⟩ => ⟨S8x2048x512, .f32⟩
  | .hbm, ⟨53, _⟩ => ⟨S_, .f32⟩
  | .hbm, ⟨54, _⟩ => ⟨S8x2048x512, .f32⟩
  | .hbm, ⟨55, _⟩ => ⟨S8x2048x512, .f32⟩
  | .hbm, ⟨56, _⟩ => ⟨S_, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S8x2048x512, .bf16⟩
  | .hbm, ⟨61, _⟩ => ⟨S512x1024, .bf16⟩
  | .hbm, ⟨62, _⟩ => ⟨S512x1024, .bf16⟩
  | .hbm, ⟨63, _⟩ => ⟨S8x2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x8x512x256, .bf16⟩
  | .local _ .vmem, ⟨3, _⟩ => ⟨S1x8x512x256, .bf16⟩
  | .local _ .vmem, ⟨4, _⟩ => ⟨S1x8x128x256, .bf16⟩
  | .local _ .vmem, ⟨5, _⟩ => ⟨S1x8x128x256, .bf16⟩
  | .local _ .vmem, ⟨6, _⟩ => ⟨S1x256x512, .f32⟩
  | .local _ .vmem, ⟨7, _⟩ => ⟨S1x256x512, .f32⟩
  | .local _ .vmem, ⟨8, _⟩ => ⟨S256x256, .bf16⟩
  | .local _ .vmem, ⟨9, _⟩ => ⟨S1x256x1024, .f32⟩
  | .local _ .vmem, ⟨10, _⟩ => ⟨S1x256x1024, .f32⟩
  | .local _ .vmem, ⟨11, _⟩ => ⟨S1x256x512, .bf16⟩
  | .local _ .vmem, ⟨12, _⟩ => ⟨S1x256x512, .bf16⟩
  | .local _ .vmem, ⟨13, _⟩ => ⟨S512x1024, .bf16⟩
  | .local _ .vmem, ⟨14, _⟩ => ⟨S512x1024, .bf16⟩
  | .local _ .vmem, ⟨15, _⟩ => ⟨S1x256x1024, .f32⟩
  | .local _ .vmem, ⟨16, _⟩ => ⟨S1x256x1024, .f32⟩
  | .local _ .vmem, ⟨17, _⟩ => ⟨S8x1x256, .f32⟩
  | .local _ .vmem, ⟨18, _⟩ => ⟨S512x256, .f32⟩
  | .local _ .vmem, ⟨19, _⟩ => ⟨S8x256x256, .f32⟩
  | .local _ .vmem, ⟨20, _⟩ => ⟨S8x256x256, .f32⟩
  | .local _ .smem, ⟨0, _⟩ => ⟨S1, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_5 : BitVec 32 := 0#32
  let v12 : BitVec 1 := Scalar.cmpi .ne v11 c0_i32_5
  v12

def k0_mult1 (i : grid0.Coords) : BitVec 32 :=
  let arg1 : BitVec 32 := BitVec.ofNat 32 (i 1).val
  let c256_i32 : BitVec 32 := 256#32
  let v39 : BitVec 32 := Scalar.muli arg1 c256_i32
  v39
def k0_off1 (i : grid0.Coords) : Fin 3 → Nat :=
  let c0_29 : Index := 0#32
  let arg1 : BitVec 32 := BitVec.ofNat 32 (i 1).val
  let c256_i32 : BitVec 32 := 256#32
  let v39 : BitVec 32 := Scalar.muli arg1 c256_i32
  let v40 : BitVec 32 := v39
  let v42 : Index := Scalar.indexCast v40
  let c0_30 : Index := 0#32
  ![0, v42.toNat, 0]
def k0_off2 (i : grid0.Coords) : Fin 3 → Nat :=
  let c0_48 : Index := 0#32
  let arg1 : BitVec 32 := BitVec.ofNat 32 (i 1).val
  let c256_i32 : BitVec 32 := 256#32
  let v39 : BitVec 32 := Scalar.muli arg1 c256_i32
  let v40 : BitVec 32 := v39
  let v60 : Index := Scalar.indexCast v40
  let c128 : Index := 128#32
  ![0, v60.toNat, 128]
def k0_off3 (i : grid0.Coords) : Fin 3 → Nat :=
  let c0_65 : Index := 0#32
  let arg1 : BitVec 32 := BitVec.ofNat 32 (i 1).val
  let c256_i32 : BitVec 32 := 256#32
  let v39 : BitVec 32 := Scalar.muli arg1 c256_i32
  let v40 : BitVec 32 := v39
  let v78 : Index := Scalar.indexCast v40
  let c256 : Index := 256#32
  ![0, v78.toNat, 256]
def k0_off4 (i : grid0.Coords) : Fin 3 → Nat :=
  let c0_82 : Index := 0#32
  let arg1 : BitVec 32 := BitVec.ofNat 32 (i 1).val
  let c256_i32 : BitVec 32 := 256#32
  let v39 : BitVec 32 := Scalar.muli arg1 c256_i32
  let v40 : BitVec 32 := v39
  let v96 : Index := Scalar.indexCast v40
  let c384 : Index := 384#32
  ![0, v96.toNat, 384]
def k0_off5 (i : grid0.Coords) : Fin 4 → Nat :=
  let c0_264 : Index := 0#32
  let arg1 : BitVec 32 := BitVec.ofNat 32 (i 1).val
  let v402 : Index := Scalar.indexCast arg1
  let c0_265 : Index := 0#32
  let c0_266 : Index := 0#32
  ![0, v402.toNat, 0, 0]
def k0_off6 (i : grid0.Coords) : Fin 4 → Nat :=
  let c0_276 : Index := 0#32
  let arg1 : BitVec 32 := BitVec.ofNat 32 (i 1).val
  let v420 : Index := Scalar.indexCast arg1
  let c64 : Index := 64#32
  let c0_277 : Index := 0#32
  ![0, v420.toNat, 64, 0]
def k0_off7 (i : grid0.Coords) : Fin 4 → Nat :=
  let c0_287 : Index := 0#32
  let arg1 : BitVec 32 := BitVec.ofNat 32 (i 1).val
  let v438 : Index := Scalar.indexCast arg1
  let c128_288 : Index := 128#32
  let c0_289 : Index := 0#32
  ![0, v438.toNat, 128, 0]
def k0_off8 (i : grid0.Coords) : Fin 4 → Nat :=
  let c0_299 : Index := 0#32
  let arg1 : BitVec 32 := BitVec.ofNat 32 (i 1).val
  let v456 : Index := Scalar.indexCast arg1
  let c192 : Index := 192#32
  let c0_300 : Index := 0#32
  ![0, v456.toNat, 192, 0]
def k0_off9 (i : grid0.Coords) : Fin 4 → Nat :=
  let c0_310 : Index := 0#32
  let arg1 : BitVec 32 := BitVec.ofNat 32 (i 1).val
  let v474 : Index := Scalar.indexCast arg1
  let c256_311 : Index := 256#32
  let c0_312 : Index := 0#32
  ![0, v474.toNat, 256, 0]
def k0_off10 (i : grid0.Coords) : Fin 4 → Nat :=
  let c0_322 : Index := 0#32
  let arg1 : BitVec 32 := BitVec.ofNat 32 (i 1).val
  let v492 : Index := Scalar.indexCast arg1
  let c320 : Index := 320#32
  let c0_323 : Index := 0#32
  ![0, v492.toNat, 320, 0]
def k0_off11 (i : grid0.Coords) : Fin 4 → Nat :=
  let c0_333 : Index := 0#32
  let arg1 : BitVec 32 := BitVec.ofNat 32 (i 1).val
  let v510 : Index := Scalar.indexCast arg1
  let c384_334 : Index := 384#32
  let c0_335 : Index := 0#32
  ![0, v510.toNat, 384, 0]
def k0_off12 (i : grid0.Coords) : Fin 4 → Nat :=
  let c0_345 : Index := 0#32
  let arg1 : BitVec 32 := BitVec.ofNat 32 (i 1).val
  let v528 : Index := Scalar.indexCast arg1
  let c448 : Index := 448#32
  let c0_346 : Index := 0#32
  ![0, v528.toNat, 448, 0]
def k0_cond2 (i : grid0.Coords) : BitVec 1 :=
  let arg1 : BitVec 32 := BitVec.ofNat 32 (i 1).val
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .ne v14 c0_i32_7
  v15

def k0_mult2 (i : grid0.Coords) : BitVec 32 :=
  let arg1 : BitVec 32 := BitVec.ofNat 32 (i 1).val
  let c256_i32 : BitVec 32 := 256#32
  let v39 : BitVec 32 := Scalar.muli arg1 c256_i32
  v39
def k0_off13 (i : grid0.Coords) : Fin 3 → Nat :=
  let c0_29 : Index := 0#32
  let arg1 : BitVec 32 := BitVec.ofNat 32 (i 1).val
  let c256_i32 : BitVec 32 := 256#32
  let v39 : BitVec 32 := Scalar.muli arg1 c256_i32
  let v40 : BitVec 32 := v39
  let v42 : Index := Scalar.indexCast v40
  let c0_30 : Index := 0#32
  ![0, v42.toNat, 0]
def k0_off14 (i : grid0.Coords) : Fin 3 → Nat :=
  let c0_48 : Index := 0#32
  let arg1 : BitVec 32 := BitVec.ofNat 32 (i 1).val
  let c256_i32 : BitVec 32 := 256#32
  let v39 : BitVec 32 := Scalar.muli arg1 c256_i32
  let v40 : BitVec 32 := v39
  let v60 : Index := Scalar.indexCast v40
  let c128 : Index := 128#32
  ![0, v60.toNat, 128]
def k0_off15 (i : grid0.Coords) : Fin 3 → Nat :=
  let c0_65 : Index := 0#32
  let arg1 : BitVec 32 := BitVec.ofNat 32 (i 1).val
  let c256_i32 : BitVec 32 := 256#32
  let v39 : BitVec 32 := Scalar.muli arg1 c256_i32
  let v40 : BitVec 32 := v39
  let v78 : Index := Scalar.indexCast v40
  let c256 : Index := 256#32
  ![0, v78.toNat, 256]
def k0_off16 (i : grid0.Coords) : Fin 3 → Nat :=
  let c0_82 : Index := 0#32
  let arg1 : BitVec 32 := BitVec.ofNat 32 (i 1).val
  let c256_i32 : BitVec 32 := 256#32
  let v39 : BitVec 32 := Scalar.muli arg1 c256_i32
  let v40 : BitVec 32 := v39
  let v96 : Index := Scalar.indexCast v40
  let c384 : Index := 384#32
  ![0, v96.toNat, 384]
def k0_off17 (i : grid0.Coords) : Fin 4 → Nat :=
  let c0_263 : Index := 0#32
  let arg1 : BitVec 32 := BitVec.ofNat 32 (i 1).val
  let v391 : Index := Scalar.indexCast arg1
  let c0_264 : Index := 0#32
  let c0_265 : Index := 0#32
  ![0, v391.toNat, 0, 0]
def k0_off18 (i : grid0.Coords) : Fin 4 → Nat :=
  let c0_275 : Index := 0#32
  let arg1 : BitVec 32 := BitVec.ofNat 32 (i 1).val
  let v409 : Index := Scalar.indexCast arg1
  let c64 : Index := 64#32
  let c0_276 : Index := 0#32
  ![0, v409.toNat, 64, 0]
def k0_off19 (i : grid0.Coords) : Fin 4 → Nat :=
  let c0_286 : Index := 0#32
  let arg1 : BitVec 32 := BitVec.ofNat 32 (i 1).val
  let v427 : Index := Scalar.indexCast arg1
  let c128_287 : Index := 128#32
  let c0_288 : Index := 0#32
  ![0, v427.toNat, 128, 0]
def k0_off20 (i : grid0.Coords) : Fin 4 → Nat :=
  let c0_298 : Index := 0#32
  let arg1 : BitVec 32 := BitVec.ofNat 32 (i 1).val
  let v445 : Index := Scalar.indexCast arg1
  let c192 : Index := 192#32
  let c0_299 : Index := 0#32
  ![0, v445.toNat, 192, 0]
def k0_off21 (i : grid0.Coords) : Fin 4 → Nat :=
  let c0_309 : Index := 0#32
  let arg1 : BitVec 32 := BitVec.ofNat 32 (i 1).val
  let v463 : Index := Scalar.indexCast arg1
  let c256_310 : Index := 256#32
  let c0_311 : Index := 0#32
  ![0, v463.toNat, 256, 0]
def k0_off22 (i : grid0.Coords) : Fin 4 → Nat :=
  let c0_321 : Index := 0#32
  let arg1 : BitVec 32 := BitVec.ofNat 32 (i 1).val
  let v481 : Index := Scalar.indexCast arg1
  let c320 : Index := 320#32
  let c0_322 : Index := 0#32
  ![0, v481.toNat, 320, 0]
def k0_off23 (i : grid0.Coords) : Fin 4 → Nat :=
  let c0_332 : Index := 0#32
  let arg1 : BitVec 32 := BitVec.ofNat 32 (i 1).val
  let v499 : Index := Scalar.indexCast arg1
  let c384_333 : Index := 384#32
  let c0_334 : Index := 0#32
  ![0, v499.toNat, 384, 0]
def k0_off24 (i : grid0.Coords) : Fin 4 → Nat :=
  let c0_344 : Index := 0#32
  let arg1 : BitVec 32 := BitVec.ofNat 32 (i 1).val
  let v517 : Index := Scalar.indexCast arg1
  let c448 : Index := 448#32
  let c0_345 : Index := 0#32
  ![0, v517.toNat, 448, 0]
def k0_mult3 (i : grid0.Coords) : BitVec 32 :=
  let arg1 : BitVec 32 := BitVec.ofNat 32 (i 1).val
  let c1_i32 : BitVec 32 := 1#32
  let v530 : BitVec 32 := Scalar.subi arg1 c1_i32
  let c256_i32_351 : BitVec 32 := 256#32
  let v531 : BitVec 32 := Scalar.muli v530 c256_i32_351
  v531
def k0_off25 (i : grid0.Coords) : Fin 3 → Nat :=
  let c0_352 : Index := 0#32
  let arg1 : BitVec 32 := BitVec.ofNat 32 (i 1).val
  let c1_i32 : BitVec 32 := 1#32
  let v530 : BitVec 32 := Scalar.subi arg1 c1_i32
  let c256_i32_351 : BitVec 32 := 256#32
  let v531 : BitVec 32 := Scalar.muli v530 c256_i32_351
  let v532 : BitVec 32 := v531
  let v533 : Index := Scalar.indexCast v532
  let c0_353 : Index := 0#32
  ![0, v533.toNat, 0]
def k0_off26 (i : grid0.Coords) : Fin 3 → Nat :=
  let c0_372 : Index := 0#32
  let arg1 : BitVec 32 := BitVec.ofNat 32 (i 1).val
  let c1_i32 : BitVec 32 := 1#32
  let v530 : BitVec 32 := Scalar.subi arg1 c1_i32
  let c256_i32_351 : BitVec 32 := 256#32
  let v531 : BitVec 32 := Scalar.muli v530 c256_i32_351
  let v532 : BitVec 32 := v531
  let v551 : Index := Scalar.indexCast v532
  let c128_373 : Index := 128#32
  ![0, v551.toNat, 128]
def k0_off27 (i : grid0.Coords) : Fin 3 → Nat :=
  let c0_392 : Index := 0#32
  let arg1 : BitVec 32 := BitVec.ofNat 32 (i 1).val
  let c1_i32 : BitVec 32 := 1#32
  let v530 : BitVec 32 := Scalar.subi arg1 c1_i32
  let c256_i32_351 : BitVec 32 := 256#32
  let v531 : BitVec 32 := Scalar.muli v530 c256_i32_351
  let v532 : BitVec 32 := v531
  let v569 : Index := Scalar.indexCast v532
  let c256_393 : Index := 256#32
  ![0, v569.toNat, 256]
def k0_off28 (i : grid0.Coords) : Fin 3 → Nat :=
  let c0_412 : Index := 0#32
  let arg1 : BitVec 32 := BitVec.ofNat 32 (i 1).val
  let c1_i32 : BitVec 32 := 1#32
  let v530 : BitVec 32 := Scalar.subi arg1 c1_i32
  let c256_i32_351 : BitVec 32 := 256#32
  let v531 : BitVec 32 := Scalar.muli v530 c256_i32_351
  let v532 : BitVec 32 := v531
  let v587 : Index := Scalar.indexCast v532
  let c384_413 : Index := 384#32
  ![0, v587.toNat, 384]
def k0_off29 (i : grid0.Coords) : Fin 4 → Nat :=
  let c0_588 : Index := 0#32
  let arg1 : BitVec 32 := BitVec.ofNat 32 (i 1).val
  let c1_i32 : BitVec 32 := 1#32
  let v530 : BitVec 32 := Scalar.subi arg1 c1_i32
  let v875 : Index := Scalar.indexCast v530
  let c0_589 : Index := 0#32
  let c0_590 : Index := 0#32
  ![0, v875.toNat, 0, 0]
def k0_off30 (i : grid0.Coords) : Fin 4 → Nat :=
  let c0_599 : Index := 0#32
  let arg1 : BitVec 32 := BitVec.ofNat 32 (i 1).val
  let c1_i32 : BitVec 32 := 1#32
  let v530 : BitVec 32 := Scalar.subi arg1 c1_i32
  let v891 : Index := Scalar.indexCast v530
  let c64_600 : Index := 64#32
  let c0_601 : Index := 0#32
  ![0, v891.toNat, 64, 0]
def k0_off31 (i : grid0.Coords) : Fin 4 → Nat :=
  let c0_610 : Index := 0#32
  let arg1 : BitVec 32 := BitVec.ofNat 32 (i 1).val
  let c1_i32 : BitVec 32 := 1#32
  let v530 : BitVec 32 := Scalar.subi arg1 c1_i32
  let v907 : Index := Scalar.indexCast v530
  let c128_611 : Index := 128#32
  let c0_612 : Index := 0#32
  ![0, v907.toNat, 128, 0]
def k0_off32 (i : grid0.Coords) : Fin 4 → Nat :=
  let c0_621 : Index := 0#32
  let arg1 : BitVec 32 := BitVec.ofNat 32 (i 1).val
  let c1_i32 : BitVec 32 := 1#32
  let v530 : BitVec 32 := Scalar.subi arg1 c1_i32
  let v923 : Index := Scalar.indexCast v530
  let c192_622 : Index := 192#32
  let c0_623 : Index := 0#32
  ![0, v923.toNat, 192, 0]
def k0_off33 (i : grid0.Coords) : Fin 4 → Nat :=
  let c0_632 : Index := 0#32
  let arg1 : BitVec 32 := BitVec.ofNat 32 (i 1).val
  let c1_i32 : BitVec 32 := 1#32
  let v530 : BitVec 32 := Scalar.subi arg1 c1_i32
  let v939 : Index := Scalar.indexCast v530
  let c256_633 : Index := 256#32
  let c0_634 : Index := 0#32
  ![0, v939.toNat, 256, 0]
def k0_off34 (i : grid0.Coords) : Fin 4 → Nat :=
  let c0_643 : Index := 0#32
  let arg1 : BitVec 32 := BitVec.ofNat 32 (i 1).val
  let c1_i32 : BitVec 32 := 1#32
  let v530 : BitVec 32 := Scalar.subi arg1 c1_i32
  let v955 : Index := Scalar.indexCast v530
  let c320_644 : Index := 320#32
  let c0_645 : Index := 0#32
  ![0, v955.toNat, 320, 0]
def k0_off35 (i : grid0.Coords) : Fin 4 → Nat :=
  let c0_654 : Index := 0#32
  let arg1 : BitVec 32 := BitVec.ofNat 32 (i 1).val
  let c1_i32 : BitVec 32 := 1#32
  let v530 : BitVec 32 := Scalar.subi arg1 c1_i32
  let v971 : Index := Scalar.indexCast v530
  let c384_655 : Index := 384#32
  let c0_656 : Index := 0#32
  ![0, v971.toNat, 384, 0]
def k0_off36 (i : grid0.Coords) : Fin 4 → Nat :=
  let c0_665 : Index := 0#32
  let arg1 : BitVec 32 := BitVec.ofNat 32 (i 1).val
  let c1_i32 : BitVec 32 := 1#32
  let v530 : BitVec 32 := Scalar.subi arg1 c1_i32
  let v987 : Index := Scalar.indexCast v530
  let c448_666 : Index := 448#32
  let c0_667 : Index := 0#32
  ![0, v987.toNat, 448, 0]
def k0_mult4 (i : grid0.Coords) (arg17 : BitVec 32) : BitVec 32 :=
  let arg1 : BitVec 32 := BitVec.ofNat 32 (i 1).val
  let v40 : BitVec 32 := Scalar.subi arg1 arg17
  let c256_i32 : BitVec 32 := 256#32
  let v41 : BitVec 32 := Scalar.muli v40 c256_i32
  v41

def k0_off37 (i : grid0.Coords) (arg17 : BitVec 32) : Fin 3 → Nat :=
  let c0_29 : Index := 0#32
  let arg1 : BitVec 32 := BitVec.ofNat 32 (i 1).val
  let v40 : BitVec 32 := Scalar.subi arg1 arg17
  let c256_i32 : BitVec 32 := 256#32
  let v41 : BitVec 32 := Scalar.muli v40 c256_i32
  let v42 : BitVec 32 := v41
  let v44 : Index := Scalar.indexCast v42
  let c0_30 : Index := 0#32
  ![0, v44.toNat, 0]
def k0_off38 (i : grid0.Coords) (arg17 : BitVec 32) : Fin 3 → Nat :=
  let c0_48 : Index := 0#32
  let arg1 : BitVec 32 := BitVec.ofNat 32 (i 1).val
  let v40 : BitVec 32 := Scalar.subi arg1 arg17
  let c256_i32 : BitVec 32 := 256#32
  let v41 : BitVec 32 := Scalar.muli v40 c256_i32
  let v42 : BitVec 32 := v41
  let v62 : Index := Scalar.indexCast v42
  let c128 : Index := 128#32
  ![0, v62.toNat, 128]
def k0_off39 (i : grid0.Coords) (arg17 : BitVec 32) : Fin 3 → Nat :=
  let c0_65 : Index := 0#32
  let arg1 : BitVec 32 := BitVec.ofNat 32 (i 1).val
  let v40 : BitVec 32 := Scalar.subi arg1 arg17
  let c256_i32 : BitVec 32 := 256#32
  let v41 : BitVec 32 := Scalar.muli v40 c256_i32
  let v42 : BitVec 32 := v41
  let v80 : Index := Scalar.indexCast v42
  let c256 : Index := 256#32
  ![0, v80.toNat, 256]
def k0_off40 (i : grid0.Coords) (arg17 : BitVec 32) : Fin 3 → Nat :=
  let c0_82 : Index := 0#32
  let arg1 : BitVec 32 := BitVec.ofNat 32 (i 1).val
  let v40 : BitVec 32 := Scalar.subi arg1 arg17
  let c256_i32 : BitVec 32 := 256#32
  let v41 : BitVec 32 := Scalar.muli v40 c256_i32
  let v42 : BitVec 32 := v41
  let v98 : Index := Scalar.indexCast v42
  let c384 : Index := 384#32
  ![0, v98.toNat, 384]
def k0_off41 (i : grid0.Coords) (arg17 : BitVec 32) : Fin 4 → Nat :=
  let c0_255 : Index := 0#32
  let arg1 : BitVec 32 := BitVec.ofNat 32 (i 1).val
  let v40 : BitVec 32 := Scalar.subi arg1 arg17
  let v386 : Index := Scalar.indexCast v40
  let c0_256 : Index := 0#32
  let c0_257 : Index := 0#32
  ![0, v386.toNat, 0, 0]
def k0_off42 (i : grid0.Coords) (arg17 : BitVec 32) : Fin 4 → Nat :=
  let c0_266 : Index := 0#32
  let arg1 : BitVec 32 := BitVec.ofNat 32 (i 1).val
  let v40 : BitVec 32 := Scalar.subi arg1 arg17
  let v402 : Index := Scalar.indexCast v40
  let c64 : Index := 64#32
  let c0_267 : Index := 0#32
  ![0, v402.toNat, 64, 0]
def k0_off43 (i : grid0.Coords) (arg17 : BitVec 32) : Fin 4 → Nat :=
  let c0_276 : Index := 0#32
  let arg1 : BitVec 32 := BitVec.ofNat 32 (i 1).val
  let v40 : BitVec 32 := Scalar.subi arg1 arg17
  let v418 : Index := Scalar.indexCast v40
  let c128_277 : Index := 128#32
  let c0_278 : Index := 0#32
  ![0, v418.toNat, 128, 0]
def k0_off44 (i : grid0.Coords) (arg17 : BitVec 32) : Fin 4 → Nat :=
  let c0_287 : Index := 0#32
  let arg1 : BitVec 32 := BitVec.ofNat 32 (i 1).val
  let v40 : BitVec 32 := Scalar.subi arg1 arg17
  let v434 : Index := Scalar.indexCast v40
  let c192 : Index := 192#32
  let c0_288 : Index := 0#32
  ![0, v434.toNat, 192, 0]
def k0_off45 (i : grid0.Coords) (arg17 : BitVec 32) : Fin 4 → Nat :=
  let c0_297 : Index := 0#32
  let arg1 : BitVec 32 := BitVec.ofNat 32 (i 1).val
  let v40 : BitVec 32 := Scalar.subi arg1 arg17
  let v450 : Index := Scalar.indexCast v40
  let c256_298 : Index := 256#32
  let c0_299 : Index := 0#32
  ![0, v450.toNat, 256, 0]
def k0_off46 (i : grid0.Coords) (arg17 : BitVec 32) : Fin 4 → Nat :=
  let c0_308 : Index := 0#32
  let arg1 : BitVec 32 := BitVec.ofNat 32 (i 1).val
  let v40 : BitVec 32 := Scalar.subi arg1 arg17
  let v466 : Index := Scalar.indexCast v40
  let c320 : Index := 320#32
  let c0_309 : Index := 0#32
  ![0, v466.toNat, 320, 0]
def k0_off47 (i : grid0.Coords) (arg17 : BitVec 32) : Fin 4 → Nat :=
  let c0_318 : Index := 0#32
  let arg1 : BitVec 32 := BitVec.ofNat 32 (i 1).val
  let v40 : BitVec 32 := Scalar.subi arg1 arg17
  let v482 : Index := Scalar.indexCast v40
  let c384_319 : Index := 384#32
  let c0_320 : Index := 0#32
  ![0, v482.toNat, 384, 0]
def k0_off48 (i : grid0.Coords) (arg17 : BitVec 32) : Fin 4 → Nat :=
  let c0_329 : Index := 0#32
  let arg1 : BitVec 32 := BitVec.ofNat 32 (i 1).val
  let v40 : BitVec 32 := Scalar.subi arg1 arg17
  let v498 : Index := Scalar.indexCast v40
  let c448 : Index := 448#32
  let c0_330 : Index := 0#32
  ![0, v498.toNat, 448, 0]

def k0_chk1 (i : grid0.Coords) (arg17 : BitVec 32) : Prop :=
  (256 ∣ (k0_mult4 i arg17).toNat) ∧
  (∀ a, (k0_off37 i arg17) a + S1x256x128.size a ≤ S1x2048x512.size a) ∧
  (∀ a, (k0_off38 i arg17) a + S1x256x128.size a ≤ S1x2048x512.size a) ∧
  (∀ a, (k0_off39 i arg17) a + S1x256x128.size a ≤ S1x2048x512.size a) ∧
  (∀ a, (k0_off40 i arg17) a + S1x256x128.size a ≤ S1x2048x512.size a) ∧
  (∀ a, (k0_off41 i arg17) a + S1x1x64x256.size a ≤ S1x8x512x256.size a) ∧
  (∀ a, (k0_off42 i arg17) a + S1x1x64x256.size a ≤ S1x8x512x256.size a) ∧
  (∀ a, (k0_off43 i arg17) a + S1x1x64x256.size a ≤ S1x8x512x256.size a) ∧
  (∀ a, (k0_off44 i arg17) a + S1x1x64x256.size a ≤ S1x8x512x256.size a) ∧
  (∀ a, (k0_off45 i arg17) a + S1x1x64x256.size a ≤ S1x8x512x256.size a) ∧
  (∀ a, (k0_off46 i arg17) a + S1x1x64x256.size a ≤ S1x8x512x256.size a) ∧
  (∀ a, (k0_off47 i arg17) a + S1x1x64x256.size a ≤ S1x8x512x256.size a) ∧
  (∀ a, (k0_off48 i arg17) a + S1x1x64x256.size a ≤ S1x8x512x256.size a)
theorem k0_mult4_dvd : ∀ (i : grid0.Coords) (arg17 : BitVec 32) (k0_hw1 : k0_chk1 i arg17), 256 ∣ (k0_mult4 i arg17).toNat := fun i arg17 k0_hw1 => k0_hw1.1
theorem k0_off37_inb : ∀ (i : grid0.Coords) (arg17 : BitVec 32) (k0_hw1 : k0_chk1 i arg17), ∀ a, (k0_off37 i arg17) a + S1x256x128.size a ≤ S1x2048x512.size a := fun i arg17 k0_hw1 => k0_hw1.2.1
theorem k0_off38_inb : ∀ (i : grid0.Coords) (arg17 : BitVec 32) (k0_hw1 : k0_chk1 i arg17), ∀ a, (k0_off38 i arg17) a + S1x256x128.size a ≤ S1x2048x512.size a := fun i arg17 k0_hw1 => k0_hw1.2.2.1
theorem k0_off39_inb : ∀ (i : grid0.Coords) (arg17 : BitVec 32) (k0_hw1 : k0_chk1 i arg17), ∀ a, (k0_off39 i arg17) a + S1x256x128.size a ≤ S1x2048x512.size a := fun i arg17 k0_hw1 => k0_hw1.2.2.2.1
theorem k0_off40_inb : ∀ (i : grid0.Coords) (arg17 : BitVec 32) (k0_hw1 : k0_chk1 i arg17), ∀ a, (k0_off40 i arg17) a + S1x256x128.size a ≤ S1x2048x512.size a := fun i arg17 k0_hw1 => k0_hw1.2.2.2.2.1
theorem k0_off41_inb : ∀ (i : grid0.Coords) (arg17 : BitVec 32) (k0_hw1 : k0_chk1 i arg17), ∀ a, (k0_off41 i arg17) a + S1x1x64x256.size a ≤ S1x8x512x256.size a := fun i arg17 k0_hw1 => k0_hw1.2.2.2.2.2.1
theorem k0_off42_inb : ∀ (i : grid0.Coords) (arg17 : BitVec 32) (k0_hw1 : k0_chk1 i arg17), ∀ a, (k0_off42 i arg17) a + S1x1x64x256.size a ≤ S1x8x512x256.size a := fun i arg17 k0_hw1 => k0_hw1.2.2.2.2.2.2.1
theorem k0_off43_inb : ∀ (i : grid0.Coords) (arg17 : BitVec 32) (k0_hw1 : k0_chk1 i arg17), ∀ a, (k0_off43 i arg17) a + S1x1x64x256.size a ≤ S1x8x512x256.size a := fun i arg17 k0_hw1 => k0_hw1.2.2.2.2.2.2.2.1
theorem k0_off44_inb : ∀ (i : grid0.Coords) (arg17 : BitVec 32) (k0_hw1 : k0_chk1 i arg17), ∀ a, (k0_off44 i arg17) a + S1x1x64x256.size a ≤ S1x8x512x256.size a := fun i arg17 k0_hw1 => k0_hw1.2.2.2.2.2.2.2.2.1
theorem k0_off45_inb : ∀ (i : grid0.Coords) (arg17 : BitVec 32) (k0_hw1 : k0_chk1 i arg17), ∀ a, (k0_off45 i arg17) a + S1x1x64x256.size a ≤ S1x8x512x256.size a := fun i arg17 k0_hw1 => k0_hw1.2.2.2.2.2.2.2.2.2.1
theorem k0_off46_inb : ∀ (i : grid0.Coords) (arg17 : BitVec 32) (k0_hw1 : k0_chk1 i arg17), ∀ a, (k0_off46 i arg17) a + S1x1x64x256.size a ≤ S1x8x512x256.size a := fun i arg17 k0_hw1 => k0_hw1.2.2.2.2.2.2.2.2.2.2.1
theorem k0_off47_inb : ∀ (i : grid0.Coords) (arg17 : BitVec 32) (k0_hw1 : k0_chk1 i arg17), ∀ a, (k0_off47 i arg17) a + S1x1x64x256.size a ≤ S1x8x512x256.size a := fun i arg17 k0_hw1 => k0_hw1.2.2.2.2.2.2.2.2.2.2.2.1
theorem k0_off48_inb : ∀ (i : grid0.Coords) (arg17 : BitVec 32) (k0_hw1 : k0_chk1 i arg17), ∀ a, (k0_off48 i arg17) a + S1x1x64x256.size a ≤ S1x8x512x256.size a := fun i arg17 k0_hw1 => k0_hw1.2.2.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_ln2" => some (((Real.log 2)⁻¹ : ℝ) : EReal)
  | "underflow" => some ⊥
  | _ => none
-- ==== ReferenceIdeal.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x8x64 : Shape := ⟨4, ![8, 2048, 8, 64]⟩
abbrev S8x8x2048x2048 : Shape := ⟨4, ![8, 8, 2048, 2048]⟩
abbrev S_ : Shape := ⟨0, ![]⟩
abbrev S8x8x64x2048 : Shape := ⟨4, ![8, 8, 64, 2048]⟩
abbrev S1024x1024 : Shape := ⟨2, ![1024, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S1x1024x1024, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S8x2048x8x64, .f32⟩
  | .hbm, ⟨14, _⟩ => ⟨S8x2048x8x64, .f32⟩
  | .hbm, ⟨15, _⟩ => ⟨S8x2048x8x64, .f32⟩
  | .hbm, ⟨16, _⟩ => ⟨S8x8x2048x2048, .f32⟩
  | .hbm, ⟨17, _⟩ => ⟨S_, .f32⟩
  | .hbm, ⟨18, _⟩ => ⟨S8x8x2048x2048, .f32⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048x2048, .f32⟩
  | .hbm, ⟨23, _⟩ => ⟨S8x8x2048x2048, .f32⟩
  | .hbm, ⟨24, _⟩ => ⟨S8x8x2048x2048, .f32⟩
  | .hbm, ⟨25, _⟩ => ⟨S8x8x2048x2048, .f32⟩
  | .hbm, ⟨26, _⟩ => ⟨S8x8x2048x2048, .i1⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048x2048, .f32⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .i1⟩
  | .hbm, ⟨44, _⟩ => ⟨S8x8x2048x2048, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S_, .f32⟩
  | .hbm, ⟨54, _⟩ => ⟨S_, .f32⟩
  | .hbm, ⟨55, _⟩ => ⟨S8x8x2048x2048, .i1⟩
  | .hbm, ⟨56, _⟩ => ⟨S8x8x2048x2048, .f32⟩
  | .hbm, ⟨57, _⟩ => ⟨S8x8x2048x2048, .f32⟩
  | .hbm, ⟨58, _⟩ => ⟨S_, .f32⟩
  | .hbm, ⟨59, _⟩ => ⟨S_, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S_, .f32⟩
  | .hbm, ⟨65, _⟩ => ⟨S_, .f32⟩
  | .hbm, ⟨66, _⟩ => ⟨S8x8x2048x2048, .i1⟩
  | .hbm, ⟨67, _⟩ => ⟨S8x8x2048x2048, .f32⟩
  | .hbm, ⟨68, _⟩ => ⟨S8x8x2048x2048, .f32⟩
  | .hbm, ⟨69, _⟩ => ⟨S8x8x64x2048, .f32⟩
  | .hbm, ⟨70, _⟩ => ⟨S8x2048x8x64, .f32⟩
  | .hbm, ⟨71, _⟩ => ⟨S8x2048x512, .f32⟩
  | .hbm, ⟨72, _⟩ => ⟨S8x2048x512, .f32⟩
  | .hbm, ⟨73, _⟩ => ⟨S8x2048x512, .f32⟩
  | .hbm, ⟨74, _⟩ => ⟨S_, .f32⟩
  | .hbm, ⟨75, _⟩ => ⟨S8x2048x512, .f32⟩
  | .hbm, ⟨76, _⟩ => ⟨S8x2048x512, .f32⟩
  | .hbm, ⟨77, _⟩ => ⟨S_, .f32⟩
  | .hbm, ⟨78, _⟩ => ⟨S8x2048x512, .f32⟩
  | .hbm, ⟨79, _⟩ => ⟨S8x2048x512, .f32⟩
  | .hbm, ⟨80, _⟩ => ⟨S8x2048x512, .f32⟩
  | .hbm, ⟨81, _⟩ => ⟨S8x2048x512, .f32⟩
  | .hbm, ⟨82, _⟩ => ⟨S8x2048x1024, .f32⟩
  | .hbm, ⟨83, _⟩ => ⟨S1024x1024, .f32⟩
  | .hbm, ⟨84, _⟩ => ⟨S8x2048x1024, .f32⟩
  | .hbm, ⟨85, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v12 : Ref sig .tc := ⟨.hbm, 35, rfl⟩
abbrev main_v13 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v14 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v15 : Ref sig .tc := ⟨.hbm, 57, rfl⟩
abbrev main_call3_cst : Ref sig .tc := ⟨.hbm, 58, rfl⟩
abbrev main_call3_v0 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x5200 : Shape := ⟨3, ![1, 1024, 5200]⟩
abbrev S1x64 : Shape := ⟨2, ![1, 64]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S1024x5200 : Shape := ⟨2, ![1024, 5200]⟩
abbrev S1024x3136 : Shape := ⟨2, ![1024, 3136]⟩
abbrev S1024x64 : Shape := ⟨2, ![1024, 64]⟩
abbrev S1024x16 : Shape := ⟨2, ![1024, 16]⟩
abbrev S1024x112 : Shape := ⟨2, ![1024, 112]⟩
abbrev S1024x2048 : Shape := ⟨2, ![1024, 2048]⟩
abbrev S1024x5376 : Shape := ⟨2, ![1024, 5376]⟩
abbrev S64 : Shape := ⟨1, ![64]⟩
abbrev S8x64 : Shape := ⟨2, ![8, 64]⟩
abbrev S512 : Shape := ⟨1, ![512]⟩
abbrev S1x512 : Shape := ⟨2, ![1, 512]⟩
abbrev S1024 : Shape := ⟨1, ![1024]⟩
abbrev S8x8x128x2048 : Shape := ⟨4, ![8, 8, 128, 2048]⟩
abbrev S8x2048x512 : Shape := ⟨3, ![8, 2048, 512]⟩
abbrev S8x8x512x256 : Shape := ⟨4, ![8, 8, 512, 256]⟩
abbrev S8x16x128x2048 : Shape := ⟨4, ![8, 16, 128, 2048]⟩
abbrev S8x2048x128 : Shape := ⟨3, ![8, 2048, 128]⟩
abbrev S8x16x2048 : Shape := ⟨3, ![8, 16, 2048]⟩
abbrev S1x512x1024 : Shape := ⟨3, ![1, 512, 1024]⟩
abbrev S1x8x128x512 : Shape := ⟨4, ![1, 8, 128, 512]⟩
abbrev S1x512x512 : Shape := ⟨3, ![1, 512, 512]⟩
abbrev S1x2x512x256 : Shape := ⟨4, ![1, 2, 512, 256]⟩
abbrev S1x16x128x512 : Shape := ⟨4, ![1, 16, 128, 512]⟩
abbrev S1x512x128 : Shape := ⟨3, ![1, 512, 128]⟩
abbrev S1x16x512 : Shape := ⟨3, ![1, 16, 512]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S128x512 : Shape := ⟨2, ![128, 512]⟩
abbrev S1x1x128x512 : Shape := ⟨4, ![1, 1, 128, 512]⟩
abbrev S512x256 : Shape := ⟨2, ![512, 256]⟩
abbrev S1x1x512x256 : Shape := ⟨4, ![1, 1, 512, 256]⟩
abbrev S1024x1024 : Shape := ⟨2, ![1024, 1024]⟩
abbrev S1024x128 : Shape := ⟨2, ![1024, 128]⟩
abbrev S16x512 : Shape := ⟨2, ![16, 512]⟩
abbrev S8x4x2x128x2048 : Shape := ⟨5, ![8, 4, 2, 128, 2048]⟩
abbrev S8x4x1x64x2048 : Shape := ⟨5, ![8, 4, 1, 64, 2048]⟩
abbrev S8x4x64x2048 : Shape := ⟨4, ![8, 4, 64, 2048]⟩
abbrev S8x4x2x64x2048 : Shape := ⟨5, ![8, 4, 2, 64, 2048]⟩
abbrev S8x8x64x2048 : Shape := ⟨4, ![8, 8, 64, 2048]⟩
abbrev S8x2048x8x64 : Shape := ⟨4, ![8, 2048, 8, 64]⟩
abbrev S8x8x256x512 : Shape := ⟨4, ![8, 8, 256, 512]⟩
abbrev S8x8x2x128x2048 : Shape := ⟨5, ![8, 8, 2, 128, 2048]⟩
abbrev S8x8x1x64x2048 : Shape := ⟨5, ![8, 8, 1, 64, 2048]⟩
abbrev S8x8x2x64x2048 : Shape := ⟨5, ![8, 8, 2, 64, 2048]⟩
abbrev S8x16x64x2048 : Shape := ⟨4, ![8, 16, 64, 2048]⟩
abbrev S8x2048x16x64 : Shape := ⟨4, ![8, 2048, 16, 64]⟩
abbrev S8x2048x64 : Shape := ⟨3, ![8, 2048, 64]⟩
abbrev S8x2048x16 : Shape := ⟨3, ![8, 2048, 16]⟩

abbrev nBuf : Space → Nat
  | .hbm => 119
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5200, .f32⟩
  | .hbm, ⟨3, _⟩ => ⟨S1x64, .f32⟩
  | .hbm, ⟨4, _⟩ => ⟨S1x64, .f32⟩
  | .hbm, ⟨5, _⟩ => ⟨S128, .i32⟩
  | .hbm, ⟨6, _⟩ => ⟨S128x1, .i32⟩
  | .hbm, ⟨7, _⟩ => ⟨S_, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i1⟩
  | .hbm, ⟨20, _⟩ => ⟨S128x1, .i1⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x1, .i32⟩
  | .hbm, ⟨25, _⟩ => ⟨S1x128, .i32⟩
  | .hbm, ⟨26, _⟩ => ⟨S_, .i32⟩
  | .hbm, ⟨27, _⟩ => ⟨S_, .i32⟩
  | .hbm, ⟨28, _⟩ => ⟨S1x128, .i32⟩
  | .hbm, ⟨29, _⟩ => ⟨S1x128, .i32⟩
  | .hbm, ⟨30, _⟩ => ⟨S1x128, .i32⟩
  | .hbm, ⟨31, _⟩ => ⟨S_, .i32⟩
  | .hbm, ⟨32, _⟩ => ⟨S1x128, .i32⟩
  | .hbm, ⟨33, _⟩ => ⟨S1x128, .i1⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S1x128, .i1⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S1x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S128x128, .bf16⟩
  | .hbm, ⟨48, _⟩ => ⟨S1024x5200, .f32⟩
  | .hbm, ⟨49, _⟩ => ⟨S1024x3136, .f32⟩
  | .hbm, ⟨50, _⟩ => ⟨S1024x64, .f32⟩
  | .hbm, ⟨51, _⟩ => ⟨S1024x16, .f32⟩
  | .hbm, ⟨52, _⟩ => ⟨S_, .f32⟩
  | .hbm, ⟨53, _⟩ => ⟨S1024x16, .f32⟩
  | .hbm, ⟨54, _⟩ => ⟨S1024x16, .f32⟩
  | .hbm, ⟨55, _⟩ => ⟨S_, .f32⟩
  | .hbm, ⟨56, _⟩ => ⟨S1024x112, .f32⟩
  | .hbm, ⟨57, _⟩ => ⟨S1024x2048, .f32⟩
  | .hbm, ⟨58, _⟩ => ⟨S1024x5376, .f32⟩
  | .hbm, ⟨59, _⟩ => ⟨S1024x5376, .bf16⟩
  | .hbm, ⟨60, _⟩ => ⟨S64, .f32⟩
  | .hbm, ⟨61, _⟩ => ⟨S1x64, .f32⟩
  | .hbm, ⟨62, _⟩ => ⟨S8x64, .f32⟩
  | .hbm, ⟨63, _⟩ => ⟨S512, .f32⟩
  | .hbm, ⟨64, _⟩ => ⟨S1x512, .f32⟩
  | .hbm, ⟨65, _⟩ => ⟨S64, .f32⟩
  | .hbm, ⟨66, _⟩ => ⟨S1x64, .f32⟩
  | .hbm, ⟨67, _⟩ => ⟨S8x64, .f32⟩
  | .hbm, ⟨68, _⟩ => ⟨S512, .f32⟩
  | .hbm, ⟨69, _⟩ => ⟨S1x512, .f32⟩
  | .hbm, ⟨70, _⟩ => ⟨S1024, .f32⟩
  | .hbm, ⟨71, _⟩ => ⟨S1x1024, .f32⟩
  | .hbm, ⟨72, _⟩ => ⟨S8x8x128x2048, .bf16⟩
  | .hbm, ⟨73, _⟩ => ⟨S8x2048x512, .bf16⟩
  | .hbm, ⟨74, _⟩ => ⟨S8x8x512x256, .bf16⟩
  | .hbm, ⟨75, _⟩ => ⟨S8x2048x512, .f32⟩
  | .hbm, ⟨76, _⟩ => ⟨S8x16x128x2048, .bf16⟩
  | .hbm, ⟨77, _⟩ => ⟨S8x2048x128, .bf16⟩
  | .hbm, ⟨78, _⟩ => ⟨S8x16x2048, .f32⟩
  | .hbm, ⟨79, _⟩ => ⟨S8x8x128x2048, .bf16⟩
  | .hbm, ⟨80, _⟩ => ⟨S8x2048x512, .bf16⟩
  | .hbm, ⟨81, _⟩ => ⟨S8x8x512x256, .bf16⟩
  | .hbm, ⟨82, _⟩ => ⟨S8x2048x512, .f32⟩
  | .hbm, ⟨83, _⟩ => ⟨S8x4x2x128x2048, .bf16⟩
  | .hbm, ⟨84, _⟩ => ⟨S8x4x1x64x2048, .bf16⟩
  | .hbm, ⟨85, _⟩ => ⟨S8x4x64x2048, .bf16⟩
  | .hbm, ⟨86, _⟩ => ⟨S8x4x1x64x2048, .bf16⟩
  | .hbm, ⟨87, _⟩ => ⟨S8x4x64x2048, .bf16⟩
  | .hbm, ⟨88, _⟩ => ⟨S8x4x1x64x2048, .bf16⟩
  | .hbm, ⟨89, _⟩ => ⟨S8x4x1x64x2048, .bf16⟩
  | .hbm, ⟨90, _⟩ => ⟨S8x4x2x64x2048, .bf16⟩
  | .hbm, ⟨91, _⟩ => ⟨S8x8x64x2048, .bf16⟩
  | .hbm, ⟨92, _⟩ => ⟨S8x2048x8x64, .bf16⟩
  | .hbm, ⟨93, _⟩ => ⟨S8x8x256x512, .bf16⟩
  | .hbm, ⟨94, _⟩ => ⟨S8x2048x512, .bf16⟩
  | .hbm, ⟨95, _⟩ => ⟨S8x8x2x128x2048, .bf16⟩
  | .hbm, ⟨96, _⟩ => ⟨S8x8x1x64x2048, .bf16⟩
  | .hbm, ⟨97, _⟩ => ⟨S8x8x64x2048, .bf16⟩
  | .hbm, ⟨98, _⟩ => ⟨S8x8x1x64x2048, .bf16⟩
  | .hbm, ⟨99, _⟩ => ⟨S8x8x64x2048, .bf16⟩
  | .hbm, ⟨100, _⟩ => ⟨S8x8x1x64x2048, .bf16⟩
  | .hbm, ⟨101, _⟩ => ⟨S8x8x1x64x2048, .bf16⟩
  | .hbm, ⟨102, _⟩ => ⟨S8x8x2x64x2048, .bf16⟩
  | .hbm, ⟨103, _⟩ => ⟨S8x16x64x2048, .bf16⟩
  | .hbm, ⟨104, _⟩ => ⟨S8x2048x16x64, .bf16⟩
  | .hbm, ⟨105, _⟩ => ⟨S8x2048x64, .bf16⟩
  | .hbm, ⟨106, _⟩ => ⟨S8x2048x16, .f32⟩
  | .hbm, ⟨107, _⟩ => ⟨S8x4x2x128x2048, .bf16⟩
  | .hbm, ⟨108, _⟩ => ⟨S8x4x1x64x2048, .bf16⟩
  | .hbm, ⟨109, _⟩ => ⟨S8x4x64x2048, .bf16⟩
  | .hbm, ⟨110, _⟩ => ⟨S8x4x1x64x2048, .bf16⟩
  | .hbm, ⟨111, _⟩ => ⟨S8x4x64x2048, .bf16⟩
  | .hbm, ⟨112, _⟩ => ⟨S8x4x1x64x2048, .bf16⟩
  | .hbm, ⟨113, _⟩ => ⟨S8x4x1x64x2048, .bf16⟩
  | .hbm, ⟨114, _⟩ => ⟨S8x4x2x64x2048, .bf16⟩
  | .hbm, ⟨115, _⟩ => ⟨S8x8x64x2048, .bf16⟩
  | .hbm, ⟨116, _⟩ => ⟨S8x2048x8x64, .bf16⟩
  | .hbm, ⟨117, _⟩ => ⟨S8x8x256x512, .bf16⟩
  | .hbm, ⟨118, _⟩ => ⟨S8x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5376, .bf16⟩
  | .local _ .vmem, ⟨4, _⟩ => ⟨S1x512, .f32⟩
  | .local _ .vmem, ⟨5, _⟩ => ⟨S1x512, .f32⟩
  | .local _ .vmem, ⟨6, _⟩ => ⟨S128x128, .bf16⟩
  | .local _ .vmem, ⟨7, _⟩ => ⟨S1x8x128x512, .bf16⟩
  | .local _ .vmem, ⟨8, _⟩ => ⟨S1x8x128x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x2x512x256, .bf16⟩
  | .local _ .vmem, ⟨12, _⟩ => ⟨S1x2x512x256, .bf16⟩
  | .local _ .vmem, ⟨13, _⟩ => ⟨S1x512x512, .f32⟩
  | .local _ .vmem, ⟨14, _⟩ => ⟨S1x512x512, .f32⟩
  | .local _ .vmem, ⟨15, _⟩ => ⟨S1x16x128x512, .bf16⟩
  | .local _ .vmem, ⟨16, _⟩ => ⟨S1x16x128x512, .bf16⟩
  | .local _ .vmem, ⟨17, _⟩ => ⟨S1x512x128, .bf16⟩
  | .local _ .vmem, ⟨18, _⟩ => ⟨S1x512x128, .bf16⟩
  | .local _ .vmem, ⟨19, _⟩ => ⟨S1x16x512, .f32⟩
  | .local _ .vmem, ⟨20, _⟩ => ⟨S1x16x512, .f32⟩
  | .local _ .vmem, ⟨21, _⟩ => ⟨S1x8x128x512, .bf16⟩
  | .local _ .vmem, ⟨22, _⟩ => ⟨S1x8x128x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x2x512x256, .bf16⟩
  | .local _ .vmem, ⟨26, _⟩ => ⟨S1x2x512x256, .bf16⟩
  | .local _ .vmem, ⟨27, _⟩ => ⟨S1x512x512, .f32⟩
  | .local _ .vmem, ⟨28, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31_0 : Ref sig .tc := ⟨.hbm, 72, rfl⟩
abbrev main_v31_1 : Ref sig .tc := ⟨.hbm, 73, rfl⟩
abbrev main_v31_2 : Ref sig .tc := ⟨.hbm, 74, rfl⟩
abbrev main_v31_3 : Ref sig .tc := ⟨.hbm, 75, rfl⟩
abbrev main_v31_4 : Ref sig .tc := ⟨.hbm, 76, rfl⟩
abbrev main_v31_5 : Ref sig .tc := ⟨.hbm, 77, rfl⟩
abbrev main_v31_6 : Ref sig .tc := ⟨.hbm, 78, rfl⟩
abbrev main_v31_7 : Ref sig .tc := ⟨.hbm, 79, rfl⟩
abbrev main_v31_8 : Ref sig .tc := ⟨.hbm, 80, rfl⟩
abbrev main_v31_9 : Ref sig .tc := ⟨.hbm, 81, rfl⟩
abbrev main_v31_10 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x2048x1024 : Shape := ⟨3, ![8, 2048, 1024]⟩
abbrev S1x1024 : Shape := ⟨2, ![1, 1024]⟩
abbrev S1x1024x5200 : Shape := ⟨3, ![1, 1024, 5200]⟩
abbrev S1x64 : Shape := ⟨2, ![1, 64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5200 : Shape := ⟨2, ![1024, 5200]⟩
abbrev S8x2048x5200 : Shape := ⟨3, ![8, 2048, 5200]⟩
abbrev S8x2048x512 : Shape := ⟨3, ![8, 2048, 512]⟩
abbrev S8x2048x64 : Shape := ⟨3, ![8, 2048, 64]⟩
abbrev S8x2048x16 : Shape := ⟨3, ![8, 2048, 16]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x16x64 : Shape := ⟨4, ![8, 2048, 16, 64]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5200, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x5200, .f32⟩
  | .hbm, ⟨23, _⟩ => ⟨S8x2048x5200, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x1024, .f32⟩
  | .hbm, ⟨29, _⟩ => ⟨S8x2048x64, .f32⟩
  | .hbm, ⟨30, _⟩ => ⟨S8x2048x16, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S8x2048x8x64, .f32⟩
  | .hbm, ⟨36, _⟩ => ⟨S64, .f32⟩
  | .hbm, ⟨37, _⟩ => ⟨S8x2048x8x64, .f32⟩
  | .hbm, ⟨38, _⟩ => ⟨S_, .f32⟩
  | .hbm, ⟨39, _⟩ => ⟨S8x2048x8, .f32⟩
  | .hbm, ⟨40, _⟩ => ⟨S8x2048x8x1, .f32⟩
  | .hbm, ⟨41, _⟩ => ⟨S_, .f32⟩
  | .hbm, ⟨42, _⟩ => ⟨S8x2048x8x1, .f32⟩
  | .hbm, ⟨43, _⟩ => ⟨S8x2048x8x1, .f32⟩
  | .hbm, ⟨44, _⟩ => ⟨S_, .f32⟩
  | .hbm, ⟨45, _⟩ => ⟨S8x2048x8x1, .f32⟩
  | .hbm, ⟨46, _⟩ => ⟨S8x2048x8x1, .f32⟩
  | .hbm, ⟨47, _⟩ => ⟨S8x2048x8x1, .f32⟩
  | .hbm, ⟨48, _⟩ => ⟨S8x2048x8x64, .f32⟩
  | .hbm, ⟨49, _⟩ => ⟨S8x2048x8x64, .f32⟩
  | .hbm, ⟨50, _⟩ => ⟨S1x1x1x64, .f32⟩
  | .hbm, ⟨51, _⟩ => ⟨S8x2048x8x64, .f32⟩
  | .hbm, ⟨52, _⟩ => ⟨S8x2048x8x64, .f32⟩
  | .hbm, ⟨53, _⟩ => ⟨S8x2048x8x64, .f32⟩
  | .hbm, ⟨54, _⟩ => ⟨S64, .f32⟩
  | .hbm, ⟨55, _⟩ => ⟨S8x2048x8x64, .f32⟩
  | .hbm, ⟨56, _⟩ => ⟨S_, .f32⟩
  | .hbm, ⟨57, _⟩ => ⟨S8x2048x8, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S_, .f32⟩
  | .hbm, ⟨63, _⟩ => ⟨S8x2048x8x1, .f32⟩
  | .hbm, ⟨64, _⟩ => ⟨S8x2048x8x1, .f32⟩
  | .hbm, ⟨65, _⟩ => ⟨S8x2048x8x1, .f32⟩
  | .hbm, ⟨66, _⟩ => ⟨S8x2048x8x64, .f32⟩
  | .hbm, ⟨67, _⟩ => ⟨S8x2048x8x64, .f32⟩
  | .hbm, ⟨68, _⟩ => ⟨S1x1x1x64, .f32⟩
  | .hbm, ⟨69, _⟩ => ⟨S8x2048x8x64, .f32⟩
  | .hbm, ⟨70, _⟩ => ⟨S8x2048x8x64, .f32⟩
  | .hbm, ⟨71, _⟩ => ⟨S_, .f32⟩
  | .hbm, ⟨72, _⟩ => ⟨S8x2048x16, .f32⟩
  | .hbm, ⟨73, _⟩ => ⟨S8x2048x16, .f32⟩
  | .hbm, ⟨74, _⟩ => ⟨S8x2048x8x64, .bf16⟩
  | .hbm, ⟨75, _⟩ => ⟨S8x2048x512, .f32⟩
  | .hbm, ⟨76, _⟩ => ⟨S8x2048x512, .bf16⟩
  | .hbm, ⟨77, _⟩ => ⟨S8x2048x512, .bf16⟩
  | .hbm, ⟨78, _⟩ => ⟨S8x2048x512, .f32⟩
  | .hbm, ⟨79, _⟩ => ⟨S8x2048x512, .f32⟩
  | .hbm, ⟨80, _⟩ => ⟨S_, .f32⟩
  | .hbm, ⟨81, _⟩ => ⟨S8x2048x512, .f32⟩
  | .hbm, ⟨82, _⟩ => ⟨S8x2048x512, .f32⟩
  | .hbm, ⟨83, _⟩ => ⟨S_, .f32⟩
  | .hbm, ⟨84, _⟩ => ⟨S8x2048x512, .f32⟩
  | .hbm, ⟨85, _⟩ => ⟨S8x2048x512, .f32⟩
  | .hbm, ⟨86, _⟩ => ⟨S8x2048x512, .f32⟩
  | .hbm, ⟨87, _⟩ => ⟨S8x2048x16x64, .f32⟩
  | .hbm, ⟨88, _⟩ => ⟨S8x2048x16x64, .bf16⟩
  | .hbm, ⟨89, _⟩ => ⟨S8x2048x64, .bf16⟩
  | .hbm, ⟨90, _⟩ => ⟨S8x2048x8x64, .f32⟩
  | .hbm, ⟨91, _⟩ => ⟨S8x2048x8x64, .bf16⟩
  | .hbm, ⟨92, _⟩ => ⟨S8x2048x512, .bf16⟩
  | .hbm, ⟨93, _⟩ => ⟨S8x2048x512, .bf16⟩
  | .hbm, ⟨94, _⟩ => ⟨S8x2048x512, .f32⟩
  | .hbm, ⟨95, _⟩ => ⟨S8x2048x512, .f32⟩
  | .hbm, ⟨96, _⟩ => ⟨S_, .f32⟩
  | .hbm, ⟨97, _⟩ => ⟨S8x2048x512, .f32⟩
  | .hbm, ⟨98, _⟩ => ⟨S8x2048x512, .f32⟩
  | .hbm, ⟨99, _⟩ => ⟨S_, .f32⟩
  | .hbm, ⟨100, _⟩ => ⟨S8x2048x512, .f32⟩
  | .hbm, ⟨101, _⟩ => ⟨S8x2048x512, .f32⟩
  | .hbm, ⟨102, _⟩ => ⟨S8x2048x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Proof.Blocks.lean ====
module

public import proofs.«01_k».proof.Proof.Gen.KernelIdeal
public import proofs.«01_k».proof.Proof.Gen.KernelIdeal.Skeleton
public import Idealize.ShloMosaic.Lib.Tactic
public import Idealize.ShloMosaic.Lib.Pipeline.Frame
public import Idealize.ShloMosaic.Lib.Pipeline.KitQuiescent
public import Idealize.ShloMosaic.Lib.Pipeline.ReadBack

/-! One block of 256 keys for one head, as a function of the arrays it reads. -/

@[expose] public section

set_option maxRecDepth 16384

noncomputable section

namespace Cert.Proof.PI

open Cert.KernelIdeal Cert.KernelIdeal.Gen

open Idealize.ShloMosaic
open Idealize.ShloMosaic.TcCoe Idealize.ShloMosaic.Tactic

variable {F : FTy → Type} [FloatOps F] [Named F]

/-- The scores of a block of keys against a block of queries, for one head. -/
def zR (K : Vec F S1x256x128 .bf16) (Q : Vec F S1x1x128x256 .bf16) : FVec F S1x256x256 .f32 :=
  shapeCast S1x256x256 (matmul dot_S256x128_S128x256_S256x256_1_0_0_1_n_n none (shapeCast S256x128 K shapeCasts_S1x256x128_S256x128)
    (shapeCast S128x256 Q shapeCasts_S1x1x128x256_S128x256) (constant S256x256 .f32 0x00000000#32)) shapeCasts_S256x256_S1x256x256

/-- The scores as a matrix. -/
def zM (z : FVec F S1x256x256 .f32) : FVec F S256x256 .f32 := shapeCast S256x256 z shapeCasts_S1x256x256_S256x256

/-- The base 2 logarithm of the break probability. -/
def lbU (z : FVec F S1x256x256 .f32) : FVec F S256x256 .f32 :=
  subf (minimumf (zM z) (broadcast S256x256 (Scalar.ofBits .f32 0x00000000#32)))
    (mulf (log (addf (broadcast S256x256 (Scalar.ofBits .f32 0x3F800000#32))
        (exp2 (subf (broadcast S256x256 (Scalar.ofBits .f32 0x00000000#32)) (absf (zM z))))))
      (broadcast S256x256 (Named.named κ "inv_ln2" 0x3FB8AA3B#32)))

/-- The base 2 logarithm of the probability of not breaking. -/
def omU (z : FVec F S1x256x256 .f32) : FVec F S256x256 .f32 := subf (lbU z) (zM z)

/-- The sums over the later keys of the block. -/
def sufR (U : Vec F S256x256 .bf16) (om : FVec F S256x256 .f32) : FVec F S256x256 .f32 :=
  matmul dot_S256x256_S256x256_S256x256_1_0_0_1_n_n none (shapeCast S256x256 U shapeCasts_S256x256_S256x256)
    (truncf .bf16 om bitsLt_bf16_f32) (constant S256x256 .f32 0x00000000#32)

/-- What the block writes to the buffer of logarithms. -/
def lbsR (U : Vec F S256x256 .bf16) (lb om : FVec F S256x256 .f32) : FVec F S1x256x256 .f32 :=
  shapeCast S1x256x256 (addf lb (sufR U om)) shapeCasts_S256x256_S1x256x256

/-- The running sum below the block. -/
def belR (U : Vec F S256x256 .bf16) (om : FVec F S256x256 .f32) (B : Vec F S1x1x256 .f32) : FVec F S1x1x256 .f32 :=
  shapeCast S1x1x256 (addf (addf (shapeCast S1x256 B shapeCasts_S1x1x256_S1x256)
      (extractStridedSlice S1x256 ![0, 0] om slices_S256x256_o0_0_S1x256))
    (extractStridedSlice S1x256 ![0, 0] (sufR U om) slices_S256x256_o0_0_S1x256)) shapeCasts_S1x256_S1x1x256

/-- The accumulated output after the block. -/
def accR (mk : FVec F S256x256 .f32 → FVec F S256x256 .f32) (l : FVec F S1x256x256 .f32) (V : Vec F S1x1x64x256 .bf16)
    (B : Vec F S1x1x256 .f32) (A : Vec F S64x256 .f32) : FVec F S64x256 .f32 :=
  shapeCast S64x256 (addf A (mulf
      (matmul dot_S64x256_S256x256_S64x256_1_0_0_1_n_n none (shapeCast S64x256 V shapeCasts_S1x1x64x256_S64x256)
        (truncf .bf16 (mk (exp2 (zM l))) bitsLt_bf16_f32) (constant S64x256 .f32 0x00000000#32))
      (broadcastTo S64x256 (exp2 (shapeCast S1x256 B shapeCasts_S1x1x256_S1x256)) broadcasts_S1x256_S64x256))) shapeCasts_S64x256_S64x256

/-- The running sum after one block: `mk` masks the diagonal block and is the identity elsewhere. -/
def bB (mk : FVec F S256x256 .f32 → FVec F S256x256 .f32) (U : Vec F S256x256 .bf16) (K : Vec F S1x256x128 .bf16)
    (Q : Vec F S1x1x128x256 .bf16) (B : Vec F S1x1x256 .f32) : FVec F S1x1x256 .f32 :=
  belR U (mk (omU (zR K Q))) B

/-- The accumulated output after one block. -/
def bA (mk : FVec F S256x256 .f32 → FVec F S256x256 .f32) (U : Vec F S256x256 .bf16) (K : Vec F S1x256x128 .bf16)
    (Q : Vec F S1x1x128x256 .bf16) (V : Vec F S1x1x64x256 .bf16) (B : Vec F S1x1x256 .f32) (A : Vec F S64x256 .f32) : FVec F S64x256 .f32 :=
  accR mk (lbsR U (lbU (zR K Q)) (mk (omU (zR K Q)))) V B A

/-- The mask of the diagonal block. -/
def mkD (x : FVec F S256x256 .f32) : FVec F S256x256 .f32 :=
  select (cmpi .slt (iota .tc S256x256 32 [0] iota_S256x256_d0_w32) (iota .tc S256x256 32 [1] iota_S256x256_d1_w32)) x
    (broadcast S256x256 (Scalar.ofBits .f32 0x00000000#32))

theorem inbB (h : Fin 8) : ∀ a : Fin 3, (![h.val, 0, 0] : Fin 3 → ℕ) a + S1x1x256.size a ≤ S8x1x256.size a := by
  revert h; decide
theorem inbA (h : Fin 8) : ∀ a : Fin 2, (![64 * h.val, 0] : Fin 2 → ℕ) a + S64x256.size a ≤ S512x256.size a := by
  revert h; decide
theorem inbQ (h : Fin 8) : ∀ a : Fin 4, (![0, h.val, 0, 0] : Fin 4 → ℕ) a + S1x1x128x256.size a ≤ S1x8x128x256.size a := by
  revert h; decide

/-- Head `h`'s row of the running sums. -/
abbrev rB (h : Fin 8) : Rect S8x1x256 := Rect.unit (s := S8x1x256) ![h.val, 0, 0] S1x1x256.size (inbB h)
/-- Head `h`'s rows of the accumulator. -/
abbrev rA (h : Fin 8) : Rect S512x256 := Rect.unit (s := S512x256) ![64 * h.val, 0] S64x256.size (inbA h)
/-- Head `h`'s block of the queries. -/
abbrev rQ (h : Fin 8) : Rect S1x8x128x256 := Rect.unit (s := S1x8x128x256) ![0, h.val, 0, 0] S1x1x128x256.size (inbQ h)
abbrev rU : Rect S256x256 := Rect.unit (s := S256x256) ![0, 0] S256x256.size inb_S256x256_S256x256_0_0

section
variable {Val : EltTy → Type} [∀ e, Nonempty (Val e)] {κ : Kind} {sp : Space} {s : Shape} {e : EltTy}

/-- A read apart from the newest write does not see it. -/
theorem rd_skip (v : View sig κ sp s e) (f : v.ty.Contents Val) (r : Rect s) (w : r.shape.Idx → Val e) (L : List (View.Piece Val s e))
    (B : LoadRect s) (h : LoadRect.disj r B = true) : v.readAt Val B (v.writes Val f (⟨r, w⟩ :: L)) = v.readAt Val B (v.writes Val f L) :=
  View.readAt_writes_of_forall_not_mem v (v.writes Val f L) [⟨r, w⟩] B fun j p hp => by
    obtain rfl := List.mem_singleton.mp hp
    exact LoadRect.idx_not_mem_of_disj h j

/-- A read of the newest write. -/
theorem rd_hit (v : View sig κ sp s e) (f : v.ty.Contents Val) (r : Rect s) (w : r.shape.Idx → Val e) (L : List (View.Piece Val s e)) :
    v.readAt Val r.toLoadRect (v.writes Val f (⟨r, w⟩ :: L)) = w :=
  (View.readAt_writes_of_cover v (v.writes Val f L) [⟨r, w⟩] r.toLoadRect fun j => ⟨_, List.mem_singleton.mpr rfl, by
    exact r.mem_set.mpr fun a => ⟨(j a).val, (j a).isLt, by first | rfl | simp⟩⟩).trans (View.readCov_cons_toLoadRect v r w [])

theorem rd_nil (v : View sig κ sp s e) (f : v.ty.Contents Val) (B : LoadRect s) : v.readAt Val B (v.writes Val f []) = v.readAt Val B f := rfl

end

end Cert.Proof.PI

end
-- ==== Proof.Body.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := Idealize.ShloMosaic.UR sig nD τ

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section
variable (c : Dev nD) (i : grid0.Coords) (bd : Option ℕ)
  (arg2 : Memref sig .tc .vmem S1x2048x512 .bf16) (harg2 : arg2.IsWhole) (arg3 : Memref sig .tc .vmem S1x8x512x256 .bf16) (harg3 : arg3.IsWhole)
  (arg4 : Memref sig .tc .vmem S1x8x128x256 .bf16) (harg4 : arg4.IsWhole) (arg6 : Memref sig .tc .vmem S256x256 .bf16) (harg6 : arg6.IsWhole)
  (arg12 : Memref sig .tc .vmem S8x1x256 .f32) (harg12 : arg12.IsWhole) (arg13 : Memref sig .tc .vmem S512x256 .f32) (harg13 : arg13.IsWhole)
  (arg14 : Memref sig .tc .vmem S8x256x256 .f32) (harg14 : arg14.IsWhole) (arg15 : Memref sig .tc .vmem S8x256x256 .f32) (harg15 : arg15.IsWhole)

/-- The keys that head `h` reads. -/
def kO (arg17 : BitVec 32) (hchk : k0_chk1 i arg17) (f2 : Bf (F := F) c arg2) : Fin 8 → Vec F S1x256x128 .bf16 :=
  ![arg2.view.readAt (Elt F) (Rect.unit (s := S1x2048x512) (k0_off37 i arg17) S1x256x128.size (k0_off37_inb i arg17 hchk)).toLoadRect f2,
    arg2.view.readAt (Elt F) (Rect.unit (s := S1x2048x512) (k0_off37 i arg17) S1x256x128.size (k0_off37_inb i arg17 hchk)).toLoadRect f2,
    arg2.view.readAt (Elt F) (Rect.unit (s := S1x2048x512) (k0_off38 i arg17) S1x256x128.size (k0_off38_inb i arg17 hchk)).toLoadRect f2,
    arg2.view.readAt (Elt F) (Rect.unit (s := S1x2048x512) (k0_off38 i arg17) S1x256x128.size (k0_off38_inb i arg17 hchk)).toLoadRect f2,
    arg2.view.readAt (Elt F) (Rect.unit (s := S1x2048x512) (k0_off39 i arg17) S1x256x128.size (k0_off39_inb i arg17 hchk)).toLoadRect f2,
    arg2.view.readAt (Elt F) (Rect.unit (s := S1x2048x512) (k0_off39 i arg17) S1x256x128.size (k0_off39_inb i arg17 hchk)).toLoadRect f2,
    arg2.view.readAt (Elt F) (Rect.unit (s := S1x2048x512) (k0_off40 i arg17) S1x256x128.size (k0_off40_inb i arg17 hchk)).toLoadRect f2,
    arg2.view.readAt (Elt F) (Rect.unit (s := S1x2048x512) (k0_off40 i arg17) S1x256x128.size (k0_off40_inb i arg17 hchk)).toLoadRect f2]

/-- The values that head `h` reads. -/
def vO (arg17 : BitVec 32) (hchk : k0_chk1 i arg17) (f3 : Bf (F := F) c arg3) : Fin 8 → Vec F S1x1x64x256 .bf16 :=
  ![arg3.view.readAt (Elt F) (Rect.unit (s := S1x8x512x256) (k0_off41 i arg17) S1x1x64x256.size (k0_off41_inb i arg17 hchk)).toLoadRect f3,
    arg3.view.readAt (Elt F) (Rect.unit (s := S1x8x512x256) (k0_off42 i arg17) S1x1x64x256.size (k0_off42_inb i arg17 hchk)).toLoadRect f3,
    arg3.view.readAt (Elt F) (Rect.unit (s := S1x8x512x256) (k0_off43 i arg17) S1x1x64x256.size (k0_off43_inb i arg17 hchk)).toLoadRect f3,
    arg3.view.readAt (Elt F) (Rect.unit (s := S1x8x512x256) (k0_off44 i arg17) S1x1x64x256.size (k0_off44_inb i arg17 hchk)).toLoadRect f3,
    arg3.view.readAt (Elt F) (Rect.unit (s := S1x8x512x256) (k0_off45 i arg17) S1x1x64x256.size (k0_off45_inb i arg17 hchk)).toLoadRect f3,
    arg3.view.readAt (Elt F) (Rect.unit (s := S1x8x512x256) (k0_off46 i arg17) S1x1x64x256.size (k0_off46_inb i arg17 hchk)).toLoadRect f3,
    arg3.view.readAt (Elt F) (Rect.unit (s := S1x8x512x256) (k0_off47 i arg17) S1x1x64x256.size (k0_off47_inb i arg17 hchk)).toLoadRect f3,
    arg3.view.readAt (Elt F) (Rect.unit (s := S1x8x512x256) (k0_off48 i arg17) S1x1x64x256.size (k0_off48_inb i arg17 hchk)).toLoadRect f3]

set_option maxHeartbeats 8000000 in
theorem run57 (v0 v1 : IVec S256x256 32) (arg17 : BitVec 32) (arg18 : F .f32) (arg1 : BitVec 32) (hchk : k0_chk1 i arg17)
    (f2 : Bf (F := F) c arg2) (f3 : Bf (F := F) c arg3) (f4 : Bf (F := F) c arg4) (f6 : Bf (F := F) c arg6)
    (f12 : Bf (F := F) c arg12) (f13 : Bf (F := F) c arg13) (f14 : Bf (F := F) c arg14) (f15 : Bf (F := F) c arg15)
    (Q : (Σ' (v39 : BitVec 32) (v382 : F .f32), FVec F S64x256 .f32) → sProp 𝕄) :
    iprop(pt c arg2 f2 ∗ pt c arg3 f3 ∗ pt c arg4 f4 ∗ pt c arg6 f6 ∗ pt c arg12 f12 ∗ pt c arg13 f13 ∗ pt c arg14 f14 ∗ pt c arg15 f15
      ∗ (∀ r : (Σ' (v39 : BitVec 32) (v382 : F .f32), FVec F S64x256 .f32), ∀ f12' f13' f14' f15',
        iprop(pt c arg2 f2 ∗ pt c arg3 f3 ∗ pt c arg4 f4 ∗ pt c arg6 f6 ∗ pt c arg12 f12' ∗ pt c arg13 f13' ∗ pt c arg14 f14' ∗ pt c arg15 f15'
          ∗ ⌜r.1 = arg17 + 1#32
          ∧ (∀ h, arg12.view.readAt (Elt F) (rB h).toLoadRect f12' = bB id (arg6.view.readAt (Elt F) rU.toLoadRect f6) (kO c i arg2 arg17 hchk f2 h)
              (arg4.view.readAt (Elt F) (rQ h).toLoadRect f4) (arg12.view.readAt (Elt F) (rB h).toLoadRect f12))
          ∧ (∀ h : Fin 8, h ≠ 7 → arg13.view.readAt (Elt F) (rA h).toLoadRect f13' = bA id (arg6.view.readAt (Elt F) rU.toLoadRect f6) (kO c i arg2 arg17 hchk f2 h)
              (arg4.view.readAt (Elt F) (rQ h).toLoadRect f4) (vO c i arg3 arg17 hchk f3 h) (arg12.view.readAt (Elt F) (rB h).toLoadRect f12)
              (arg13.view.readAt (Elt F) (rA h).toLoadRect f13))
          ∧ r.2.2 = bA id (arg6.view.readAt (Elt F) rU.toLoadRect f6) (kO c i arg2 arg17 hchk f2 7)
              (arg4.view.readAt (Elt F) (rQ 7).toLoadRect f4) (vO c i arg3 arg17 hchk f3 7) (arg12.view.readAt (Elt F) (rB 7).toLoadRect f12)
              (arg13.view.readAt (Elt F) (rA 7).toLoadRect f13)⌝) -∗ Q r))
    ⊢ wp frame (wpE (defs₀ (F := F)) Variants.nat c bd) Set.univ
        (k0_part57 i v0 v1 arg2 harg2 arg4 harg4 arg14 harg14 arg6 harg6 arg15 harg15 arg12 harg12 arg3 harg3 arg13 harg13 arg17 arg18 arg1) Q := by
  iintro ⟨H2, H3, H4, H6, H12, H13, H14, H15, Hk⟩
  sl_exec_parts! (disch := exact hchk)
  sl_step
  iapply Hk
  isplitl [H2]; · iexact H2
  isplitl [H3]; · iexact H3
  isplitl [H4]; · iexact H4
  isplitl [H6]; · iexact H6
  isplitl [H12]; · iexact H12
  isplitl [H13]; · iexact H13
  isplitl [H14]; · iexact H14
  isplitl [H15]; · iexact H15
  ipureintro
  refine ⟨rfl, fun h => ?_, fun h hh => ?_, ?_⟩
  · sl_open_run
    match h with
    | 0 | 1 | 2 | 3 | 4 | 5 | 6 | 7 =>
      repeat refine (rd_skip _ _ _ _ _ _ (by decide)).trans ?_
      refine (rd_hit _ _ _ _ _).trans ?_
      simp (disch := decide) only [↓View.readCov_skip, ↓View.readCov_cons_toLoadRect]
      rfl
  · sl_open_run
    match h with
    | 0 | 1 | 2 | 3 | 4 | 5 | 6 =>
      repeat refine (rd_skip _ _ _ _ _ _ (by decide)).trans ?_
      refine (rd_hit _ _ _ _ _).trans ?_
      simp (disch := decide) only [↓View.readCov_skip, ↓View.readCov_cons_toLoadRect]
      rfl
    | 7 => exact absurd rfl hh
  · sl_open_run
    simp (disch := decide) only [↓View.readCov_skip, ↓View.readCov_cons_toLoadRect]
    rfl

end

end Cert.Proof.PI

end
-- ==== Proof.While.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Body
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The head's state: the running sum below the blocks done and the accumulated output. -/
abbrev St (F : FTy → Type) : Type := Vec F S1x1x256 .f32 × Vec F S64x256 .f32

theorem inbK (j : ℕ) (h : Fin 8) : ∀ a : Fin 3, (![0, 256 * (j % 8), 128 * (h.val / 2)] : Fin 3 → ℕ) a + S1x256x128.size a ≤ S1x2048x512.size a := by
  intro a
  have := h.isLt
  match a with
  | 0 => show 0 + 1 ≤ 1; omega
  | 1 => show 256 * (j % 8) + 256 ≤ 2048; omega
  | 2 => show 128 * (h.val / 2) + 128 ≤ 512; omega

theorem inbV (j : ℕ) (h : Fin 8) : ∀ a : Fin 4, (![0, j % 8, 64 * h.val, 0] : Fin 4 → ℕ) a + S1x1x64x256.size a ≤ S1x8x512x256.size a := by
  intro a
  have := h.isLt
  match a with
  | 0 => show 0 + 1 ≤ 1; omega
  | 1 => show j % 8 + 1 ≤ 8; omega
  | 2 => show 64 * h.val + 64 ≤ 512; omega
  | 3 => show 0 + 256 ≤ 256; omega

/-- Block `j`'s keys for head `h`'s pair of heads. -/
abbrev rK (j : ℕ) (h : Fin 8) : Rect S1x2048x512 := Rect.unit (s := S1x2048x512) ![0, 256 * (j % 8), 128 * (h.val / 2)] S1x256x128.size (inbK j h)
/-- Block `j`'s values for head `h`. -/
abbrev rV (j : ℕ) (h : Fin 8) : Rect S1x8x512x256 := Rect.unit (s := S1x8x512x256) ![0, j % 8, 64 * h.val, 0] S1x1x64x256.size (inbV j h)

/-- One block's step of a head's state. -/
def stepB (mk : FVec F S256x256 .f32 → FVec F S256x256 .f32) (U : Vec F S256x256 .bf16) (K : Vec F S1x256x128 .bf16)
    (Q : Vec F S1x1x128x256 .bf16) (V : Vec F S1x1x64x256 .bf16) (s : St F) : St F := (bB mk U K Q s.1, bA mk U K Q V s.1 s.2)

/-- The blocks `m - 1, …, 0`, in this order. -/
def runB (U : Vec F S256x256 .bf16) (K : ℕ → Vec F S1x256x128 .bf16) (Q : Vec F S1x1x128x256 .bf16) (V : ℕ → Vec F S1x1x64x256 .bf16) :
    ℕ → St F → St F
  | 0, s => s
  | m + 1, s => runB U K Q V m (stepB id U (K m) Q (V m) s)

/-- A read at equal offsets. -/
theorem rd_off {Val : EltTy → Type} {κ : Kind} {sp : Space} {s : Shape} {e : EltTy} (v : View sig κ sp s e) (f : v.ty.Contents Val)
    {off off' size : Fin s.rank → ℕ} (inb : ∀ a, off a + size a ≤ s.size a) (inb' : ∀ a, off' a + size a ≤ s.size a) (h : off = off') :
    v.readAt Val (Rect.unit (s := s) off size inb).toLoadRect f = v.readAt Val (Rect.unit (s := s) off' size inb').toLoadRect f := by
  subst h; rfl

theorem inb_off {s : Shape} {off off' size : Fin s.rank → ℕ} (h : off = off') (hi : ∀ a, off' a + size a ≤ s.size a) :
    ∀ a, off a + size a ≤ s.size a := by subst h; exact hi

theorem subMul : ∀ (q : Fin 8) (n : Fin 9), n.val ≤ q.val →
    (Scalar.indexCast (Scalar.muli (Scalar.subi (BitVec.ofNat 32 q.val) (BitVec.ofNat 32 n.val)) 256#32)).toNat = 256 * (q.val - n.val)
      ∧ (Scalar.indexCast (Scalar.subi (BitVec.ofNat 32 q.val) (BitVec.ofNat 32 n.val))).toNat = q.val - n.val := by decide +kernel

theorem subMul' (q : Fin 8) (n j : ℕ) (h : n + j = q.val) :
    (Scalar.indexCast (Scalar.muli (Scalar.subi (BitVec.ofNat 32 q.val) (BitVec.ofNat 32 n)) 256#32)).toNat = 256 * (j % 8)
      ∧ (Scalar.indexCast (Scalar.subi (BitVec.ofNat 32 q.val) (BitVec.ofNat 32 n))).toNat = j % 8 := by
  have hq := q.isLt
  have := subMul q ⟨n, by omega⟩ (by show n ≤ q.val; omega)
  have e : q.val - n = j % 8 := by omega
  rw [← e]; exact this

section
variable (c : Dev nD) (i : grid0.Coords) (bd : Option ℕ)
  (arg2 : Memref sig .tc .vmem S1x2048x512 .bf16) (harg2 : arg2.IsWhole) (arg3 : Memref sig .tc .vmem S1x8x512x256 .bf16) (harg3 : arg3.IsWhole)
  (arg4 : Memref sig .tc .vmem S1x8x128x256 .bf16) (harg4 : arg4.IsWhole) (arg6 : Memref sig .tc .vmem S256x256 .bf16) (harg6 : arg6.IsWhole)
  (arg12 : Memref sig .tc .vmem S8x1x256 .f32) (harg12 : arg12.IsWhole) (arg13 : Memref sig .tc .vmem S512x256 .f32) (harg13 : arg13.IsWhole)
  (arg14 : Memref sig .tc .vmem S8x256x256 .f32) (harg14 : arg14.IsWhole) (arg15 : Memref sig .tc .vmem S8x256x256 .f32) (harg15 : arg15.IsWhole)

theorem chkO (n j : ℕ) (h : n + j = (i 1).val) : k0_chk1 i (BitVec.ofNat 32 n) := by
  obtain ⟨e1, e2⟩ := subMul' (i 1) n j h
  have o1 : ∀ x : ℕ, (![0, (Scalar.indexCast (Scalar.muli (Scalar.subi (BitVec.ofNat 32 (i 1).val) (BitVec.ofNat 32 n)) 256#32)).toNat, x] : Fin 3 → ℕ)
      = ![0, 256 * (j % 8), x] := fun x => by rw [e1]
  have o2 : ∀ x : ℕ, (![0, (Scalar.indexCast (Scalar.subi (BitVec.ofNat 32 (i 1).val) (BitVec.ofNat 32 n))).toNat, x, 0] : Fin 4 → ℕ)
      = ![0, j % 8, x, 0] := fun x => by rw [e2]
  refine ⟨?_, ?_, ?_, ?_, ?_, ?_, ?_, ?_, ?_, ?_, ?_, ?_, ?_⟩
  · show 256 ∣ (Scalar.muli (Scalar.subi (BitVec.ofNat 32 (i 1).val) (BitVec.ofNat 32 n)) 256#32).toNat
    exact ⟨j % 8, e1⟩
  · exact inb_off (s := S1x2048x512) (o1 0) (inbK j 0)
  · exact inb_off (s := S1x2048x512) (o1 128) (inbK j 2)
  · exact inb_off (s := S1x2048x512) (o1 256) (inbK j 4)
  · exact inb_off (s := S1x2048x512) (o1 384) (inbK j 6)
  · exact inb_off (s := S1x8x512x256) (o2 0) (inbV j 0)
  · exact inb_off (s := S1x8x512x256) (o2 64) (inbV j 1)
  · exact inb_off (s := S1x8x512x256) (o2 128) (inbV j 2)
  · exact inb_off (s := S1x8x512x256) (o2 192) (inbV j 3)
  · exact inb_off (s := S1x8x512x256) (o2 256) (inbV j 4)
  · exact inb_off (s := S1x8x512x256) (o2 320) (inbV j 5)
  · exact inb_off (s := S1x8x512x256) (o2 384) (inbV j 6)
  · exact inb_off (s := S1x8x512x256) (o2 448) (inbV j 7)

theorem kO_eq (n j : ℕ) (h : n + j = (i 1).val) (hchk : k0_chk1 i (BitVec.ofNat 32 n)) (f2 : Bf (F := F) c arg2) (hd : Fin 8) :
    kO c i arg2 (BitVec.ofNat 32 n) hchk f2 hd = arg2.view.readAt (Elt F) (rK j hd).toLoadRect f2 := by
  obtain ⟨e1, e2⟩ := subMul' (i 1) n j h
  have o1 : ∀ x : ℕ, (![0, (Scalar.indexCast (Scalar.muli (Scalar.subi (BitVec.ofNat 32 (i 1).val) (BitVec.ofNat 32 n)) 256#32)).toNat, x] : Fin 3 → ℕ)
      = ![0, 256 * (j % 8), x] := fun x => by rw [e1]
  match hd with
  | 0 | 1 | 2 | 3 | 4 | 5 | 6 | 7 => exact rd_off arg2.view f2 _ _ (o1 _)

theorem vO_eq (n j : ℕ) (h : n + j = (i 1).val) (hchk : k0_chk1 i (BitVec.ofNat 32 n)) (f3 : Bf (F := F) c arg3) (hd : Fin 8) :
    vO c i arg3 (BitVec.ofNat 32 n) hchk f3 hd = arg3.view.readAt (Elt F) (rV j hd).toLoadRect f3 := by
  obtain ⟨e1, e2⟩ := subMul' (i 1) n j h
  have o2 : ∀ x : ℕ, (![0, (Scalar.indexCast (Scalar.subi (BitVec.ofNat 32 (i 1).val) (BitVec.ofNat 32 n))).toNat, x, 0] : Fin 4 → ℕ)
      = ![0, j % 8, x, 0] := fun x => by rw [e2]
  match hd with
  | 0 | 1 | 2 | 3 | 4 | 5 | 6 | 7 => exact rd_off arg3.view f3 _ _ (o2 _)

/-- The test that the loop makes of the running sums, passed by every value. -/
def Go (F : FTy → Type) [FloatOps F] [Named F] : Prop :=
  ∀ x : F .f32, Scalar.cmpf .oge x (Named.named κ "underflow" 0xC3160000#32) = 1#1

theorem cmpN : ∀ (q : Fin 8) (n : Fin 10), Scalar.cmpi .sle (BitVec.ofNat 32 n.val) (BitVec.ofNat 32 q.val) = if n.val ≤ q.val then 1#1 else 0#1 := by
  decide +kernel

theorem and0 : ∀ x : BitVec 1, Scalar.andi 0#1 x = 0#1 := by decide
theorem and1 : ∀ x : BitVec 1, Scalar.andi 1#1 x = x := by decide

/-- The loop from its counter at `n`: `m` blocks are left. -/
theorem while_sound (v0 v1 : IVec S256x256 32) (f2 : Bf (F := F) c arg2) (f3 : Bf (F := F) c arg3) (f4 : Bf (F := F) c arg4) (f6 : Bf (F := F) c arg6) :
    ∀ (m n : ℕ) (hmn : m = (i 1).val + 1 - n) (hn : n ≤ 9) (arg18 : F .f32)
      (f12 : Bf (F := F) c arg12) (f13 : Bf (F := F) c arg13) (f14 : Bf (F := F) c arg14) (f15 : Bf (F := F) c arg15)
      (Q : BitVec 32 × F .f32 → sProp 𝕄),
    iprop(pt c arg2 f2 ∗ pt c arg3 f3 ∗ pt c arg4 f4 ∗ pt c arg6 f6 ∗ pt c arg12 f12 ∗ pt c arg13 f13 ∗ pt c arg14 f14 ∗ pt c arg15 f15
      ∗ (∀ r : BitVec 32 × F .f32, ∀ f12' f13' f14' f15', iprop(pt c arg2 f2 ∗ pt c arg3 f3 ∗ pt c arg4 f4 ∗ pt c arg6 f6
          ∗ pt c arg12 f12' ∗ pt c arg13 f13' ∗ pt c arg14 f14' ∗ pt c arg15 f15'
          ∗ ⌜Go F → ∀ h : Fin 8, ((arg12.view.readAt (Elt F) (rB h).toLoadRect f12', arg13.view.readAt (Elt F) (rA h).toLoadRect f13') : St F)
              = runB (arg6.view.readAt (Elt F) rU.toLoadRect f6) (fun j => arg2.view.readAt (Elt F) (rK j h).toLoadRect f2)
                  (arg4.view.readAt (Elt F) (rQ h).toLoadRect f4) (fun j => arg3.view.readAt (Elt F) (rV j h).toLoadRect f3) m
                  (arg12.view.readAt (Elt F) (rB h).toLoadRect f12, arg13.view.readAt (Elt F) (rA h).toLoadRect f13)⌝) -∗ Q r))
    ⊢ wp frame (wpE (defs₀ (F := F)) Variants.nat c (some m)) Set.univ
        (cc0_while1 i v0 v1 arg2 harg2 arg4 harg4 arg14 harg14 arg6 harg6 arg15 harg15 arg12 harg12 arg3 harg3 arg13 harg13 (BitVec.ofNat 32 n) arg18) Q := by
  intro m
  induction m with
  | zero =>
    intro n hmn hn arg18 f12 f13 f14 f15 Q
    have hc := cmpN (i 1) ⟨n, by omega⟩
    rw [if_neg (by show ¬ n ≤ (i 1).val; omega)] at hc
    simp only [cc0_while1_eq_skeleton]; unfold cc0_while1_skel
    simp only [hc, and0]
    iintro ⟨H2, H3, H4, H6, H12, H13, H14, H15, Hk⟩
    rw [if_neg (by decide)]
    simp only [Prog.pure_eq_ret]
    rw [wp_ret]; imodintro
    iapply Hk
    isplitl [H2]; · iexact H2
    isplitl [H3]; · iexact H3
    isplitl [H4]; · iexact H4
    isplitl [H6]; · iexact H6
    isplitl [H12]; · iexact H12
    isplitl [H13]; · iexact H13
    isplitl [H14]; · iexact H14
    isplitl [H15]; · iexact H15
    ipureintro
    exact fun _ _ => rfl
  | succ m ih =>
    intro n hmn hn arg18 f12 f13 f14 f15 Q
    have hc := cmpN (i 1) ⟨n, by omega⟩
    rw [if_pos (by show n ≤ (i 1).val; omega)] at hc
    simp only [cc0_while1_eq_skeleton]; unfold cc0_while1_skel
    simp only [hc, and1]
    iintro ⟨H2, H3, H4, H6, H12, H13, H14, H15, Hk⟩
    by_cases hg : Scalar.cmpf .oge arg18 (Named.named κ "underflow" 0xC3160000#32) = 1#1
    · rw [if_pos hg]
      simp only [Prog.lift, Prog.bind_op, Prog.bind_ret, Prog.pure_eq_ret]
      rw [wp_bind]
      iapply (run57 c i (some (m + 1)) arg2 harg2 arg3 harg3 arg4 harg4 arg6 harg6 arg12 harg12 arg13 harg13 arg14 harg14 arg15 harg15 v0 v1
        (BitVec.ofNat 32 n) arg18 _ (chkO i n m (by omega)) f2 f3 f4 f6 f12 f13 f14 f15)
      isplitl [H2]; · iexact H2
      isplitl [H3]; · iexact H3
      isplitl [H4]; · iexact H4
      isplitl [H6]; · iexact H6
      isplitl [H12]; · iexact H12
      isplitl [H13]; · iexact H13
      isplitl [H14]; · iexact H14
      isplitl [H15]; · iexact H15
      iintro %r %g12 %g13 %g14 %g15 ⟨H2, H3, H4, H6, H12, H13, H14, H15, %hr⟩
      obtain ⟨h1, hB, hA, hA7⟩ := hr
      obtain ⟨r1, r2, r3⟩ := r
      dsimp only at h1 hA7 ⊢
      subst h1
      sl_step
      have hq : (i 1).val < 8 := (i 1).isLt
      have e1 : BitVec.ofNat 32 n + 1#32 = BitVec.ofNat 32 (n + 1) := (BitVec.ofNat_add n 1).symm
      rw [e1]
      iapply (wp_call Variants.nat (c : Thread nD τ) (some (m + 1)) Set.univ m (fun u hu => by cases hu; exact Nat.lt_succ_self m))
      iapply (ih (n + 1) (by omega) (by omega) r2 g12 (arg13.view.writes (Elt F) g13 [⟨rA 7, r3⟩]) g14 g15)
      isplitl [H2]; · iexact H2
      isplitl [H3]; · iexact H3
      isplitl [H4]; · iexact H4
      isplitl [H6]; · iexact H6
      isplitl [H12]; · iexact H12
      isplitl [H13]; · iexact H13
      isplitl [H14]; · iexact H14
      isplitl [H15]; · iexact H15
      iintro %r %k12 %k13 %k14 %k15 ⟨H2, H3, H4, H6, H12, H13, H14, H15, %hr⟩
      rw [wp_ret]; imodintro
      iapply Hk
      isplitl [H2]; · iexact H2
      isplitl [H3]; · iexact H3
      isplitl [H4]; · iexact H4
      isplitl [H6]; · iexact H6
      isplitl [H12]; · iexact H12
      isplitl [H13]; · iexact H13
      isplitl [H14]; · iexact H14
      isplitl [H15]; · iexact H15
      ipureintro
      intro hgo h
      rw [hr hgo h]
      show runB _ _ _ _ m _ = runB _ _ _ _ m _
      congr 1
      unfold stepB
      refine Prod.ext ?_ ?_
      · exact (hB h).trans (by rw [kO_eq c i arg2 n m (by omega)])
      · have e : arg13.view.readAt (Elt F) (rA h).toLoadRect (arg13.view.writes (Elt F) g13 [⟨rA 7, r3⟩])
            = bA id (arg6.view.readAt (Elt F) rU.toLoadRect f6) (kO c i arg2 (BitVec.ofNat 32 n) (chkO i n m (by omega)) f2 h)
              (arg4.view.readAt (Elt F) (rQ h).toLoadRect f4) (vO c i arg3 (BitVec.ofNat 32 n) (chkO i n m (by omega)) f3 h)
              (arg12.view.readAt (Elt F) (rB h).toLoadRect f12) (arg13.view.readAt (Elt F) (rA h).toLoadRect f13) := by
          by_cases h7 : h = 7
          · subst h7
            exact (rd_hit _ _ _ _ _).trans hA7
          · exact (rd_skip _ _ _ _ _ _ (by revert h; decide)).trans (hA h h7)
        exact e.trans (by rw [kO_eq c i arg2 n m (by omega), vO_eq c i arg3 n m (by omega)])
    · rw [if_neg hg]
      simp only [Prog.pure_eq_ret]
      rw [wp_ret]; imodintro
      iapply Hk
      isplitl [H2]; · iexact H2
      isplitl [H3]; · iexact H3
      isplitl [H4]; · iexact H4
      isplitl [H6]; · iexact H6
      isplitl [H12]; · iexact H12
      isplitl [H13]; · iexact H13
      isplitl [H14]; · iexact H14
      isplitl [H15]; · iexact H15
      ipureintro
      exact fun h => absurd (h arg18) hg

end

end Cert.Proof.PI

end
-- ==== Proof.Tail.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.While
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The state a head starts from. -/
def st0 : St F := (broadcast S1x1x256 (Scalar.ofBits .f32 0x00000000#32), broadcast S64x256 (Scalar.ofBits .f32 0x00000000#32))

/-- A head's state after all the blocks of a row of queries: the diagonal block first. -/
def fin (U : Vec F S256x256 .bf16) (K : ℕ → Vec F S1x256x128 .bf16) (Q : Vec F S1x1x128x256 .bf16) (V : ℕ → Vec F S1x1x64x256 .bf16) (q : ℕ) : St F :=
  runB U K Q V q (stepB mkD U (K q) Q (V q) st0)

section
variable (c : Dev nD) (i : grid0.Coords)
  (arg2 : Memref sig .tc .vmem S1x2048x512 .bf16) (harg2 : arg2.IsWhole)
  (arg3 : Memref sig .tc .vmem S1x8x512x256 .bf16) (harg3 : arg3.IsWhole)
  (arg4 : Memref sig .tc .vmem S1x8x128x256 .bf16) (harg4 : arg4.IsWhole)
  (arg5 : Memref sig .tc .vmem S1x256x512 .f32) (harg5 : arg5.IsWhole)
  (arg6 : Memref sig .tc .vmem S256x256 .bf16) (harg6 : arg6.IsWhole)
  (arg7 : Memref sig .tc .vmem S1x256x1024 .f32) (harg7 : arg7.IsWhole)
  (arg8 : Memref sig .tc .vmem S1x256x512 .bf16) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x256x1024 .f32) (harg11 : arg11.IsWhole)
  (arg12 : Memref sig .tc .vmem S8x1x256 .f32) (harg12 : arg12.IsWhole)
  (arg13 : Memref sig .tc .vmem S512x256 .f32) (harg13 : arg13.IsWhole)
  (arg14 : Memref sig .tc .vmem S8x256x256 .f32) (harg14 : arg14.IsWhole)
  (arg15 : Memref sig .tc .vmem S8x256x256 .f32) (harg15 : arg15.IsWhole)
  (arg16 : Memref sig .tc .smem S1 .f32) (harg16 : arg16.IsWhole)

/-- The loop from its counter at 2, and the loads after it. -/
theorem tail43 (v0 v1 : IVec S256x256 32) (m : ℕ) (hm : m = (i 1).val + 1 - 2) (v16 : F .f32) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (Q : (Σ' (v23 : FVec F S256x512 .bf16) (v25 : FVec F S256x1024 .f32), FVec F S256x512 .bf16) → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ r : (Σ' (v23 : FVec F S256x512 .bf16) (v25 : FVec F S256x1024 .f32), FVec F S256x512 .bf16), ∀ f12' f13' f14' f15' f16',
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12' ∗ pt c arg13 f13' ∗ pt c arg14 f14' ∗ pt c arg15 f15' ∗ pt c arg16 f16'
          ∗ ⌜r = ⟨k0_pay300 (arg13.view.readAt (Elt F) (Rect.unit (s := S512x256) ![0, 0] S512x256.size inb_S512x256_S512x256_0_0).toLoadRect f13') (arg5.view.readAt (Elt F) (Rect.unit (s := S1x256x512) ![0, 0, 0] S1x256x512.size inb_S1x256x512_S1x256x512_0_0_0).toLoadRect f5),
            k0_pay301 (arg7.view.readAt (Elt F) (Rect.unit (s := S1x256x1024) ![0, 0, 0] S1x256x1024.size inb_S1x256x1024_S1x256x1024_0_0_0).toLoadRect f7), k0_pay302 (arg8.view.readAt (Elt F) (Rect.unit (s := S1x256x512) ![0, 0, 0] S1x256x512.size inb_S1x256x512_S1x256x512_0_0_0).toLoadRect f8)⟩
            ∧ (Go F → ∀ h : Fin 8, arg13.view.readAt (Elt F) (rA h).toLoadRect f13' = (runB (arg6.view.readAt (Elt F) rU.toLoadRect f6) (fun j => arg2.view.readAt (Elt F) (rK j h).toLoadRect f2)
                (arg4.view.readAt (Elt F) (rQ h).toLoadRect f4) (fun j => arg3.view.readAt (Elt F) (rV j h).toLoadRect f3) m
                (arg12.view.readAt (Elt F) (rB h).toLoadRect f12, arg13.view.readAt (Elt F) (rA h).toLoadRect f13)).2)⌝) -∗ Q r))
    ⊢ wp frame (wpE (defs₀ (F := F)) Variants.nat c none) Set.univ
        (.op (.call (1 : (Λ₀ F).Label) ⟨i, v0, v1, arg2, harg2, arg4, harg4, arg14, harg14, arg6, harg6, arg15, harg15, arg12, harg12, arg3, harg3, arg13, harg13, 2#32, v16⟩)
          fun x => match x with
            | (v17_0, v17_1) => do
              let v18 : Vec F S512x256 .f32 ← Prog.lift (.load arg13 (Rect.unit (s := S512x256) ![0, 0] S512x256.size inb_S512x256_S512x256_0_0).toLoadRect (View.loadsAt_vmem h_S512x256))
              let v20 : Vec F S1x256x512 .f32 ← Prog.lift (.load arg5 (Rect.unit (s := S1x256x512) ![0, 0, 0] S1x256x512.size inb_S1x256x512_S1x256x512_0_0_0).toLoadRect (View.loadsAt_vmem h_S1x256x512))
              let v24 : Vec F S1x256x1024 .f32 ← Prog.lift (.load arg7 (Rect.unit (s := S1x256x1024) ![0, 0, 0] S1x256x1024.size inb_S1x256x1024_S1x256x1024_0_0_0).toLoadRect (View.loadsAt_vmem h_S1x256x1024))
              let v26 : Vec F S1x256x512 .bf16 ← Prog.lift (.load arg8 (Rect.unit (s := S1x256x512) ![0, 0, 0] S1x256x512.size inb_S1x256x512_S1x256x512_0_0_0).toLoadRect (View.loadsAt_vmem h_S1x256x512))
              pure ⟨k0_pay300 v18 v20, k0_pay301 v24, k0_pay302 v26⟩) Q := by
  iintro ⟨H2, H3, H4, H5, H6, H7, H8, H9, H10, H11, H12, H13, H14, H15, H16, Hk⟩
  iapply (wp_call Variants.nat (c : Thread nD τ) none Set.univ m (fun u hu => nomatch hu))
  iapply (while_sound c i arg2 harg2 arg3 harg3 arg4 harg4 arg6 harg6 arg12 harg12 arg13 harg13 arg14 harg14 arg15 harg15 v0 v1 f2 f3 f4 f6
    m 2 hm (by omega) v16 f12 f13 f14 f15)
  isplitl [H2]; · iexact H2
  isplitl [H3]; · iexact H3
  isplitl [H4]; · iexact H4
  isplitl [H6]; · iexact H6
  isplitl [H12]; · iexact H12
  isplitl [H13]; · iexact H13
  isplitl [H14]; · iexact H14
  isplitl [H15]; · iexact H15
  iintro %r %k12 %k13 %k14 %k15 ⟨H2, H3, H4, H6, H12, H13, H14, H15, %hr⟩
  obtain ⟨r1, r2⟩ := r
  dsimp only
  sl_exec_parts!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  exact ⟨rfl, fun hgo h => congrArg Prod.snd (hr hgo h)⟩

end

end Cert.Proof.PI

end
-- ==== Proof.Words.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Tail
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- Head `h`'s keys, the block's first row given as the kernel's word. -/
def kW (c : Dev nD) (arg2 : Memref sig .tc .vmem S1x2048x512 .bf16) (f2 : Bf (F := F) c arg2) (w : BitVec 32) (j : ℕ)
    (hw : w.toNat = 256 * (j % 8)) (h : Fin 8) : Vec F S1x256x128 .bf16 :=
  arg2.view.readAt (Elt F) (Rect.unit (s := S1x2048x512) ![0, w.toNat, 128 * (h.val / 2)] S1x256x128.size
    (inb_off (s := S1x2048x512) (by rw [hw]) (inbK j h))).toLoadRect f2

theorem kW_eq (c : Dev nD) (arg2 : Memref sig .tc .vmem S1x2048x512 .bf16) (f2 : Bf (F := F) c arg2) (w : BitVec 32) (j : ℕ)
    (hw : w.toNat = 256 * (j % 8)) (h : Fin 8) : kW c arg2 f2 w j hw h = arg2.view.readAt (Elt F) (rK j h).toLoadRect f2 :=
  rd_off arg2.view f2 _ _ (by rw [hw])

/-- Head `h`'s values, the block's number given as the kernel's word. -/
def vW (c : Dev nD) (arg3 : Memref sig .tc .vmem S1x8x512x256 .bf16) (f3 : Bf (F := F) c arg3) (w : BitVec 32) (j : ℕ)
    (hw : w.toNat = j % 8) (h : Fin 8) : Vec F S1x1x64x256 .bf16 :=
  arg3.view.readAt (Elt F) (Rect.unit (s := S1x8x512x256) ![0, w.toNat, 64 * h.val, 0] S1x1x64x256.size
    (inb_off (s := S1x8x512x256) (by rw [hw]) (inbV j h))).toLoadRect f3

theorem vW_eq (c : Dev nD) (arg3 : Memref sig .tc .vmem S1x8x512x256 .bf16) (f3 : Bf (F := F) c arg3) (w : BitVec 32) (j : ℕ)
    (hw : w.toNat = j % 8) (h : Fin 8) : vW c arg3 f3 w j hw h = arg3.view.readAt (Elt F) (rV j h).toLoadRect f3 :=
  rd_off arg3.view f3 _ _ (by rw [hw])

theorem mulW : ∀ q : Fin 8, (Scalar.indexCast (Scalar.muli (BitVec.ofNat 32 q.val) 256#32)).toNat = 256 * (q.val % 8)
    ∧ (Scalar.indexCast (BitVec.ofNat 32 q.val)).toNat = q.val % 8 := by decide +kernel

theorem subW (q : Fin 8) (m : ℕ) (hq : q.val = m + 1) :
    (Scalar.indexCast (Scalar.muli (Scalar.subi (BitVec.ofNat 32 q.val) 1#32) 256#32)).toNat = 256 * (m % 8)
      ∧ (Scalar.indexCast (Scalar.subi (BitVec.ofNat 32 q.val) 1#32)).toNat = m % 8 := subMul' q 1 m (by omega)

end Cert.Proof.PI

end
-- ==== Proof.Case0.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Tail
public import proofs.«01_k».proof.Proof.Words
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section
variable (c : Dev nD) (i : grid0.Coords)
  (arg2 : Memref sig .tc .vmem S1x2048x512 .bf16) (harg2 : arg2.IsWhole)
  (arg3 : Memref sig .tc .vmem S1x8x512x256 .bf16) (harg3 : arg3.IsWhole)
  (arg4 : Memref sig .tc .vmem S1x8x128x256 .bf16) (harg4 : arg4.IsWhole)
  (arg5 : Memref sig .tc .vmem S1x256x512 .f32) (harg5 : arg5.IsWhole)
  (arg6 : Memref sig .tc .vmem S256x256 .bf16) (harg6 : arg6.IsWhole)
  (arg7 : Memref sig .tc .vmem S1x256x1024 .f32) (harg7 : arg7.IsWhole)
  (arg8 : Memref sig .tc .vmem S1x256x512 .bf16) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x256x1024 .f32) (harg11 : arg11.IsWhole)
  (arg12 : Memref sig .tc .vmem S8x1x256 .f32) (harg12 : arg12.IsWhole)
  (arg13 : Memref sig .tc .vmem S512x256 .f32) (harg13 : arg13.IsWhole)
  (arg14 : Memref sig .tc .vmem S8x256x256 .f32) (harg14 : arg14.IsWhole)
  (arg15 : Memref sig .tc .vmem S8x256x256 .f32) (harg15 : arg15.IsWhole)
  (arg16 : Memref sig .tc .smem S1 .f32) (harg16 : arg16.IsWhole)

set_option maxHeartbeats 8000000 in
/-- The first row of queries: the diagonal block alone. -/
theorem case0 (h1 : k0_cond1 i = 1#1) (h2 : ¬ k0_cond2 i = 1#1) (hq : (i 1).val = 0) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (Q : (Σ' (v23 : FVec F S256x512 .bf16) (v25 : FVec F S256x1024 .f32), FVec F S256x512 .bf16) → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ r : (Σ' (v23 : FVec F S256x512 .bf16) (v25 : FVec F S256x1024 .f32), FVec F S256x512 .bf16), ∀ f12' f13' f14' f15' f16',
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12' ∗ pt c arg13 f13' ∗ pt c arg14 f14' ∗ pt c arg15 f15' ∗ pt c arg16 f16'
          ∗ ⌜r = ⟨k0_pay300 (arg13.view.readAt (Elt F) (Rect.unit (s := S512x256) ![0, 0] S512x256.size inb_S512x256_S512x256_0_0).toLoadRect f13') (arg5.view.readAt (Elt F) (Rect.unit (s := S1x256x512) ![0, 0, 0] S1x256x512.size inb_S1x256x512_S1x256x512_0_0_0).toLoadRect f5),
            k0_pay301 (arg7.view.readAt (Elt F) (Rect.unit (s := S1x256x1024) ![0, 0, 0] S1x256x1024.size inb_S1x256x1024_S1x256x1024_0_0_0).toLoadRect f7), k0_pay302 (arg8.view.readAt (Elt F) (Rect.unit (s := S1x256x512) ![0, 0, 0] S1x256x512.size inb_S1x256x512_S1x256x512_0_0_0).toLoadRect f8)⟩
            ∧ (Go F → ∀ h : Fin 8, arg13.view.readAt (Elt F) (rA h).toLoadRect f13' = (fin (arg6.view.readAt (Elt F) rU.toLoadRect f6) (fun j => arg2.view.readAt (Elt F) (rK j h).toLoadRect f2)
                (arg4.view.readAt (Elt F) (rQ h).toLoadRect f4) (fun j => arg3.view.readAt (Elt F) (rV j h).toLoadRect f3) (i 1).val).2)⌝) -∗ Q r))
    ⊢ wp frame (wpE (defs₀ (F := F)) Variants.nat c none) Set.univ (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H8, H9, H10, H11, H12, H13, H14, H15, H16, Hk⟩
  sl_exec_parts! (disch := first | exact h1 | exact h2)
  iapply (tail43 c i arg2 harg2 arg3 harg3 arg4 harg4 arg5 arg6 harg6 arg7 arg8 arg9 arg10 arg11 arg12 harg12 arg13 harg13 arg14 harg14 arg15 harg15 arg16 _ _ 0 (by omega) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro %r %k12 %k13 %k14 %k15 %k16 ⟨H2, H3, H4, H5, H6, H7, H8, H9, H10, H11, H12, H13, H14, H15, H16, %hr⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  refine ⟨hr.1, fun hgo h => (hr.2 hgo h).trans ?_⟩
  refine Eq.trans (b := (runB (arg6.view.readAt (Elt F) rU.toLoadRect f6) (fun j => arg2.view.readAt (Elt F) (rK j h).toLoadRect f2) (arg4.view.readAt (Elt F) (rQ h).toLoadRect f4) (fun j => arg3.view.readAt (Elt F) (rV j h).toLoadRect f3) 0
    (stepB mkD (arg6.view.readAt (Elt F) rU.toLoadRect f6) (kW c arg2 f2 _ _ (mulW (i 1)).1 h) (arg4.view.readAt (Elt F) (rQ h).toLoadRect f4) (vW c arg3 f3 _ _ (mulW (i 1)).2 h) st0)).2) (congrArg (fun s => (runB _ _ _ _ 0 s).2) (Prod.ext ?_ ?_)) ?_
  · dsimp only
    sl_open_run
    match h with
    | 0 | 1 | 2 | 3 | 4 | 5 | 6 | 7 =>
      repeat refine (rd_skip _ _ _ _ _ _ (by decide)).trans ?_
      refine (rd_hit _ _ _ _ _).trans ?_
      simp (disch := decide) only [↓View.readCov_skip, ↓View.readCov_fill, ↓View.readCov_cons_toLoadRect]
      rfl
  · dsimp only
    sl_open_run
    match h with
    | 0 | 1 | 2 | 3 | 4 | 5 | 6 | 7 =>
      repeat refine (rd_skip _ _ _ _ _ _ (by decide)).trans ?_
      refine (rd_hit _ _ _ _ _).trans ?_
      simp (disch := decide) only [↓View.readCov_skip, ↓View.readCov_fill, ↓View.readCov_cons_toLoadRect]
      rfl
  · rw [kW_eq, vW_eq, hq]; rfl

end

end Cert.Proof.PI

end
-- ==== Proof.Case1.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Tail
public import proofs.«01_k».proof.Proof.Words
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section
variable (c : Dev nD) (i : grid0.Coords)
  (arg2 : Memref sig .tc .vmem S1x2048x512 .bf16) (harg2 : arg2.IsWhole)
  (arg3 : Memref sig .tc .vmem S1x8x512x256 .bf16) (harg3 : arg3.IsWhole)
  (arg4 : Memref sig .tc .vmem S1x8x128x256 .bf16) (harg4 : arg4.IsWhole)
  (arg5 : Memref sig .tc .vmem S1x256x512 .f32) (harg5 : arg5.IsWhole)
  (arg6 : Memref sig .tc .vmem S256x256 .bf16) (harg6 : arg6.IsWhole)
  (arg7 : Memref sig .tc .vmem S1x256x1024 .f32) (harg7 : arg7.IsWhole)
  (arg8 : Memref sig .tc .vmem S1x256x512 .bf16) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x256x1024 .f32) (harg11 : arg11.IsWhole)
  (arg12 : Memref sig .tc .vmem S8x1x256 .f32) (harg12 : arg12.IsWhole)
  (arg13 : Memref sig .tc .vmem S512x256 .f32) (harg13 : arg13.IsWhole)
  (arg14 : Memref sig .tc .vmem S8x256x256 .f32) (harg14 : arg14.IsWhole)
  (arg15 : Memref sig .tc .vmem S8x256x256 .f32) (harg15 : arg15.IsWhole)
  (arg16 : Memref sig .tc .smem S1 .f32) (harg16 : arg16.IsWhole)

set_option maxHeartbeats 8000000 in
/-- The other rows of queries: the diagonal block and the one below it. -/
theorem case1 (h1 : ¬ k0_cond1 i = 1#1) (h2 : k0_cond2 i = 1#1) (m : ℕ) (hq : (i 1).val = m + 1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (Q : (Σ' (v23 : FVec F S256x512 .bf16) (v25 : FVec F S256x1024 .f32), FVec F S256x512 .bf16) → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ r : (Σ' (v23 : FVec F S256x512 .bf16) (v25 : FVec F S256x1024 .f32), FVec F S256x512 .bf16), ∀ f12' f13' f14' f15' f16',
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12' ∗ pt c arg13 f13' ∗ pt c arg14 f14' ∗ pt c arg15 f15' ∗ pt c arg16 f16'
          ∗ ⌜r = ⟨k0_pay300 (arg13.view.readAt (Elt F) (Rect.unit (s := S512x256) ![0, 0] S512x256.size inb_S512x256_S512x256_0_0).toLoadRect f13') (arg5.view.readAt (Elt F) (Rect.unit (s := S1x256x512) ![0, 0, 0] S1x256x512.size inb_S1x256x512_S1x256x512_0_0_0).toLoadRect f5),
            k0_pay301 (arg7.view.readAt (Elt F) (Rect.unit (s := S1x256x1024) ![0, 0, 0] S1x256x1024.size inb_S1x256x1024_S1x256x1024_0_0_0).toLoadRect f7), k0_pay302 (arg8.view.readAt (Elt F) (Rect.unit (s := S1x256x512) ![0, 0, 0] S1x256x512.size inb_S1x256x512_S1x256x512_0_0_0).toLoadRect f8)⟩
            ∧ (Go F → ∀ h : Fin 8, arg13.view.readAt (Elt F) (rA h).toLoadRect f13' = (fin (arg6.view.readAt (Elt F) rU.toLoadRect f6) (fun j => arg2.view.readAt (Elt F) (rK j h).toLoadRect f2)
                (arg4.view.readAt (Elt F) (rQ h).toLoadRect f4) (fun j => arg3.view.readAt (Elt F) (rV j h).toLoadRect f3) (i 1).val).2)⌝) -∗ Q r))
    ⊢ wp frame (wpE (defs₀ (F := F)) Variants.nat c none) Set.univ (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H8, H9, H10, H11, H12, H13, H14, H15, H16, Hk⟩
  sl_exec_parts! (disch := first | exact h1 | exact h2)
  iapply (tail43 c i arg2 harg2 arg3 harg3 arg4 harg4 arg5 arg6 harg6 arg7 arg8 arg9 arg10 arg11 arg12 harg12 arg13 harg13 arg14 harg14 arg15 harg15 arg16 _ _ m (by omega) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro %r %k12 %k13 %k14 %k15 %k16 ⟨H2, H3, H4, H5, H6, H7, H8, H9, H10, H11, H12, H13, H14, H15, H16, %hr⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  refine ⟨hr.1, fun hgo h => (hr.2 hgo h).trans ?_⟩
  refine Eq.trans (b := (runB (arg6.view.readAt (Elt F) rU.toLoadRect f6) (fun j => arg2.view.readAt (Elt F) (rK j h).toLoadRect f2) (arg4.view.readAt (Elt F) (rQ h).toLoadRect f4) (fun j => arg3.view.readAt (Elt F) (rV j h).toLoadRect f3) m
    (stepB id (arg6.view.readAt (Elt F) rU.toLoadRect f6) (kW c arg2 f2 _ _ (subW (i 1) m hq).1 h) (arg4.view.readAt (Elt F) (rQ h).toLoadRect f4) (vW c arg3 f3 _ _ (subW (i 1) m hq).2 h) (stepB mkD (arg6.view.readAt (Elt F) rU.toLoadRect f6) (kW c arg2 f2 _ _ (mulW (i 1)).1 h) (arg4.view.readAt (Elt F) (rQ h).toLoadRect f4) (vW c arg3 f3 _ _ (mulW (i 1)).2 h) st0))).2) (congrArg (fun s => (runB _ _ _ _ m s).2) (Prod.ext ?_ ?_)) ?_
  · dsimp only
    sl_open_run
    match h with
    | 0 | 1 | 2 | 3 | 4 | 5 | 6 | 7 =>
      repeat refine (rd_skip _ _ _ _ _ _ (by decide)).trans ?_
      refine (rd_hit _ _ _ _ _).trans ?_
      simp (disch := decide) only [↓View.readCov_skip, ↓View.readCov_fill, ↓View.readCov_cons_toLoadRect]
      rfl
  · dsimp only
    sl_open_run
    match h with
    | 0 | 1 | 2 | 3 | 4 | 5 | 6 | 7 =>
      repeat refine (rd_skip _ _ _ _ _ _ (by decide)).trans ?_
      refine (rd_hit _ _ _ _ _).trans ?_
      simp (disch := decide) only [↓View.readCov_skip, ↓View.readCov_fill, ↓View.readCov_cons_toLoadRect]
      rfl
  · rw [kW_eq, vW_eq, kW_eq, vW_eq, hq]; rfl

end

end Cert.Proof.PI

end
-- ==== Proof.Stick.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.ValueKit
public import Idealize.ShloMosaic.Lib.Pipeline.KitQuiescent
public import proofs.«01_k».proof.Proof.Case0
public import proofs.«01_k».proof.Proof.Case1
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The word of a number below 8 is zero exactly where the number is: the two branches of the body. -/
theorem condW : ∀ q : Fin 8, (Scalar.cmpi .ne (Scalar.extui (Scalar.cmpi .eq (BitVec.ofNat 32 q.val) 0#32) : BitVec 32) 0#32 = 1#1 ↔ q.val = 0)
    ∧ (Scalar.cmpi .ne (Scalar.extui (Scalar.cmpi .sgt (BitVec.ofNat 32 q.val) 0#32) : BitVec 32) 0#32 = 1#1 ↔ q.val ≠ 0) := by decide +kernel

/-- The accumulator of all the heads after a row of queries. -/
def accV (q : ℕ) (X2 : Vec F S1x2048x512 .bf16) (X3 : Vec F S1x8x512x256 .bf16) (X4 : Vec F S1x8x128x256 .bf16) (X6 : Vec F S256x256 .bf16) :
    Vec F S512x256 .f32 := fun x =>
  (fin (View.ld X6 rU) (fun j => View.ld X2 (rK j ⟨(x 0).val / 64, by have h : (x 0).val < 512 := (x 0).isLt; omega⟩)) (View.ld X4 (rQ ⟨(x 0).val / 64, by have h : (x 0).val < 512 := (x 0).isLt; omega⟩))
    (fun j => View.ld X3 (rV j ⟨(x 0).val / 64, by have h : (x 0).val < 512 := (x 0).isLt; omega⟩)) q).2
    fun | 0 => (⟨(x 0).val % 64, Nat.mod_lt _ (by decide)⟩ : Fin 64) | 1 => (x 1 : Fin 256)

/-- The block of the result. -/
def outV (q : ℕ) (X2 : Vec F S1x2048x512 .bf16) (X3 : Vec F S1x8x512x256 .bf16) (X4 : Vec F S1x8x128x256 .bf16) (X5 : Vec F S1x256x512 .f32)
    (X6 : Vec F S256x256 .bf16) (X7 : Vec F S1x256x1024 .f32) (X8 : Vec F S1x256x512 .bf16) (X9 X10 : Vec F S512x1024 .bf16) : Vec F S1x256x1024 .f32 :=
  k0_pay1 (k0_pay300 (accV q X2 X3 X4 X6) X5) (k0_pay301 X7) (k0_pay302 X8) X9 X10

/-- The accumulator is known from its eight heads' rows. -/
theorem acc_of_rows (q : ℕ) (X2 : Vec F S1x2048x512 .bf16) (X3 : Vec F S1x8x512x256 .bf16) (X4 : Vec F S1x8x128x256 .bf16) (X6 : Vec F S256x256 .bf16)
    (A : Vec F S512x256 .f32) (h : ∀ hd : Fin 8, View.ld A (rA hd) = (fin (View.ld X6 rU) (fun j => View.ld X2 (rK j hd)) (View.ld X4 (rQ hd)) (fun j => View.ld X3 (rV j hd)) q).2) :
    A = accV q X2 X3 X4 X6 := by
  funext x
  have hx : (x 0).val < 512 := (x 0).isLt
  unfold accV
  rw [← h]
  refine (View.ld_unit_apply_of A _ _ _ _ x fun a => ?_).symm
  match a with
  | 0 => show (x 0).val = 64 * ((x 0).val / 64) + (x 0).val % 64; omega
  | 1 => show (x 1).val = 0 + (x 1).val; omega

section
variable (c : Dev nD) (i : grid0.Coords)
  (arg2 : Memref sig .tc .vmem S1x2048x512 .bf16) (harg2 : arg2.IsWhole)
  (arg3 : Memref sig .tc .vmem S1x8x512x256 .bf16) (harg3 : arg3.IsWhole)
  (arg4 : Memref sig .tc .vmem S1x8x128x256 .bf16) (harg4 : arg4.IsWhole)
  (arg5 : Memref sig .tc .vmem S1x256x512 .f32) (harg5 : arg5.IsWhole)
  (arg6 : Memref sig .tc .vmem S256x256 .bf16) (harg6 : arg6.IsWhole)
  (arg7 : Memref sig .tc .vmem S1x256x1024 .f32) (harg7 : arg7.IsWhole)
  (arg8 : Memref sig .tc .vmem S1x256x512 .bf16) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x256x1024 .f32) (harg11 : arg11.IsWhole)
  (arg12 : Memref sig .tc .vmem S8x1x256 .f32) (harg12 : arg12.IsWhole)
  (arg13 : Memref sig .tc .vmem S512x256 .f32) (harg13 : arg13.IsWhole)
  (arg14 : Memref sig .tc .vmem S8x256x256 .f32) (harg14 : arg14.IsWhole)
  (arg15 : Memref sig .tc .vmem S8x256x256 .f32) (harg15 : arg15.IsWhole)
  (arg16 : Memref sig .tc .smem S1 .f32) (harg16 : arg16.IsWhole)

/-- The part of the body before the output projection. -/
theorem part43 (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (Q : (Σ' (v23 : FVec F S256x512 .bf16) (v25 : FVec F S256x1024 .f32), FVec F S256x512 .bf16) → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ r : (Σ' (v23 : FVec F S256x512 .bf16) (v25 : FVec F S256x1024 .f32), FVec F S256x512 .bf16), ∀ f12' f13' f14' f15' f16',
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12' ∗ pt c arg13 f13' ∗ pt c arg14 f14' ∗ pt c arg15 f15' ∗ pt c arg16 f16'
          ∗ ⌜r = ⟨k0_pay300 (arg13.view.readAt (Elt F) (Rect.unit (s := S512x256) ![0, 0] S512x256.size inb_S512x256_S512x256_0_0).toLoadRect f13') (arg5.view.readAt (Elt F) (Rect.unit (s := S1x256x512) ![0, 0, 0] S1x256x512.size inb_S1x256x512_S1x256x512_0_0_0).toLoadRect f5),
            k0_pay301 (arg7.view.readAt (Elt F) (Rect.unit (s := S1x256x1024) ![0, 0, 0] S1x256x1024.size inb_S1x256x1024_S1x256x1024_0_0_0).toLoadRect f7), k0_pay302 (arg8.view.readAt (Elt F) (Rect.unit (s := S1x256x512) ![0, 0, 0] S1x256x512.size inb_S1x256x512_S1x256x512_0_0_0).toLoadRect f8)⟩
            ∧ (Go F → ∀ h : Fin 8, arg13.view.readAt (Elt F) (rA h).toLoadRect f13' = (fin (arg6.view.readAt (Elt F) rU.toLoadRect f6) (fun j => arg2.view.readAt (Elt F) (rK j h).toLoadRect f2)
                (arg4.view.readAt (Elt F) (rQ h).toLoadRect f4) (fun j => arg3.view.readAt (Elt F) (rV j h).toLoadRect f3) (i 1).val).2)⌝) -∗ Q r))
    ⊢ wp frame (wpE (defs₀ (F := F)) Variants.nat c none) Set.univ (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  obtain ⟨e1, e2⟩ := condW (i 1)
  by_cases hq : (i 1).val = 0
  · exact case0 c i arg2 harg2 arg3 harg3 arg4 harg4 arg5 harg5 arg6 harg6 arg7 harg7 arg8 harg8 arg9 harg9 arg10 harg10 arg11 harg11 arg12 harg12 arg13 harg13 arg14 harg14 arg15 harg15 arg16 harg16 (e1.mpr hq) (fun h => e2.mp h hq) hq f2 f3 f4 f5 f6 f7 f8 f9 f10 f11 f12 f13 f14 f15 f16 Q
  · obtain ⟨m, hm⟩ := Nat.exists_eq_succ_of_ne_zero hq
    exact case1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => hq (e1.mp h)) (e2.mpr hq) m hm f2 f3 f4 f5 f6 f7 f8 f9 f10 f11 f12 f13 f14 f15 f16 Q

set_option maxHeartbeats 2000000 in
/-- The body at a grid point. -/
theorem stick_run (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ f11' f12' f13' f14' f15' f16',
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11' ∗ pt c arg12 f12' ∗ pt c arg13 f13' ∗ pt c arg14 f14' ∗ pt c arg15 f15' ∗ pt c arg16 f16'
          ∗ ⌜Go F → arg11.view.read (Elt F) f11' = outV (i 1).val (arg2.view.read (Elt F) f2) (arg3.view.read (Elt F) f3) (arg4.view.read (Elt F) f4) (arg5.view.read (Elt F) f5)
            (arg6.view.read (Elt F) f6) (arg7.view.read (Elt F) f7) (arg8.view.read (Elt F) f8) (arg9.view.read (Elt F) f9) (arg10.view.read (Elt F) f10)⌝) -∗ Q ⟨⟩))
    ⊢ wp frame (wpE (defs₀ (F := F)) Variants.nat c none) Set.univ (cc0_stick i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H8, H9, H10, H11, H12, H13, H14, H15, H16, Hk⟩
  unfold cc0_stick
  rw [wp_bind]
  iapply (part43 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro %r %k12 %k13 %k14 %k15 %k16 ⟨H2, H3, H4, H5, H6, H7, H8, H9, H10, H11, H12, H13, H14, H15, H16, %hr⟩
  obtain ⟨rfl, hacc⟩ := hr
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  intro hgo
  have e : View.ld (arg13.view.read (Elt F) k13) (Rect.unit (s := S512x256) ![0, 0] S512x256.size inb_S512x256_S512x256_0_0)
      = accV (i 1).val (arg2.view.read (Elt F) f2) (arg3.view.read (Elt F) f3) (arg4.view.read (Elt F) f4) (arg6.view.read (Elt F) f6) := by
    rw [View.ld_unit_lit _ _ (by decide)]
    exact acc_of_rows _ _ _ _ _ _ (hacc hgo)
  refine (View.read_writes_eq_canon _ _ _ fun y => ⟨_, List.mem_singleton.mpr rfl, View.mem_set_unit_zero (S := S1x256x1024) (off := ![0, 0, 0]) (by funext a; fin_cases a <;> rfl) inb_S1x256x1024_S1x256x1024_0_0_0 y⟩).trans ?_
  refine (View.canon_cons_unit_lit _ _ _ (by decide)).trans ?_
  sl_open_run
  simp only [View.readAt_eq_ld]
  unfold outV
  rw [← e]
  rw [View.ld_unit_lit _ _ (by decide), View.ld_unit_lit _ _ (by decide), View.ld_unit_lit _ _ (by decide), View.ld_unit_lit _ _ (by decide), View.ld_unit_lit _ _ (by decide), View.ld_unit_lit _ _ (by decide)]
  rfl

end

end Cert.Proof.PI

end
-- ==== Proof.Pure.lean ====
/- The mathematics of the stick-breaking weights, on the real numbers.

   A query at position `t` meets the keys in the order `t - 1, t - 2, …, 0`. Key `s` has a score; `lb` is the base 2
   logarithm of the probability of breaking the stick there and `om` that of not breaking it. The weight of key `s` is
   two to the power of `lb` at `s` plus the sum of `om` over the keys after it. The keys come in eight blocks of 256; a
   running sum `below` over the blocks met so far is carried from block to block. -/
module

public import Mathlib.Analysis.SpecialFunctions.Log.Basic
public import Mathlib.Analysis.SpecialFunctions.Pow.Real
public import Mathlib.Data.EReal.Operations
public import Mathlib.Algebra.BigOperators.Intervals
public import Mathlib.Algebra.BigOperators.Fin

@[expose] public section

noncomputable section

namespace Cert.Proof.Pure

/-- The base 2 logarithm of the logistic function of `z · ln 2`. -/
def lb (z : ℝ) : ℝ := min z 0 - Real.log (1 + Real.rpow 2 (0 - |z|)) * (Real.log 2)⁻¹

/-- The base 2 logarithm of one minus that. -/
def om (z : ℝ) : ℝ := lb z - z

/-- `om` of the score of key `s`, for the query at position `t`: zero at the keys that are not before it. -/
def omT (ζ : ℕ → ℝ) (t s : ℕ) : ℝ := if s < t then om (ζ s) else 0

/-- The sum of `om` over the keys from `a` on. -/
def below (ζ : ℕ → ℝ) (t a : ℕ) : ℝ := ∑ s ∈ Finset.Ico a 2048, omT ζ t s

/-- The weight of key `s` for the query at position `t`. -/
def wt (ζ : ℕ → ℝ) (t s : ℕ) : ℝ := if s < t then Real.rpow 2 (lb (ζ s) + below ζ t (s + 1)) else 0

/-- The sum over the later keys of a block and the sum over the blocks after it make the sum over all later keys. -/
theorem tail_sum (f : ℕ → ℝ) {j : ℕ} (hj : j < 8) (i : Fin 256) :
    (∑ i' : Fin 256, if i < i' then f (256 * j + i'.val) else 0) + ∑ s ∈ Finset.Ico (256 * (j + 1)) 2048, f s
      = ∑ s ∈ Finset.Ico (256 * j + i.val + 1) 2048, f s := by
  have h1 : (∑ i' : Fin 256, if i < i' then f (256 * j + i'.val) else 0) = ∑ s ∈ Finset.Ico (256 * j + i.val + 1) (256 * (j + 1)), f s := by
    have e : ∀ i' : Fin 256, (if i < i' then f (256 * j + i'.val) else 0) = (fun n : ℕ => if i.val < n then f (256 * j + n) else 0) i'.val :=
      fun _ => rfl
    rw [Finset.sum_congr rfl fun i' _ => e i', Fin.sum_univ_eq_sum_range (fun n : ℕ => if i.val < n then f (256 * j + n) else 0) 256,
      ← Finset.sum_filter, show (Finset.range 256).filter (fun n => i.val < n) = Finset.Ico (i.val + 1) 256 from by
        ext n; simp only [Finset.mem_filter, Finset.mem_range, Finset.mem_Ico]; omega,
      Finset.sum_Ico_add (fun n => f n) (i.val + 1) 256 (256 * j), show i.val + 1 + 256 * j = 256 * j + i.val + 1 by omega,
      show 256 + 256 * j = 256 * (j + 1) by omega]
  rw [h1, Finset.sum_Ico_consecutive _ (by have := i.isLt; omega) (by omega)]

/-- All of a block and the blocks after it. -/
theorem block_sum (f : ℕ → ℝ) {j : ℕ} (hj : j < 8) :
    (∑ i : Fin 256, f (256 * j + i.val)) + ∑ s ∈ Finset.Ico (256 * (j + 1)) 2048, f s = ∑ s ∈ Finset.Ico (256 * j) 2048, f s := by
  have h1 : (∑ i : Fin 256, f (256 * j + i.val)) = ∑ s ∈ Finset.Ico (256 * j) (256 * (j + 1)), f s := by
    rw [Fin.sum_univ_eq_sum_range (fun n : ℕ => f (256 * j + n)) 256, Finset.range_eq_Ico,
      Finset.sum_Ico_add (fun n => f n) 0 256 (256 * j)]
    congr 2 <;> omega
  rw [h1, Finset.sum_Ico_consecutive _ (by omega) (by omega)]

/-- Nothing is summed from the query's own position on. -/
theorem below_of_le {ζ : ℕ → ℝ} {t a : ℕ} (h : t ≤ a) : below ζ t a = 0 :=
  Finset.sum_eq_zero fun s hs => if_neg (by rw [Finset.mem_Ico] at hs; omega)

/-- The first term and the rest. -/
theorem head_tail (f : Fin 256 → ℝ) : f 0 + (∑ i : Fin 256, if 0 < i then f i else 0) = ∑ i, f i := by
  rw [Fin.sum_univ_succ (fun i : Fin 256 => if 0 < i then f i else 0), Fin.sum_univ_succ f, if_neg (lt_irrefl _), zero_add]
  exact congrArg (f 0 + ·) (Finset.sum_congr rfl fun i _ => if_pos i.succ_pos)

/-- A finite sum of real numbers among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real factor that is not negative goes into a finite sum. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem rpow_nonneg (a : ℝ) : 0 ≤ Real.rpow 2 a := (Real.rpow_pos_of_pos two_pos a).le

/-- Two to a sum. -/
theorem rpow_two_add (a b : ℝ) : Real.rpow 2 a * Real.rpow 2 b = Real.rpow 2 (a + b) := (Real.rpow_add two_pos a b).symm

/-- The base 2 logarithm of the logistic function, in the natural base. -/
theorem lb_mul (z : ℝ) : lb (z * (Real.log 2)⁻¹) * Real.log 2 = -(max (-z) 0 + Real.log (1 + Real.exp (-|(-z)|))) := by
  have h2 : 0 < Real.log 2 := Real.log_pos one_lt_two
  have hi : 0 < (Real.log 2)⁻¹ := inv_pos.mpr h2
  have e1 : min (z * (Real.log 2)⁻¹) 0 * Real.log 2 = min z 0 := by
    rw [min_mul_of_nonneg _ _ h2.le, mul_assoc, inv_mul_cancel₀ h2.ne', mul_one, zero_mul]
  have e2 : Real.rpow 2 (0 - |z * (Real.log 2)⁻¹|) = Real.exp (-|(-z)|) := by
    show (2 : ℝ) ^ (0 - |z * (Real.log 2)⁻¹|) = _
    rw [Real.rpow_def_of_pos two_pos, abs_mul, abs_of_pos hi, abs_neg, zero_sub, mul_neg, mul_comm |z|, ← mul_assoc,
      mul_inv_cancel₀ h2.ne', one_mul]
  rw [lb, sub_mul, e1, e2, mul_assoc, inv_mul_cancel₀ h2.ne', mul_one, neg_add, ← min_neg_neg, neg_neg, neg_zero, sub_eq_add_neg]

/-- The base 2 logarithm of one minus the logistic function is that of the negated score. -/
theorem om_mul (z : ℝ) : om (z * (Real.log 2)⁻¹) * Real.log 2 = -(max (-(-z)) 0 + Real.log (1 + Real.exp (-|(-(-z))|))) := by
  have h2 : 0 < Real.log 2 := Real.log_pos one_lt_two
  rw [om, sub_mul, lb_mul, mul_assoc, inv_mul_cancel₀ h2.ne', mul_one, abs_neg, neg_neg]
  have : max (-z) 0 + z = max z 0 := by
    rcases le_total z 0 with h | h
    · rw [max_eq_left (by linarith), max_eq_right h]; ring
    · rw [max_eq_right (by linarith), max_eq_left h]; ring
  linarith

/-- The exponential of a scaled exponent is a power of two. -/
theorem exp_mul_log (x : ℝ) : Real.exp (x * Real.log 2) = Real.rpow 2 x := by
  rw [mul_comm]; exact (Real.rpow_def_of_pos two_pos x).symm

/-- The weight from the natural logarithms. -/
theorem exp_tail (ζ : ℕ → ℝ) (t : ℕ) {s : ℕ} (hs : s < 2048) :
    Real.exp (lb (ζ s) * Real.log 2 + ((∑ a ∈ Finset.Ico s 2048, omT ζ t a * Real.log 2) - omT ζ t s * Real.log 2))
      = Real.rpow 2 (lb (ζ s) + below ζ t (s + 1)) := by
  rw [← Finset.sum_mul, Finset.sum_eq_sum_Ico_succ_bot hs, add_mul, add_sub_cancel_left, ← add_mul, exp_mul_log, below]

end Cert.Proof.Pure

end
-- ==== Proof.Blk.lean ====
/- One block of keys on the extended reals: what it adds to the running sum and to the accumulator. -/
module

public import proofs.«01_k».proof.Proof.Tail
public import proofs.«01_k».proof.Proof.Pure
public import Idealize.ShloMosaic.Lib.Pointwise
public import Idealize.ShloMosaic.Lib.WordCmp

@[expose] public section

set_option maxRecDepth 16384

noncomputable section

namespace Cert.Proof.PI

open Cert.KernelIdeal Cert.KernelIdeal.Gen
open Idealize.ShloMosaic Idealize.ShloMosaic.TcCoe

/-- The named factor is the reciprocal of the natural logarithm of two. -/
theorem named_inv : Named.named (F := Ideal) κ "inv_ln2" (φ := .f32) 0x3FB8AA3B#32 = (((Real.log 2)⁻¹ : ℝ) : EReal) :=
  IdealRules.named_const.ideal_named_scalar _ _ _ _ rfl

theorem zM_apply (z : FVec Ideal S1x256x256 .f32) (i c : Fin 256) : zM z (ix2 i c) = z (ix3 0 i c) := by pointwise [zM]

/-- The logarithm of the break probability at a real score. -/
theorem lbU_apply (z : FVec Ideal S1x256x256 .f32) (i c : Fin 256) (r : ℝ) (h : z (ix3 0 i c) = (r : EReal)) :
    lbU z (ix2 i c) = ((Pure.lb r : ℝ) : EReal) := by
  have ha : max (r : EReal) (-(r : EReal)) = ((|r| : ℝ) : EReal) := by
    rw [← EReal.coe_neg, ← EReal.coe_strictMono.monotone.map_max]; rfl
  have hm : min (r : EReal) 0 = ((min r 0 : ℝ) : EReal) := by
    rw [← EReal.coe_zero, ← EReal.coe_strictMono.monotone.map_min]
  have hp : 0 < 1 + Real.rpow 2 (0 - |r|) := add_pos one_pos (Real.rpow_pos_of_pos two_pos _)
  pointwise [lbU, zM, h]
  rw [named_inv, show FloatOps.absf (F := Ideal) (φ := .f32) (r : EReal) = ((|r| : ℝ) : EReal) from ha, ← EReal.coe_zero,
    ← EReal.coe_sub, show FloatOps.exp2 (F := Ideal) (φ := .f32) ((0 - |r| : ℝ) : EReal) = ((Real.rpow 2 (0 - |r|) : ℝ) : EReal) from rfl,
    ← EReal.coe_one, ← EReal.coe_add, Ideal.log_coe, if_neg (not_le.mpr hp), ← EReal.coe_mul, EReal.coe_zero, hm, ← EReal.coe_sub, Pure.lb]

theorem omU_apply (z : FVec Ideal S1x256x256 .f32) (i c : Fin 256) (r : ℝ) (h : z (ix3 0 i c) = (r : EReal)) :
    omU z (ix2 i c) = ((Pure.om r : ℝ) : EReal) := by
  rw [omU, subf_apply, lbU_apply z i c r h, zM_apply, h, Ideal.subf_def, ← EReal.coe_sub, Pure.om]

theorem sufR_apply (U : Vec Ideal S256x256 .bf16) (o : FVec Ideal S256x256 .f32) (i c : Fin 256) :
    sufR U o (ix2 i c) = ∑ k : Fin 256, U (ix2 i k) * o (ix2 k c) := by
  pointwise [sufR]

theorem mkD_apply (x : FVec Ideal S256x256 .f32) (i c : Fin 256) : mkD x (ix2 i c) = if i < c then x (ix2 i c) else 0 := by
  have hi := i.isLt
  have hc := c.isLt
  pointwise [mkD]
  rw [WordCmp.cmpi_slt_ofNat (by omega) (by omega), WordCmp.select_ofBool]
  simp only [decide_eq_true_eq, Fin.lt_def]

theorem belR_apply (U : Vec Ideal S256x256 .bf16) (o : FVec Ideal S256x256 .f32) (B : Vec Ideal S1x1x256 .f32) (c : Fin 256) :
    belR U o B (ix3 0 0 c) = B (ix3 0 0 c) + o (ix2 0 c) + sufR U o (ix2 0 c) := by
  pointwise [belR]

theorem accR_apply (mk : FVec Ideal S256x256 .f32 → FVec Ideal S256x256 .f32) (l : FVec Ideal S1x256x256 .f32) (V : Vec Ideal S1x1x64x256 .bf16)
    (B : Vec Ideal S1x1x256 .f32) (A : Vec Ideal S64x256 .f32) (d : Fin 64) (c : Fin 256) :
    accR mk l V B A (ix2 d c) = A (ix2 d c) + (∑ i : Fin 256, V (ix4 0 0 d i) * mk (exp2 (zM l)) (ix2 i c)) * Ideal.exp2 (B (ix3 0 0 c)) := by
  pointwise [accR]
  rfl

theorem lbsR_apply (U : Vec Ideal S256x256 .bf16) (l o : FVec Ideal S256x256 .f32) (i c : Fin 256) :
    zM (lbsR U l o) (ix2 i c) = l (ix2 i c) + sufR U o (ix2 i c) := by
  rw [zM_apply]
  pointwise [lbsR]

section
variable (mk : FVec Ideal S256x256 .f32 → FVec Ideal S256x256 .f32) (U : Vec Ideal S256x256 .bf16) (K : Vec Ideal S1x256x128 .bf16)
  (Q : Vec Ideal S1x1x128x256 .bf16) (V : Vec Ideal S1x1x64x256 .bf16) (s : St Ideal) (ζ : Fin 256 → ℕ → ℝ) (T : Fin 256 → ℕ)
  (v : ℕ → Fin 64 → EReal) {j : ℕ} (hj : j < 8)
  (hU : ∀ i k : Fin 256, U (ix2 i k) = if i < k then 1 else 0)
  (hz : ∀ i c : Fin 256, zR K Q (ix3 0 i c) = ((ζ c (256 * j + i.val) : ℝ) : EReal))
  (hV : ∀ (d : Fin 64) (i : Fin 256), V (ix4 0 0 d i) = v (256 * j + i.val) d)
  (hmk : ∀ (x : FVec Ideal S256x256 .f32) (i c : Fin 256), mk x (ix2 i c) = if 256 * j + i.val < T c then x (ix2 i c) else 0)
  (hB : ∀ c : Fin 256, s.1 (ix3 0 0 c) = ((Pure.below (ζ c) (T c) (256 * (j + 1)) : ℝ) : EReal))

include hz hmk in
/-- The logarithm of not breaking, zero at the keys that are not before the query. -/
theorem om_apply (i c : Fin 256) : mk (omU (zR K Q)) (ix2 i c) = ((Pure.omT (ζ c) (T c) (256 * j + i.val) : ℝ) : EReal) := by
  rw [hmk, Pure.omT]
  split
  · exact omU_apply _ i c _ (hz i c)
  · exact EReal.coe_zero.symm

include hj hU hz hmk in
/-- The sums over the later keys of the block. -/
theorem suf_apply (i c : Fin 256) : sufR U (mk (omU (zR K Q))) (ix2 i c)
    = ((∑ k : Fin 256, if i < k then Pure.omT (ζ c) (T c) (256 * j + k.val) else 0 : ℝ) : EReal) := by
  rw [sufR_apply, ← Pure.coe_sum]
  refine Finset.sum_congr rfl fun k _ => ?_
  rw [hU, om_apply mk K Q ζ T hz hmk]
  split
  · rw [one_mul]
  · rw [zero_mul, EReal.coe_zero]

include hj hU hz hmk hB in
/-- The running sum after the block. -/
theorem step_below (c : Fin 256) : (stepB mk U K Q V s).1 (ix3 0 0 c) = ((Pure.below (ζ c) (T c) (256 * j) : ℝ) : EReal) := by
  show bB mk U K Q s.1 (ix3 0 0 c) = _
  rw [bB, belR_apply, hB, om_apply mk K Q ζ T hz hmk, suf_apply mk U K Q ζ T hj hU hz hmk, ← EReal.coe_add, ← EReal.coe_add, add_assoc,
    Pure.head_tail fun i => Pure.omT (ζ c) (T c) (256 * j + i.val), add_comm]
  exact congrArg _ (Pure.block_sum _ hj)

include hj hU hz hV hmk hB in
/-- The accumulator after the block. -/
theorem step_acc (d : Fin 64) (c : Fin 256) : (stepB mk U K Q V s).2 (ix2 d c)
    = s.2 (ix2 d c) + ∑ i : Fin 256, v (256 * j + i.val) d * ((Pure.wt (ζ c) (T c) (256 * j + i.val) : ℝ) : EReal) := by
  show bA mk U K Q V s.1 s.2 (ix2 d c) = _
  rw [bA, accR_apply, hB, Ideal.exp2_coe, Pure.sum_mul_coe _ _ (Pure.rpow_nonneg _)]
  refine congrArg _ (Finset.sum_congr rfl fun i _ => ?_)
  rw [hV, hmk, mul_assoc, Pure.wt]
  refine congrArg _ ?_
  split
  · show Ideal.exp2 (zM (F := Ideal) _ (ix2 i c)) * _ = _
    rw [lbsR_apply, lbU_apply _ i c _ (hz i c), suf_apply mk U K Q ζ T hj hU hz hmk, ← EReal.coe_add, Ideal.exp2_coe, ← EReal.coe_mul,
      Pure.rpow_two_add, add_assoc]
    exact congrArg (fun x : ℝ => ((Real.rpow 2 (_ + x) : ℝ) : EReal)) (Pure.tail_sum _ hj i)
  · rw [zero_mul, EReal.coe_zero]

end

section
variable (U : Vec Ideal S256x256 .bf16) (K : ℕ → Vec Ideal S1x256x128 .bf16)
  (Q : Vec Ideal S1x1x128x256 .bf16) (V : ℕ → Vec Ideal S1x1x64x256 .bf16) (ζ : Fin 256 → ℕ → ℝ)
  (v : ℕ → Fin 64 → EReal) {q : ℕ} (hq : q < 8)
  (hU : ∀ i k : Fin 256, U (ix2 i k) = if i < k then 1 else 0)
  (hz : ∀ j < 8, ∀ i c : Fin 256, zR (K j) Q (ix3 0 i c) = ((ζ c (256 * j + i.val) : ℝ) : EReal))
  (hV : ∀ j < 8, ∀ (d : Fin 64) (i : Fin 256), V j (ix4 0 0 d i) = v (256 * j + i.val) d)

/-- The sum over a block's positions. -/
theorem block_range (f : ℕ → EReal) (m : ℕ) :
    (∑ s ∈ Finset.range (256 * m), f s) + ∑ i : Fin 256, f (256 * m + i.val) = ∑ s ∈ Finset.range (256 * (m + 1)), f s := by
  rw [Fin.sum_univ_eq_sum_range (fun n => f (256 * m + n)) 256, ← Finset.sum_range_add, Nat.mul_succ]

include hq hU hz hV in
/-- The blocks below the diagonal one. -/
theorem run_acc (d : Fin 64) (c : Fin 256) : ∀ (m : ℕ), m ≤ q → ∀ s : St Ideal,
    (∀ c : Fin 256, s.1 (ix3 0 0 c) = ((Pure.below (ζ c) (256 * q + c.val) (256 * m) : ℝ) : EReal)) →
    (runB U K Q V m s).2 (ix2 d c)
      = s.2 (ix2 d c) + ∑ s ∈ Finset.range (256 * m), v s d * ((Pure.wt (ζ c) (256 * q + c.val) s : ℝ) : EReal)
  | 0, _, s, _ => by simp [runB]
  | m + 1, hm, s, hs => by
    have hid : ∀ (x : FVec Ideal S256x256 .f32) (i c : Fin 256), id x (ix2 i c) = if 256 * m + i.val < 256 * q + c.val then x (ix2 i c) else 0 :=
      fun x i c => (if_pos (by have := i.isLt; omega)).symm
    rw [runB, run_acc d c m (by omega) _ fun c => step_below id U (K m) Q (V m) s ζ (fun c => 256 * q + c.val) (by omega) hU (hz m (by omega)) hid hs c,
      step_acc id U (K m) Q (V m) s ζ (fun c => 256 * q + c.val) v (by omega) hU (hz m (by omega)) (hV m (by omega)) hid hs d c,
      add_assoc, ← block_range (fun s => v s d * ((Pure.wt (ζ c) (256 * q + c.val) s : ℝ) : EReal)) m]
    exact congrArg _ (add_comm _ _)

include hq hU hz hV in
/-- A head's accumulator after all the blocks: the values of all the keys by their weights. -/
theorem fin_acc (d : Fin 64) (c : Fin 256) : (fin U K Q V q).2 (ix2 d c)
    = ∑ s ∈ Finset.range 2048, v s d * ((Pure.wt (ζ c) (256 * q + c.val) s : ℝ) : EReal) := by
  have hD : ∀ (x : FVec Ideal S256x256 .f32) (i c : Fin 256), mkD x (ix2 i c) = if 256 * q + i.val < 256 * q + c.val then x (ix2 i c) else 0 :=
    fun x i c => (mkD_apply x i c).trans (if_congr (by rw [Fin.lt_def]; omega) rfl rfl)
  have h0 : ∀ c : Fin 256, (st0 (F := Ideal)).1 (ix3 0 0 c) = ((Pure.below (ζ c) (256 * q + c.val) (256 * (q + 1)) : ℝ) : EReal) := fun c => by
    rw [Pure.below_of_le (by have := c.isLt; omega), EReal.coe_zero]
    exact Ideal.ofBits_zero_f32
  have h1 : (st0 (F := Ideal)).2 (ix2 d c) = 0 := Ideal.ofBits_zero_f32
  rw [fin, run_acc U K Q V ζ v hq hU hz hV d c q le_rfl _ fun c => step_below mkD U (K q) Q (V q) st0 ζ (fun c => 256 * q + c.val) hq hU (hz q hq) hD h0 c,
    step_acc mkD U (K q) Q (V q) st0 ζ (fun c => 256 * q + c.val) v hq hU (hz q hq) (hV q hq) hD h0 d c, h1, zero_add, add_comm,
    block_range (fun s => v s d * ((Pure.wt (ζ c) (256 * q + c.val) s : ℝ) : EReal)) q]
  refine Finset.sum_subset (fun s hs => ?_) fun s _ hs => ?_
  · rw [Finset.mem_range] at hs ⊢; omega
  · rw [Finset.mem_range] at hs
    rw [Pure.wt, if_neg (by have := c.isLt; omega), EReal.coe_zero, mul_zero]

end

end Cert.Proof.PI

end
-- ==== Proof.Obl.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Stick
public import proofs.«01_k».proof.Proof.Gen.KernelIdeal.Launch
public import proofs.«01_k».proof.Proof.Gen.KernelIdeal.Points
public import Idealize.ShloMosaic.Lib.Pipeline.ValueKit
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The host operations before the launch. -/
abbrev opss : List (List (HloOp τ sig (Elt F))) := [hostOps0, hostOps0_1, hostOps0_2, hostOps0_3, hostOps0_4]

/-- A core's buffers as the launch finds them. -/
abbrev V (c : Dev nD) (b : Ref sig .tc) : Buf (Elt F) ((c : Thread nD τ).loc b) :=
  StableHlo.after (opss (F := F)).flatten (fun b => m (c, b)) b

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves in the result's buffer at point `t`. -/
def outsAt (c : Dev nD) (t : Fin (cfg0 (F := F)).N) : Vec F S1x256x1024 .f32 :=
  outV ((grid0.coords t) 1).val (iblk m c 0 t) (iblk m c 1 t) (iblk m c 2 t) (iblk m c 3 t) (iblk m c 4 t) (iblk m c 5 t) (iblk m c 6 t)
    (iblk m c 7 t) (iblk m c 8 t)

/-- The proof data: the inputs' buffers keep their blocks, the result's holds the computed block. -/
def dats (_ : Fin 1) (c : Dev nD) : Dat τ (Elt F) Unit ℕ (UU nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem before_of {c : Dev nD} (w : Fin (cfg0 (F := F)).W) (hw : ((cfg0 (F := F)).win w).isOut = false) (hl : ∀ i, (cfg0 (F := F)).idle w i = false)
    (hc : ∀ t t' : Fin (cfg0 (F := F)).N, ((cfg0 (F := F)).win w).clip ((cfg0 (F := F)).grid.coords t) = ((cfg0 (F := F)).win w).clip ((cfg0 (F := F)).grid.coords t'))
    (hk : ∀ t, ((cfg0 (F := F)).win w).cut ((cfg0 (F := F)).grid.coords t) ((dats m 0 c).after w t) = iblk m c w t)
    (t : Fin (cfg0 (F := F)).N) (d) : (dats m 0 c).before w t d = ((cfg0 (F := F)).win w).fill ((cfg0 (F := F)).grid.coords t) d (iblk m c w t) :=
  (dats m 0 c).before_in_eq_fetched w hw hl (fun t t' _ => hc t t') hk t d

theorem before_0 (c : Dev nD) (t : Fin (cfg0 (F := F)).N) (d) : (dats m 0 c).before 0 t d = iblk m c 0 t :=
  before_of m 0 rfl (fun _ => rfl) (fun _ _ => rfl) (fun _ => rfl) t d
theorem before_1 (c : Dev nD) (t : Fin (cfg0 (F := F)).N) (d) : (dats m 0 c).before 1 t d = iblk m c 1 t :=
  before_of m 1 rfl (fun _ => rfl) (fun _ _ => rfl) (fun _ => rfl) t d
theorem before_2 (c : Dev nD) (t : Fin (cfg0 (F := F)).N) (d) : (dats m 0 c).before 2 t d = iblk m c 2 t :=
  before_of m 2 rfl (fun _ => rfl) (fun _ _ => rfl) (fun _ => rfl) t d
theorem before_3 (c : Dev nD) (t : Fin (cfg0 (F := F)).N) (d) : (dats m 0 c).before 3 t d = iblk m c 3 t :=
  before_of m 3 rfl (fun _ => rfl) (fun _ _ => rfl) (fun _ => rfl) t d
theorem before_4 (c : Dev nD) (t : Fin (cfg0 (F := F)).N) (d) : (dats m 0 c).before 4 t d = iblk m c 4 t :=
  before_of m 4 rfl (fun _ => rfl) (fun _ _ => rfl) (fun _ => rfl) t d
theorem before_5 (c : Dev nD) (t : Fin (cfg0 (F := F)).N) (d) : (dats m 0 c).before 5 t d = iblk m c 5 t :=
  before_of m 5 rfl (fun _ => rfl) (fun _ _ => rfl) (fun _ => rfl) t d
theorem before_6 (c : Dev nD) (t : Fin (cfg0 (F := F)).N) (d) : (dats m 0 c).before 6 t d = iblk m c 6 t :=
  before_of m 6 rfl (fun _ => rfl) (fun _ _ => rfl) (fun _ => rfl) t d
theorem before_7 (c : Dev nD) (t : Fin (cfg0 (F := F)).N) (d) : (dats m 0 c).before 7 t d = iblk m c 7 t :=
  before_of m 7 rfl (fun _ => rfl) (fun _ _ => rfl) (fun _ => rfl) t d
theorem before_8 (c : Dev nD) (t : Fin (cfg0 (F := F)).N) (d) : (dats m 0 c).before 8 t d = iblk m c 8 t :=
  before_of m 8 rfl (fun _ => rfl) (fun _ _ => rfl) (fun _ => rfl) t d

/-- A whole buffer at contents that read `X` is owned at `X`. -/
theorem owns_of (c : Dev nD) {sp : Space} {S : Shape} {e : EltTy} (M : Memref sig .tc sp S e) (h : M.IsWhole) (f : Bf (F := F) c M)
    (X : S.Idx → Elt F e) (hX : M.view.read (Elt F) f = X) : (pt c M f : sProp 𝕄) ⊢ owns (c : Thread nD τ) M fullShare X := by
  unfold owns; rw [h.set_eq_univ]
  iintro H
  iexists f; isplitr; · ipureintro; exact hX
  iexact H

/-- A buffer owned is the buffer at some contents that read so. -/
theorem owns_elim (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  unfold owns; rw [h.set_eq_univ]

/-- The body's precondition at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d))
    ∗ (∃ d, owns (c : Thread nD τ) (st0_5 (F := F) t) fullShare ((dats m 0 c).before 5 t d))
    ∗ (∃ d, owns (c : Thread nD τ) (st0_6 (F := F) t) fullShare ((dats m 0 c).before 6 t d))
    ∗ (∃ d, owns (c : Thread nD τ) (st0_7 (F := F) t) fullShare ((dats m 0 c).before 7 t d))
    ∗ (∃ d, owns (c : Thread nD τ) (st0_8 (F := F) t) fullShare ((dats m 0 c).before 8 t d))
    ∗ (∃ X, owns (c : Thread nD τ) (st0_9 (F := F) t) fullShare X))

/-- And its postcondition. -/
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare (iblk m c 0 t)
    ∗ owns (c : Thread nD τ) (st0_1 (F := F) t) fullShare (iblk m c 1 t)
    ∗ owns (c : Thread nD τ) (st0_2 (F := F) t) fullShare (iblk m c 2 t)
    ∗ owns (c : Thread nD τ) (st0_3 (F := F) t) fullShare (iblk m c 3 t)
    ∗ owns (c : Thread nD τ) (st0_4 (F := F) t) fullShare (iblk m c 4 t)
    ∗ owns (c : Thread nD τ) (st0_5 (F := F) t) fullShare (iblk m c 5 t)
    ∗ owns (c : Thread nD τ) (st0_6 (F := F) t) fullShare (iblk m c 6 t)
    ∗ owns (c : Thread nD τ) (st0_7 (F := F) t) fullShare (iblk m c 7 t)
    ∗ owns (c : Thread nD τ) (st0_8 (F := F) t) fullShare (iblk m c 8 t)
    ∗ (∃ X, ⌜Go F → X = outsAt m c t⌝ ∗ owns (c : Thread nD τ) (st0_9 (F := F) t) fullShare X))

set_option backward.isDefEq.respectTransparency.types false in
set_option maxHeartbeats 2000000 in
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [before_0]
  simp only [before_1]
  simp only [before_2]
  simp only [before_3]
  simp only [before_4]
  simp only [before_5]
  simp only [before_6]
  simp only [before_7]
  simp only [before_8]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X, H9⟩⟩
  icases (owns_elim c (st0_0 (F := F) t) (hstage0_0 (((cfg0 (F := F)).slots t 0).cast nbuf0_0)) (iblk m c 0 t)) $$ H0 with ⟨%f0, %e0, H0⟩
  icases (owns_elim c (st0_1 (F := F) t) (hstage0_1 (((cfg0 (F := F)).slots t 1).cast nbuf0_1)) (iblk m c 1 t)) $$ H1 with ⟨%f1, %e1, H1⟩
  icases (owns_elim c (st0_2 (F := F) t) (hstage0_2 (((cfg0 (F := F)).slots t 2).cast nbuf0_2)) (iblk m c 2 t)) $$ H2 with ⟨%f2, %e2, H2⟩
  icases (owns_elim c (st0_3 (F := F) t) (hstage0_3 (((cfg0 (F := F)).slots t 3).cast nbuf0_3)) (iblk m c 3 t)) $$ H3 with ⟨%f3, %e3, H3⟩
  icases (owns_elim c (st0_4 (F := F) t) (hstage0_4 (((cfg0 (F := F)).slots t 4).cast nbuf0_4)) (iblk m c 4 t)) $$ H4 with ⟨%f4, %e4, H4⟩
  icases (owns_elim c (st0_5 (F := F) t) (hstage0_5 (((cfg0 (F := F)).slots t 5).cast nbuf0_5)) (iblk m c 5 t)) $$ H5 with ⟨%f5, %e5, H5⟩
  icases (owns_elim c (st0_6 (F := F) t) (hstage0_6 (((cfg0 (F := F)).slots t 6).cast nbuf0_6)) (iblk m c 6 t)) $$ H6 with ⟨%f6, %e6, H6⟩
  icases (owns_elim c (st0_7 (F := F) t) (hstage0_7 (((cfg0 (F := F)).slots t 7).cast nbuf0_7)) (iblk m c 7 t)) $$ H7 with ⟨%f7, %e7, H7⟩
  icases (owns_elim c (st0_8 (F := F) t) (hstage0_8 (((cfg0 (F := F)).slots t 8).cast nbuf0_8)) (iblk m c 8 t)) $$ H8 with ⟨%f8, %e8, H8⟩
  icases (owns_elim c (st0_9 (F := F) t) (hstage0_9 (((cfg0 (F := F)).slots t 9).cast nbuf0_9)) _) $$ H9 with ⟨%f9, %e9, H9⟩
  iapply (stick_run c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 f8 f9 s0 s1 s2 s3 s4 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  iintro %g9 %g12 %g13 %g14 %g15 %g16 ⟨H0, H1, H2, H3, H4, H5, H6, H7, H8, H9, S0, S1, S2, S3, S4, %hv⟩
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hp
  isplitl [Ho]; · iexact Ho
  isplitl [H0]; · iapply (owns_of c (st0_0 (F := F) t) (hstage0_0 (((cfg0 (F := F)).slots t 0).cast nbuf0_0)) f0 _ e0); iexact H0
  isplitl [H1]; · iapply (owns_of c (st0_1 (F := F) t) (hstage0_1 (((cfg0 (F := F)).slots t 1).cast nbuf0_1)) f1 _ e1); iexact H1
  isplitl [H2]; · iapply (owns_of c (st0_2 (F := F) t) (hstage0_2 (((cfg0 (F := F)).slots t 2).cast nbuf0_2)) f2 _ e2); iexact H2
  isplitl [H3]; · iapply (owns_of c (st0_3 (F := F) t) (hstage0_3 (((cfg0 (F := F)).slots t 3).cast nbuf0_3)) f3 _ e3); iexact H3
  isplitl [H4]; · iapply (owns_of c (st0_4 (F := F) t) (hstage0_4 (((cfg0 (F := F)).slots t 4).cast nbuf0_4)) f4 _ e4); iexact H4
  isplitl [H5]; · iapply (owns_of c (st0_5 (F := F) t) (hstage0_5 (((cfg0 (F := F)).slots t 5).cast nbuf0_5)) f5 _ e5); iexact H5
  isplitl [H6]; · iapply (owns_of c (st0_6 (F := F) t) (hstage0_6 (((cfg0 (F := F)).slots t 6).cast nbuf0_6)) f6 _ e6); iexact H6
  isplitl [H7]; · iapply (owns_of c (st0_7 (F := F) t) (hstage0_7 (((cfg0 (F := F)).slots t 7).cast nbuf0_7)) f7 _ e7); iexact H7
  isplitl [H8]; · iapply (owns_of c (st0_8 (F := F) t) (hstage0_8 (((cfg0 (F := F)).slots t 8).cast nbuf0_8)) f8 _ e8); iexact H8
  iexists _; isplitr; swap
  · iapply (owns_of c (st0_9 (F := F) t) (hstage0_9 (((cfg0 (F := F)).slots t 9).cast nbuf0_9)) g9 _ rfl); iexact H9
  ipureintro
  intro hgo
  refine (hv hgo).trans ?_
  rw [show (win0_0.stage ((cfg0 (F := F)).slots t 0)).view.read (Elt F) f0 = iblk m c 0 t from e0]
  rw [show (win0_1.stage ((cfg0 (F := F)).slots t 1)).view.read (Elt F) f1 = iblk m c 1 t from e1]
  rw [show (win0_2.stage ((cfg0 (F := F)).slots t 2)).view.read (Elt F) f2 = iblk m c 2 t from e2]
  rw [show (win0_3.stage ((cfg0 (F := F)).slots t 3)).view.read (Elt F) f3 = iblk m c 3 t from e3]
  rw [show (win0_4.stage ((cfg0 (F := F)).slots t 4)).view.read (Elt F) f4 = iblk m c 4 t from e4]
  rw [show (win0_5.stage ((cfg0 (F := F)).slots t 5)).view.read (Elt F) f5 = iblk m c 5 t from e5]
  rw [show (win0_6.stage ((cfg0 (F := F)).slots t 6)).view.read (Elt F) f6 = iblk m c 6 t from e6]
  rw [show (win0_7.stage ((cfg0 (F := F)).slots t 7)).view.read (Elt F) f7 = iblk m c 7 t from e7]
  rw [show (win0_8.stage ((cfg0 (F := F)).slots t 8)).view.read (Elt F) f8 = iblk m c 8 t from e8]
  rfl

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

end Cert.Proof.PI

end
-- ==== Proof.Host.lean ====
/- The arrays the host prepares for the call, as functions of the arguments and at an index. -/
module

public import proofs.«01_k».proof.Proof.Obl
public import Idealize.ShloMosaic.Lib.Pointwise
public import Idealize.ShloMosaic.Lib.WordCmp
public import Idealize.ShloMosaic.Lib.Tactic

@[expose] public section

set_option maxRecDepth 16384

noncomputable section

namespace Cert.Proof.PI

open Cert.KernelIdeal Cert.KernelIdeal.Gen
open Idealize.ShloMosaic Idealize.ShloMosaic.TcCoe

/-- The strict upper triangle of ones. -/
def hU : FVec Ideal S256x256 .bf16 :=
  uitofp .bf16 (cmpi .sgt (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 (iotaInDim S256 32 0))))

/-- The scaled queries, two heads side by side. -/
def hQ2 (q : FVec Ideal S8x2048x512 .f32) : FVec Ideal S8x4x128x2048 .f32 :=
  transpose S8x4x128x2048 [0, 1, 3, 2] (transpose S8x4x2048x128 [0, 2, 1, 3] (shapeCast S8x2048x4x128
    (mulf q (broadcastInDim S8x2048x512 ![] bcast_S_S8x2048x512 (Host.divf (constant S_ .f32 0x3E000000#32) (Host.log (constant S_ .f32 0x40000000#32)))))
    shapeCasts_S8x2048x512_S8x2048x4x128) transposes_S8x2048x4x128_S8x4x2048x128_0_2_1_3) transposes_S8x4x2048x128_S8x4x128x2048_0_1_3_2

/-- Whether a lane belongs to the first head of a pair. -/
def hM : IVec S128 1 := cmpi .slt (iotaInDim S128 32 0) (broadcastInDim S128 ![] bcast_S_S128 (constantI S_ 32 64#32))

/-- Two arrays interleaved along the second axis. -/
def hP (x y : FVec Ideal S8x4x128x2048 .f32) : FVec Ideal S8x8x128x2048 .bf16 :=
  truncf .bf16 (shapeCast S8x8x128x2048 (concatenate S8x4x2x128x2048 2
    [⟨S8x4x1x128x2048, broadcastInDim S8x4x1x128x2048 ![0, 1, 3, 4] bcast_S8x4x128x2048_S8x4x1x128x2048_0_1_3_4 x⟩,
     ⟨S8x4x1x128x2048, broadcastInDim S8x4x1x128x2048 ![0, 1, 3, 4] bcast_S8x4x128x2048_S8x4x1x128x2048_0_1_3_4 y⟩]
    concatenates_S8x4x1x128x2048_S8x4x1x128x2048_S8x4x2x128x2048_d2) shapeCasts_S8x4x2x128x2048_S8x8x128x2048) bitsLt_bf16_f32

/-- A choice by the lane. -/
def hS (x y : FVec Ideal S8x4x128x2048 .f32) : FVec Ideal S8x4x128x2048 .f32 :=
  select (broadcastInDim S8x4x128x2048 ![2, 3] bcast_S128x1_S8x4x128x2048_2_3 (broadcastInDim S128x1 ![0] bcast_S128_S128x1_0 hM)) x y

/-- Zeros. -/
def hZ : FVec Ideal S8x4x128x2048 .f32 := broadcastInDim S8x4x128x2048 ![] bcast_S_S8x4x128x2048 (constant S_ .f32 0x00000000#32)

/-- The queries of each head, zero at the lanes of the other head of its pair. -/
def hQ (q : FVec Ideal S8x2048x512 .f32) : FVec Ideal S8x8x128x2048 .bf16 := hP (hS (hQ2 q) hZ) (hS hZ (hQ2 q))

/-- The values, block by block and transposed. -/
def hV (v : FVec Ideal S8x2048x512 .f32) : FVec Ideal S8x8x512x256 .bf16 :=
  truncf .bf16 (transpose S8x8x512x256 [0, 1, 3, 2] (shapeCast S8x8x256x512 v shapeCasts_S8x2048x512_S8x8x256x512)
    transposes_S8x8x256x512_S8x8x512x256_0_1_3_2) bitsLt_bf16_f32

/-- The gate. -/
def hG (g : FVec Ideal S8x2048x512 .f32) : FVec Ideal S8x2048x512 .f32 :=
  mulf g (Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf g))))

/-- The output weights. -/
def hW (w : FVec Ideal S1x1024x1024 .f32) : FVec Ideal S1024x1024 .bf16 :=
  truncf .bf16 (shapeCast S1024x1024 w shapeCasts_S1x1024x1024_S1024x1024) bitsLt_bf16_f32

/-! ## At an index -/

theorem hU_apply (i k : Fin 256) : hU (ix2 i k) = if i < k then 1 else 0 := by
  have hi := i.isLt
  have hk := k.isLt
  pointwise [hU]
  rw [WordCmp.cmpi_sgt_ofNat (by omega) (by omega)]
  by_cases h : i < k
  · rw [if_pos h, show decide (k.val > i.val) = true from decide_eq_true h]
    exact congrArg (fun n : ℕ => ((n : ℝ) : EReal)) (show (BitVec.ofBool true).toNat = 1 from rfl) |>.trans (by simp)
  · rw [if_neg h, show decide (k.val > i.val) = false from decide_eq_false h]
    exact congrArg (fun n : ℕ => ((n : ℝ) : EReal)) (show (BitVec.ofBool false).toNat = 0 from rfl) |>.trans (by simp)

theorem eighth : Ideal.ofBits .f32 0x3E000000#32 = (((8 : ℝ)⁻¹ : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The scale: an eighth over the natural logarithm of two. -/
theorem scale_eq : Ideal.div (Ideal.ofBits .f32 0x3E000000#32) (Ideal.log (Ideal.ofBits .f32 0x40000000#32))
    = (((8 : ℝ)⁻¹ * (Real.log 2)⁻¹ : ℝ) : EReal) := by
  rw [eighth, two, Ideal.log_coe, if_neg (by norm_num), Ideal.div_coe (Real.log_pos one_lt_two).ne', ← EReal.coe_mul, one_div]

theorem hQ2_apply (q : FVec Ideal S8x2048x512 .f32) (b : Fin 8) (p : Fin 4) (l : Fin 128) (t : Fin 2048) :
    hQ2 q (ix4 b p l t) = q (ix3 b t ⟨p.val * 128 + l.val, by omega⟩) * (((8 : ℝ)⁻¹ * (Real.log 2)⁻¹ : ℝ) : EReal) := by
  pointwise [hQ2]
  rw [scale_eq]

theorem hP_cat (x y : FVec Ideal S8x4x1x128x2048 .f32) (b : Fin 8) (p : Fin 4) (r : Fin 2) (l : Fin 128) (t : Fin 2048) :
    concatenate S8x4x2x128x2048 2 [⟨S8x4x1x128x2048, x⟩, ⟨S8x4x1x128x2048, y⟩] concatenates_S8x4x1x128x2048_S8x4x1x128x2048_S8x4x2x128x2048_d2
      (ix5 b p r l t) = if r.val < 1 then x (ix5 b p 0 l t) else y (ix5 b p 0 l t) := by
  pointwise
  split
  · exact congrArg (fun a : Fin 1 => x (ix5 b p a l t)) (Subsingleton.elim _ _)
  · exact congrArg (fun a : Fin 1 => y (ix5 b p a l t)) (Subsingleton.elim _ _)

theorem hP_cast (x : FVec Ideal S8x4x2x128x2048 .f32) (b h : Fin 8) (l : Fin 128) (t : Fin 2048) :
    shapeCast S8x8x128x2048 x shapeCasts_S8x4x2x128x2048_S8x8x128x2048 (ix4 b h l t)
      = x (ix5 b ⟨h.val / 2, by omega⟩ ⟨h.val % 2, by omega⟩ l t) := by
  pointwise

theorem hP_apply (x y : FVec Ideal S8x4x128x2048 .f32) (b h : Fin 8) (l : Fin 128) (t : Fin 2048) :
    hP x y (ix4 b h l t) = if h.val % 2 < 1 then x (ix4 b ⟨h.val / 2, by omega⟩ l t) else y (ix4 b ⟨h.val / 2, by omega⟩ l t) := by
  rw [hP, truncf_apply, hP_cast, hP_cat]
  pointwise

theorem hS_apply (x y : FVec Ideal S8x4x128x2048 .f32) (b : Fin 8) (p : Fin 4) (l : Fin 128) (t : Fin 2048) :
    hS x y (ix4 b p l t) = if l.val < 64 then x (ix4 b p l t) else y (ix4 b p l t) := by
  have hl := l.isLt
  pointwise [hS, hM]
  rw [show (64#32 : BitVec 32) = BitVec.ofNat 32 64 from rfl, WordCmp.cmpi_slt_ofNat (by omega) (by omega), WordCmp.select_ofBool]
  simp only [decide_eq_true_eq]

theorem hZ_apply (b : Fin 8) (p : Fin 4) (l : Fin 128) (t : Fin 2048) : hZ (ix4 b p l t) = 0 := by pointwise [hZ]

theorem hQ_apply (q : FVec Ideal S8x2048x512 .f32) (b h : Fin 8) (l : Fin 128) (t : Fin 2048) :
    hQ q (ix4 b h l t) = if l.val / 64 = h.val % 2 then hQ2 q (ix4 b ⟨h.val / 2, by omega⟩ l t) else 0 := by
  have hl := l.isLt
  rw [hQ, hP_apply, hS_apply, hS_apply, hZ_apply]
  split_ifs <;> first | rfl | omega

theorem hV_apply (v : FVec Ideal S8x2048x512 .f32) (b j : Fin 8) (e : Fin 512) (i : Fin 256) :
    hV v (ix4 b j e i) = v (ix3 b ⟨j.val * 256 + i.val, by omega⟩ e) := by
  pointwise [hV]

theorem hG_apply (g : FVec Ideal S8x2048x512 .f32) (b : Fin 8) (t : Fin 2048) (e : Fin 512) :
    hG g (ix3 b t e) = g (ix3 b t e) * Ideal.div 1 (1 + Ideal.exp (-(g (ix3 b t e)))) := by
  pointwise [hG]

theorem hW_apply (w : FVec Ideal S1x1024x1024 .f32) (i j : Fin 1024) : hW w (ix2 i j) = w (ix3 0 i j) := by
  pointwise [hW]

end Cert.Proof.PI

end
-- ==== Proof.Ref.lean ====
/- The reference's result as a function of its arguments, and its parts at an index. -/
module

public import proofs.«01_k».proof.Proof.Gen.ReferenceIdeal.Run
public import proofs.«01_k».proof.Proof.Pure
public import Idealize.ShloMosaic.Lib.Pointwise
public import Idealize.ShloMosaic.Lib.WordCmp
public import Idealize.ShloMosaic.Lib.IdealHost

@[expose] public section

set_option maxRecDepth 16384

noncomputable section

namespace Cert.Proof.RI

open Cert.ReferenceIdeal Cert.ReferenceIdeal.Gen
open Idealize.ShloMosaic Idealize.ShloMosaic.TcCoe

abbrev T := FVec Ideal S8x8x2048x2048 .f32

def r0 : T := broadcastInDim S8x8x2048x2048 ![] bcast_S_S8x8x2048x2048 (constant S_ .f32 0x00000000#32)

/-- The scores. -/
def rZ (q k : FVec Ideal S8x2048x512 .f32) : T :=
  mulf (Host.dotGeneral dot_S8x2048x8x64_S8x2048x8x64_S8x8x2048x2048_3_3_1_1_02_02 none (shapeCast _ q shapeCasts_S8x2048x512_S8x2048x8x64)
    (shapeCast _ k shapeCasts_S8x2048x512_S8x2048x8x64)) (broadcastInDim S8x8x2048x2048 ![] bcast_S_S8x8x2048x2048 (constant S_ .f32 0x3E000000#32))

/-- The logarithm of the logistic function. -/
def rLS (x : T) : T :=
  Host.negf (select (cmpf .une (subf (Host.negf x) r0) (subf (Host.negf x) r0)) (addf (Host.negf x) r0)
    (addf (maximumf (Host.negf x) r0) (Host.log1p (Host.exp (Host.negf (Host.absf (subf (Host.negf x) r0)))))))

/-- A choice by whether the key is before the query. -/
def rS (x : T) : T :=
  select (broadcastInDim S8x8x2048x2048 ![2, 3] bcast_S2048x2048_S8x8x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))) x
    (broadcastInDim S8x8x2048x2048 ![] bcast_S_S8x8x2048x2048 (id (constant S_ .f32 0x00000000#32)))

/-- The sums from each key on. -/
def rC (x : T) : T :=
  Host.reduceWindowAdd ![1, 1, 1, 2048] ![1, 1, 1, 1] ![0, 0, 0, 0] ![0, 0, 0, 2047] x (broadcastInDim S_ ![] bcast_S_S_ (constant S_ .f32 0x00000000#32))
    reduceWindows_S8x8x2048x2048_S8x8x2048x2048_w1s1p0_0_w1s1p0_0_w1s1p0_0_w2048s1p0_2047 h_S_

/-- The attention weights from the scores. -/
def rA (z : T) : T := rS (Host.exp (addf (rLS z) (subf (rC (rS (rLS (Host.negf z)))) (rS (rLS (Host.negf z))))))

/-- The heads' outputs side by side. -/
def rO (v : FVec Ideal S8x2048x512 .f32) (a : T) : FVec Ideal S8x2048x512 .f32 :=
  shapeCast _ (transpose S8x2048x8x64 [0, 3, 1, 2] (Host.dotGeneral dot_S8x2048x8x64_S8x8x2048x2048_S8x8x64x2048_1_3_3_2_02_01 none
    (shapeCast _ v shapeCasts_S8x2048x512_S8x2048x8x64) a) transposes_S8x8x64x2048_S8x2048x8x64_0_3_1_2) shapeCasts_S8x2048x8x64_S8x2048x512

/-- The gate. -/
def rG (g : FVec Ideal S8x2048x512 .f32) : FVec Ideal S8x2048x512 .f32 :=
  mulf g (Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf g))))

/-- The output projection of the two groups' outputs, and the residual. -/
def rR (x : FVec Ideal S8x2048x1024 .f32) (oa ob : FVec Ideal S8x2048x512 .f32) (w : FVec Ideal S1x1024x1024 .f32) : FVec Ideal S8x2048x1024 .f32 :=
  addf x (Host.dotGeneral dot_S8x2048x1024_S1024x1024_S8x2048x1024_2_0_01_1_n_n none
    (concatenate S8x2048x1024 2 [⟨S8x2048x512, oa⟩, ⟨S8x2048x512, ob⟩] concatenates_S8x2048x512_S8x2048x512_S8x2048x1024_d2)
    (shapeCast _ w shapeCasts_S1x1024x1024_S1024x1024))

set_option maxHeartbeats 4000000 in
theorem res_eq (m : (ℓ : Loc nD τ sig) → Buf (Elt Ideal) ℓ) (c : Dev nD) : Value.res_main_v29 m c
    = rR (m ((c.tc : Thread nD τ).loc main_arg0)) (m ((c.tc : Thread nD τ).loc main_arg1))
        (mulf (rO (m ((c.tc : Thread nD τ).loc main_arg4)) (rA (rZ (m ((c.tc : Thread nD τ).loc main_arg2)) (m ((c.tc : Thread nD τ).loc main_arg3)))))
          (rG (m ((c.tc : Thread nD τ).loc main_arg5)))) (m ((c.tc : Thread nD τ).loc main_arg6)) := by
  unfold Value.res_main_v29 rR rO rA rC rS rLS rZ rG r0
  rfl

theorem eighth : Ideal.ofBits .f32 0x3E000000#32 = (((8 : ℝ)⁻¹ : ℝ) : EReal) := by
  simp [Ideal.ofBits, Ideal.ieee, -EReal.coe_mul]; norm_num

theorem rZ_apply (q k : FVec Ideal S8x2048x512 .f32) (b h : Fin 8) (t s : Fin 2048) :
    rZ q k (ix4 b h t s) = (∑ d : Fin 64, q (ix3 b t ⟨h.val * 64 + d.val, by omega⟩) * k (ix3 b s ⟨h.val * 64 + d.val, by omega⟩)) * (((8 : ℝ)⁻¹ : ℝ) : EReal) := by
  pointwise [rZ]
  rw [eighth]

theorem rS_apply (x : T) (b h : Fin 8) (t s : Fin 2048) : rS x (ix4 b h t s) = if s.val < t.val then x (ix4 b h t s) else 0 := by
  have hs := s.isLt
  have ht := t.isLt
  pointwise [rS]
  rw [WordCmp.cmpi_slt_ofNat (by omega) (by omega), WordCmp.select_ofBool]
  simp only [decide_eq_true_eq]
  rw [show (id (constant S_ FTy.f32 0#32) : FVec Ideal S_ .f32) ix0 = 0 from Ideal.ofBits_zero_f32]

theorem rLS_apply (x : T) (b h : Fin 8) (t s : Fin 2048) (z : ℝ) (hz : x (ix4 b h t s) = (z : EReal)) :
    rLS x (ix4 b h t s) = ((-(max (-z) 0 + Real.log (1 + Real.exp (-|(-z)|))) : ℝ) : EReal) := by
  pointwise [rLS, r0, hz]
  have ha : max (-(z : EReal)) (- -(z : EReal)) = ((|(-z)| : ℝ) : EReal) := by
    rw [← EReal.coe_neg, ← EReal.coe_neg, ← EReal.coe_strictMono.monotone.map_max]; rfl
  have hm : max (-(z : EReal)) 0 = ((max (-z) 0 : ℝ) : EReal) := by
    rw [← EReal.coe_zero, ← EReal.coe_neg, ← EReal.coe_strictMono.monotone.map_max]
  have hp : 0 < 1 + Real.exp (-|(-z)|) := add_pos one_pos (Real.exp_pos _)
  rw [if_neg (fun h => h rfl), show FloatOps.absf (F := Ideal) (φ := .f32) (-(z : EReal)) = ((|(-z)| : ℝ) : EReal) from ha, hm, ← EReal.coe_neg,
    Ideal.exp_coe, Ideal.log1p, ← EReal.coe_one, ← EReal.coe_add, Ideal.log_coe, if_neg (not_le.mpr hp), ← EReal.coe_add, ← EReal.coe_neg]

theorem foldl_add {α : Type} (l : List α) (f : α → EReal) (a : EReal) : l.foldl (fun r n => r + f n) a = a + (l.map f).sum := by
  induction l generalizing a with
  | nil => simp
  | cons x l ih => rw [List.foldl_cons, ih, List.map_cons, List.sum_cons, add_assoc]

/-- The last coordinate of a position of the window. -/
def winEquiv : (⟨4, ![1, 1, 1, 2048]⟩ : Shape).Idx ≃ Fin 2048 where
  toFun w := w 3
  invFun k := ix4 (0 : Fin 1) (0 : Fin 1) (0 : Fin 1) k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

theorem rC_apply (x : T) (b h : Fin 8) (t s : Fin 2048) :
    rC x (ix4 b h t s) = ∑ k : Fin 2048, if hk : s.val + k.val < 2048 then x (ix4 b h t ⟨s.val + k.val, hk⟩) else 0 := by
  have hi : (broadcastInDim S_ ![] bcast_S_S_ (constant S_ .f32 0x00000000#32) : FVec Ideal S_ .f32) (Shape.Idx.first h_S_) = 0 := Ideal.ofBits_zero_f32
  unfold rC Host.reduceWindowAdd
  rw [Ideal.hostReduceWindowAdd_def, hi]
  unfold Ideal.hostReduceWindowAdd Host.reduceWindow
  refine (foldl_add _ _ _).trans ?_
  rw [zero_add, ← Fin.sum_univ_def]
  refine (Equiv.sum_comp ((⟨4, ![1, 1, 1, 2048]⟩ : Shape).rowMajor.symm.trans winEquiv) (fun k : Fin 2048 => if hk : s.val + k.val < 2048 then x (ix4 b h t ⟨s.val + k.val, hk⟩) else 0)).symm.trans ?_ |>.symm
  refine Finset.sum_congr rfl fun n _ => ?_
  have h0 : ((⟨4, ![1, 1, 1, 2048]⟩ : Shape).rowMajor.symm n 0).val = 0 := Nat.lt_one_iff.mp (Fin.isLt (n := 1) _)
  have h1 : ((⟨4, ![1, 1, 1, 2048]⟩ : Shape).rowMajor.symm n 1).val = 0 := Nat.lt_one_iff.mp (Fin.isLt (n := 1) _)
  have h2 : ((⟨4, ![1, 1, 1, 2048]⟩ : Shape).rowMajor.symm n 2).val = 0 := Nat.lt_one_iff.mp (Fin.isLt (n := 1) _)
  have hb := b.isLt
  have hh := h.isLt
  have ht := t.isLt
  have hs := s.isLt
  by_cases hk : s.val + ((⟨4, ![1, 1, 1, 2048]⟩ : Shape).rowMajor.symm n 3).val < 2048
  · refine (dif_pos hk).trans (Eq.symm ((dif_pos fun a => ?_).trans (congrArg x (funext fun a => Fin.ext ?_))))
    · match a with
      | ⟨0, _⟩ => exact ⟨Nat.zero_le _, show b.val * 1 + ((⟨4, ![1, 1, 1, 2048]⟩ : Shape).rowMajor.symm n 0).val - 0 < 8 by rw [h0]; omega⟩
      | ⟨1, _⟩ => exact ⟨Nat.zero_le _, show h.val * 1 + ((⟨4, ![1, 1, 1, 2048]⟩ : Shape).rowMajor.symm n 1).val - 0 < 8 by rw [h1]; omega⟩
      | ⟨2, _⟩ => exact ⟨Nat.zero_le _, show t.val * 1 + ((⟨4, ![1, 1, 1, 2048]⟩ : Shape).rowMajor.symm n 2).val - 0 < 2048 by rw [h2]; omega⟩
      | ⟨3, _⟩ => exact ⟨Nat.zero_le _, show s.val * 1 + ((⟨4, ![1, 1, 1, 2048]⟩ : Shape).rowMajor.symm n 3).val - 0 < 2048 by omega⟩
    · match a with
      | ⟨0, _⟩ => show b.val * 1 + ((⟨4, ![1, 1, 1, 2048]⟩ : Shape).rowMajor.symm n 0).val - 0 = b.val; rw [h0]; omega
      | ⟨1, _⟩ => show h.val * 1 + ((⟨4, ![1, 1, 1, 2048]⟩ : Shape).rowMajor.symm n 1).val - 0 = h.val; rw [h1]; omega
      | ⟨2, _⟩ => show t.val * 1 + ((⟨4, ![1, 1, 1, 2048]⟩ : Shape).rowMajor.symm n 2).val - 0 = t.val; rw [h2]; omega
      | ⟨3, _⟩ =>
        show s.val * 1 + ((⟨4, ![1, 1, 1, 2048]⟩ : Shape).rowMajor.symm n 3).val - 0 = s.val + ((⟨4, ![1, 1, 1, 2048]⟩ : Shape).rowMajor.symm n 3).val
        omega
  · refine (dif_neg hk).trans (Eq.symm (dif_neg fun ha => hk ?_))
    have h3 : s.val * 1 + ((⟨4, ![1, 1, 1, 2048]⟩ : Shape).rowMajor.symm n 3).val - 0 < 2048 := (ha 3).2
    omega

/-- The sums from each key on, of reals. -/
theorem rC_real (x : T) (b h : Fin 8) (t : Fin 2048) (f : ℕ → ℝ) (hx : ∀ s : Fin 2048, x (ix4 b h t s) = ((f s.val : ℝ) : EReal)) (s : Fin 2048) :
    rC x (ix4 b h t s) = ((∑ a ∈ Finset.Ico s.val 2048, f a : ℝ) : EReal) := by
  rw [rC_apply, Finset.sum_Ico_eq_sum_range, ← Pure.coe_sum]
  have e : ∀ k : Fin 2048, (if hk : s.val + k.val < 2048 then x (ix4 b h t ⟨s.val + k.val, hk⟩) else 0)
      = (fun n : ℕ => if s.val + n < 2048 then ((f (s.val + n) : ℝ) : EReal) else 0) k.val := fun k => by
    by_cases hk : s.val + k.val < 2048
    · rw [dif_pos hk, hx]; exact (if_pos hk).symm
    · rw [dif_neg hk]; exact (if_neg hk).symm
  rw [Finset.sum_congr rfl fun k _ => e k, Fin.sum_univ_eq_sum_range (fun n : ℕ => if s.val + n < 2048 then ((f (s.val + n) : ℝ) : EReal) else 0) 2048]
  have hs := s.isLt
  refine (Finset.sum_subset (s₁ := Finset.range (2048 - s.val)) (fun n hn => ?_) fun n _ hn => ?_).symm.trans (Finset.sum_congr rfl fun n hn => ?_)
  · rw [Finset.mem_range] at hn ⊢; omega
  · rw [Finset.mem_range] at hn; exact if_neg (by omega)
  · rw [Finset.mem_range] at hn; exact if_pos (by omega)

/-- The attention weights from real scores. -/
theorem rA_apply (z : T) (b h : Fin 8) (t : Fin 2048) (r : ℕ → ℝ) (hz : ∀ s : Fin 2048, z (ix4 b h t s) = ((r s.val : ℝ) : EReal)) (s : Fin 2048) :
    rA z (ix4 b h t s) = ((Pure.wt (fun n => r n * (Real.log 2)⁻¹) t.val s.val : ℝ) : EReal) := by
  have hn : ∀ s : Fin 2048, Host.negf z (ix4 b h t s) = ((-r s.val : ℝ) : EReal) := fun s => by
    rw [EReal.coe_neg, ← hz]; rfl
  have hl : ∀ s : Fin 2048, rS (rLS (Host.negf z)) (ix4 b h t s)
      = ((Pure.omT (fun n => r n * (Real.log 2)⁻¹) t.val s.val * Real.log 2 : ℝ) : EReal) := fun s => by
    rw [rS_apply, rLS_apply _ b h t s _ (hn s), Pure.omT]
    split
    · rw [Pure.om_mul]
    · rw [zero_mul, EReal.coe_zero]
  rw [rA, rS_apply, Pure.wt]
  split
  · show Ideal.exp (rLS z (ix4 b h t s) + (rC (rS (rLS (Host.negf z))) (ix4 b h t s) - rS (rLS (Host.negf z)) (ix4 b h t s))) = _
    rw [rLS_apply z b h t s _ (hz s), hl, rC_real _ b h t (fun n => Pure.omT (fun n => r n * (Real.log 2)⁻¹) t.val n * Real.log 2) hl s, ← EReal.coe_sub, ← EReal.coe_add,
      Ideal.exp_coe, ← Pure.lb_mul]
    exact congrArg (fun y : ℝ => (y : EReal)) (Pure.exp_tail (fun n => r n * (Real.log 2)⁻¹) t.val s.isLt)
  · exact EReal.coe_zero.symm

theorem rO_apply (v : FVec Ideal S8x2048x512 .f32) (a : T) (b : Fin 8) (t : Fin 2048) (e : Fin 512) :
    rO v a (ix3 b t e) = ∑ s : Fin 2048, v (ix3 b s e) * a (ix4 b ⟨e.val / 64, by omega⟩ t s) := by
  pointwise [rO]

theorem rG_apply (g : FVec Ideal S8x2048x512 .f32) (b : Fin 8) (t : Fin 2048) (e : Fin 512) :
    rG g (ix3 b t e) = g (ix3 b t e) * Ideal.div 1 (1 + Ideal.exp (-(g (ix3 b t e)))) := by
  pointwise [rG]

theorem rR_apply (x : FVec Ideal S8x2048x1024 .f32) (oa ob : FVec Ideal S8x2048x512 .f32) (w : FVec Ideal S1x1024x1024 .f32) (b : Fin 8) (t : Fin 2048) (d : Fin 1024) :
    rR x oa ob w (ix3 b t d) = x (ix3 b t d) + ((∑ e : Fin 512, oa (ix3 b t e) * w (ix3 0 ⟨e.val, by omega⟩ d))
      + ∑ e : Fin 512, ob (ix3 b t e) * w (ix3 0 ⟨512 + e.val, by omega⟩ d)) := by
  pointwise [rR]

end Cert.Proof.RI

end
-- ==== Proof.Out.lean ====
/- A block of the result: what the body leaves is the reference's result there. -/
module

public import proofs.«01_k».proof.Proof.Stick
public import proofs.«01_k».proof.Proof.Blk
public import proofs.«01_k».proof.Proof.Host
public import proofs.«01_k».proof.Proof.Ref

@[expose] public section

set_option maxRecDepth 16384

noncomputable section

namespace Cert.Proof.PI

open Cert.KernelIdeal Cert.KernelIdeal.Gen
open Idealize.ShloMosaic Idealize.ShloMosaic.TcCoe

/-- A sum over two halves of 128 lanes of which one is zero. -/
theorem sum_half (f : Fin 128 → ℝ) (r : ℕ) (hr : r < 2) :
    (∑ l : Fin 128, if l.val / 64 = r then f l else 0) = ∑ d : Fin 64, f ⟨64 * r + d.val, by omega⟩ := by
  have hs : (∑ l : Fin 128, if l.val / 64 = r then f l else 0)
      = (∑ d : Fin 64, if d.val / 64 = r then f ⟨d.val, by omega⟩ else 0) + ∑ d : Fin 64, if (64 + d.val) / 64 = r then f ⟨64 + d.val, by omega⟩ else 0 :=
    Fin.sum_univ_add (a := 64) (b := 64) fun l : Fin 128 => if l.val / 64 = r then f l else 0
  rw [hs]
  have hd : ∀ d : Fin 64, d.val / 64 = 0 ∧ (64 + d.val) / 64 = 1 := fun d => by omega
  simp only [(hd _).1, (hd _).2]
  interval_cases r
  · simp
  · simp

/-- A real score: a head's query by a head's key, over eight. -/
def sc (q k : FVec Ideal S8x2048x512 .f32) (b h : Fin 8) (t : Fin 2048) (n : ℕ) : ℝ :=
  (∑ d : Fin 64, (q (ix3 b t ⟨h.val * 64 + d.val, by omega⟩)).toReal
    * (k (ix3 b ⟨n % 2048, Nat.mod_lt _ (by decide)⟩ ⟨h.val * 64 + d.val, by omega⟩)).toReal) * (8 : ℝ)⁻¹

section
variable (q k v g oa : FVec Ideal S8x2048x512 .f32) (x : FVec Ideal S8x2048x1024 .f32) (w : FVec Ideal S1x1024x1024 .f32)
  (hq : ∀ i, q i = ((q i).toReal : EReal)) (hk : ∀ i, k i = ((k i).toReal : EReal))

include hq hk in
/-- The reference's scores. -/
theorem rZ_sc (b h : Fin 8) (t s : Fin 2048) : RI.rZ q k (ix4 b h t s) = ((sc q k b h t s.val : ℝ) : EReal) := by
  rw [RI.rZ_apply, sc, EReal.coe_mul, ← Pure.coe_sum]
  refine congrArg (· * _) (Finset.sum_congr rfl fun d _ => ?_)
  have e : (⟨s.val % 2048, Nat.mod_lt _ (by decide)⟩ : Fin 2048) = s := Fin.ext (Nat.mod_eq_of_lt s.isLt)
  rw [e, EReal.coe_mul, ← hq, ← hk]

theorem row_lt (p : Fin 8) (r : Fin 256) : p.val * 256 + r.val < 2048 := by omega
theorem low_lt (e : Fin 512) : e.val < 1024 := by omega
theorem high_lt (e : Fin 512) : 512 + e.val < 1024 := by omega

include hq hk in
/-- The reference's attention output. -/
theorem rO_wt (b : Fin 8) (t : Fin 2048) (e : Fin 512) : RI.rO v (RI.rA (RI.rZ q k)) (ix3 b t e)
    = ∑ s ∈ Finset.range 2048, v (ix3 b ⟨s % 2048, Nat.mod_lt _ (by decide)⟩ e)
        * ((Pure.wt (fun n => sc q k b ⟨e.val / 64, by omega⟩ t n * (Real.log 2)⁻¹) t.val s : ℝ) : EReal) := by
  rw [RI.rO_apply, ← Fin.sum_univ_eq_sum_range (fun s => v (ix3 b ⟨s % 2048, Nat.mod_lt _ (by decide)⟩ e)
        * ((Pure.wt (fun n => sc q k b ⟨e.val / 64, by omega⟩ t n * (Real.log 2)⁻¹) t.val s : ℝ) : EReal)) 2048]
  refine Finset.sum_congr rfl fun s _ => ?_
  have e' : (⟨s.val % 2048, Nat.mod_lt _ (by decide)⟩ : Fin 2048) = s := Fin.ext (Nat.mod_eq_of_lt s.isLt)
  rw [e', RI.rA_apply _ b _ t (sc q k b ⟨e.val / 64, by omega⟩ t) (rZ_sc q k hq hk b _ t)]

variable (b p : Fin 8) (X2 : Vec Ideal S1x2048x512 .bf16) (X3 : Vec Ideal S1x8x512x256 .bf16) (X4 : Vec Ideal S1x8x128x256 .bf16)
  (X5 : Vec Ideal S1x256x512 .f32) (X6 : Vec Ideal S256x256 .bf16) (X7 : Vec Ideal S1x256x1024 .f32) (X8 : Vec Ideal S1x256x512 .bf16)
  (X9 X10 : Vec Ideal S512x1024 .bf16)
  (h2 : ∀ (n : Fin 2048) (e : Fin 512), X2 (ix3 0 n e) = k (ix3 b n e))
  (h3 : ∀ (j : Fin 8) (e : Fin 512) (i : Fin 256), X3 (ix4 0 j e i) = v (ix3 b ⟨j.val * 256 + i.val, row_lt j i⟩ e))
  (h4 : ∀ (h : Fin 8) (l : Fin 128) (c : Fin 256), X4 (ix4 0 h l c) = hQ q (ix4 b h l ⟨p.val * 256 + c.val, row_lt p c⟩))
  (h5 : ∀ (r : Fin 256) (e : Fin 512), X5 (ix3 0 r e) = hG g (ix3 b ⟨p.val * 256 + r.val, row_lt p r⟩ e))
  (h6 : ∀ i k : Fin 256, X6 (ix2 i k) = if i < k then 1 else 0)
  (h7 : ∀ (r : Fin 256) (d : Fin 1024), X7 (ix3 0 r d) = x (ix3 b ⟨p.val * 256 + r.val, row_lt p r⟩ d))
  (h8 : ∀ (r : Fin 256) (e : Fin 512), X8 (ix3 0 r e) = oa (ix3 b ⟨p.val * 256 + r.val, row_lt p r⟩ e))
  (h9 : ∀ (e : Fin 512) (d : Fin 1024), X9 (ix2 e d) = w (ix3 0 ⟨e.val, low_lt e⟩ d))
  (h10 : ∀ (e : Fin 512) (d : Fin 1024), X10 (ix2 e d) = w (ix3 0 ⟨512 + e.val, high_lt e⟩ d))

theorem ldU (i k : Fin 256) : View.ld X6 rU (ix2 i k) = X6 (ix2 i k) := by
  pointwise

theorem ldK (j : ℕ) (h : Fin 8) (i : Fin 256) (l : Fin 128) : View.ld X2 (rK j h) (ix3 0 i l)
    = X2 (ix3 0 ⟨256 * (j % 8) + i.val, by omega⟩ ⟨128 * (h.val / 2) + l.val, by omega⟩) := by
  pointwise

theorem ldQ (h : Fin 8) (l : Fin 128) (c : Fin 256) : View.ld X4 (rQ h) (ix4 0 0 l c) = X4 (ix4 0 h l c) := by
  pointwise

theorem ldV (j : ℕ) (h : Fin 8) (d : Fin 64) (i : Fin 256) : View.ld X3 (rV j h) (ix4 0 0 d i)
    = X3 (ix4 0 ⟨j % 8, by omega⟩ ⟨64 * h.val + d.val, by omega⟩ i) := by
  pointwise

theorem zR_apply (K : Vec Ideal S1x256x128 .bf16) (Q : Vec Ideal S1x1x128x256 .bf16) (i c : Fin 256) :
    zR K Q (ix3 0 i c) = ∑ l : Fin 128, K (ix3 0 i l) * Q (ix4 0 0 l c) := by
  pointwise [zR]

include hq hk h2 h4 in
/-- The kernel's base 2 scores. -/
theorem zR_sc (h : Fin 8) (j : ℕ) (hj : j < 8) (i c : Fin 256) : zR (View.ld X2 (rK j h)) (View.ld X4 (rQ h)) (ix3 0 i c)
    = ((sc q k b h ⟨p.val * 256 + c.val, by omega⟩ (256 * j + i.val) * (Real.log 2)⁻¹ : ℝ) : EReal) := by
  have hi := i.isLt
  have hh := h.isLt
  rw [zR_apply]
  have e : ∀ l : Fin 128, View.ld X2 (rK j h) (ix3 0 i l) * View.ld X4 (rQ h) (ix4 0 0 l c)
      = (((if l.val / 64 = h.val % 2 then (k (ix3 b ⟨256 * j + i.val, by omega⟩ ⟨128 * (h.val / 2) + l.val, by omega⟩)).toReal
          * ((q (ix3 b ⟨p.val * 256 + c.val, by omega⟩ ⟨128 * (h.val / 2) + l.val, by omega⟩)).toReal * ((8 : ℝ)⁻¹ * (Real.log 2)⁻¹)) else 0 : ℝ)) : EReal) := fun l => by
    rw [ldK, ldQ, h2, h4, hQ_apply]
    have e1 : (⟨256 * (j % 8) + i.val, by omega⟩ : Fin 2048) = ⟨256 * j + i.val, by omega⟩ := Fin.ext (by simp only; omega)
    rw [e1]
    split
    · rw [hQ2_apply]
      have e2 : (⟨(h.val / 2) * 128 + l.val, by omega⟩ : Fin 512) = ⟨128 * (h.val / 2) + l.val, by omega⟩ := Fin.ext (by simp only; omega)
      rw [e2]
      simp only [EReal.coe_mul]
      rw [← hk, ← hq]
    · rw [mul_zero, EReal.coe_zero]
  rw [Finset.sum_congr rfl fun l _ => e l, Pure.coe_sum, sum_half (fun l => (k (ix3 b ⟨256 * j + i.val, by omega⟩ ⟨128 * (h.val / 2) + l.val, by omega⟩)).toReal
          * ((q (ix3 b ⟨p.val * 256 + c.val, by omega⟩ ⟨128 * (h.val / 2) + l.val, by omega⟩)).toReal * ((8 : ℝ)⁻¹ * (Real.log 2)⁻¹))) (h.val % 2) (Nat.mod_lt _ two_pos),
    sc, mul_assoc, Finset.sum_mul]
  refine congrArg (fun y : ℝ => (y : EReal)) (Finset.sum_congr rfl fun d _ => ?_)
  have e3 : (⟨128 * (h.val / 2) + (64 * (h.val % 2) + d.val), by omega⟩ : Fin 512) = ⟨h.val * 64 + d.val, by omega⟩ := Fin.ext (by simp only; omega)
  have e4 : (⟨(256 * j + i.val) % 2048, Nat.mod_lt _ (by decide)⟩ : Fin 2048) = ⟨256 * j + i.val, by omega⟩ := Fin.ext (Nat.mod_eq_of_lt (by omega))
  rw [e3, e4]
  ring

theorem accV_apply (n : ℕ) (e : Fin 512) (r : Fin 256) : accV n X2 X3 X4 X6 (ix2 e r)
    = (fin (View.ld X6 rU) (fun j => View.ld X2 (rK j ⟨e.val / 64, by omega⟩)) (View.ld X4 (rQ ⟨e.val / 64, by omega⟩))
      (fun j => View.ld X3 (rV j ⟨e.val / 64, by omega⟩)) n).2 (ix2 ⟨e.val % 64, Nat.mod_lt _ (by decide)⟩ r) := by
  unfold accV
  refine congrArg (Prod.snd (fin _ _ _ _ _)) (funext fun a => ?_)
  match a with
  | 0 => rfl
  | 1 => rfl

include hq hk h2 h3 h4 h6 in
/-- The accumulator is the reference's attention output. -/
theorem accV_eq (e : Fin 512) (r : Fin 256) : accV p.val X2 X3 X4 X6 (ix2 e r)
    = RI.rO v (RI.rA (RI.rZ q k)) (ix3 b ⟨p.val * 256 + r.val, by omega⟩ e) := by
  have he := e.isLt
  have hp := p.isLt
  rw [rO_wt q k v hq hk, accV_apply]
  have hU := fun i k => (ldU X6 i k).trans (h6 i k)
  have hz := fun j hj i c => zR_sc q k hq hk b p X2 X4 h2 h4 ⟨e.val / 64, by omega⟩ j hj i c
  have hV : ∀ j < 8, ∀ (d : Fin 64) (i : Fin 256), View.ld X3 (rV j ⟨e.val / 64, by omega⟩) (ix4 0 0 d i)
      = v (ix3 b ⟨(256 * j + i.val) % 2048, Nat.mod_lt _ (by decide)⟩ ⟨64 * (e.val / 64) + d.val, by omega⟩) := fun j hj d i => by
    have hi := i.isLt
    have e1 : (⟨(j % 8) * 256 + i.val, by omega⟩ : Fin 2048) = ⟨(256 * j + i.val) % 2048, Nat.mod_lt _ (by decide)⟩ := Fin.ext (by simp only; omega)
    rw [ldV, h3, e1]
  have H := fin_acc (View.ld X6 rU) (fun j => View.ld X2 (rK j ⟨e.val / 64, by omega⟩)) (View.ld X4 (rQ ⟨e.val / 64, by omega⟩))
    (fun j => View.ld X3 (rV j ⟨e.val / 64, by omega⟩)) (fun c n => sc q k b ⟨e.val / 64, by omega⟩ ⟨p.val * 256 + c.val, by omega⟩ n * (Real.log 2)⁻¹)
    (fun n d => v (ix3 b ⟨n % 2048, Nat.mod_lt _ (by decide)⟩ ⟨64 * (e.val / 64) + d.val, by omega⟩)) hp hU hz hV ⟨e.val % 64, Nat.mod_lt _ (by decide)⟩ r
  rw [H]
  have e1 : (⟨64 * (e.val / 64) + e.val % 64, by omega⟩ : Fin 512) = e := Fin.ext (Nat.div_add_mod _ _)
  refine Finset.sum_congr rfl fun s _ => congrArg₂ (fun a b : EReal => a * b) (congrArg (fun e' : Fin 512 => v (ix3 b _ e')) e1) ?_
  exact congrArg (fun n : ℕ => ((Pure.wt _ (n + r.val) s : ℝ) : EReal)) (mul_comm 256 p.val)

theorem outV_apply (n : ℕ) (r : Fin 256) (d : Fin 1024) : outV n X2 X3 X4 X5 X6 X7 X8 X9 X10 (ix3 0 r d)
    = (X7 (ix3 0 r d) + ∑ e : Fin 512, X8 (ix3 0 r e) * X9 (ix2 e d)) + ∑ e : Fin 512, (accV n X2 X3 X4 X6 (ix2 e r) * X5 (ix3 0 r e)) * X10 (ix2 e d) := by
  pointwise [outV, k0_pay1, k0_pay300, k0_pay301, k0_pay302]

include hq hk h2 h3 h4 h5 h6 h7 h8 h9 h10 in
/-- The block of the result is the reference's. -/
theorem outV_eq (r : Fin 256) (d : Fin 1024) : outV p.val X2 X3 X4 X5 X6 X7 X8 X9 X10 (ix3 0 r d)
    = RI.rR x oa (mulf (RI.rO v (RI.rA (RI.rZ q k))) (RI.rG g)) w (ix3 b ⟨p.val * 256 + r.val, row_lt p r⟩ d) := by
  rw [outV_apply, RI.rR_apply, h7, add_assoc]
  refine congrArg _ (congrArg₂ _ (Finset.sum_congr rfl fun e _ => ?_) (Finset.sum_congr rfl fun e _ => ?_))
  · rw [h8, h9]
  · rw [accV_eq q k v hq hk b p X2 X3 X4 X6 h2 h3 h4 h6, h5, h10, hG_apply, mulf_apply, Ideal.mulf_def, RI.rG_apply]

end

end Cert.Proof.PI

end
-- ==== Proof.HostV.lean ====
/- What the call finds in the arrays the host prepared. -/
module

public import proofs.«01_k».proof.Proof.Host
public import Idealize.ShloMosaic.Lib.Tactic

@[expose] public section

set_option maxRecDepth 16384

noncomputable section

namespace Cert.Proof.PI

open Cert.KernelIdeal Cert.KernelIdeal.Gen
open Idealize.ShloMosaic Idealize.ShloMosaic.TcCoe

section
variable (m : (ℓ : Loc nD τ sig) → Buf (Elt Ideal) ℓ) (c : Dev nD)

theorem V_v9 : V m c main_v9 = hU := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v28 : V m c main_v28 = hQ (m ((c : Thread nD τ).loc main_arg2)) := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v29 : V m c main_v29 = (truncf .bf16 ((m ((c : Thread nD τ).loc main_arg3)) : FVec Ideal S8x2048x512 .f32) bitsLt_bf16_f32 : FVec Ideal S8x2048x512 .bf16) := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v32 : V m c main_v32 = hV (m ((c : Thread nD τ).loc main_arg4)) := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v39 : V m c main_v39 = hG (m ((c : Thread nD τ).loc main_arg5)) := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v40 : V m c main_v40 = (truncf .bf16 ((m ((c : Thread nD τ).loc main_arg1)) : FVec Ideal S8x2048x512 .f32) bitsLt_bf16_f32 : FVec Ideal S8x2048x512 .bf16) := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v41 : V m c main_v41 = extractStridedSlice S512x1024 ![0, 0] (hW (m ((c : Thread nD τ).loc main_arg6))) slices_S1024x1024_S512x1024_0_0 := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

theorem V_v42 : V m c main_v42 = extractStridedSlice S512x1024 ![512, 0] (hW (m ((c : Thread nD τ).loc main_arg6))) slices_S1024x1024_S512x1024_512_0 := by
  unfold V; simp only [List.flatten_cons, List.flatten_nil, List.append_nil, hostOps0, hostOps0_1, hostOps0_2, hostOps0_3, hostOps0_4, StableHlo.TRef.unary,
    StableHlo.TRef.ternary, List.cons_append, List.nil_append]
  after_results_simp <;> rfl

end

end Cert.Proof.PI

end
-- ==== Proof.Launch.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Obl
public import proofs.«01_k».proof.Proof.Gen.KernelIdeal.Launch
public import proofs.«01_k».proof.Proof.Gen.KernelIdeal.Points
public import Idealize.ShloMosaic.Lib.Pipeline.ValueKit
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

theorem hostOps0_fresh : (hostOps0 (F := F)).Forall fun op => op.fresh = ∅ := by
  unfold hostOps0; simp only [List.Forall]; trivial
theorem hostOps0_1_fresh : (hostOps0_1 (F := F)).Forall fun op => op.fresh = ∅ := by
  unfold hostOps0_1; simp only [List.Forall]; trivial
theorem hostOps0_2_fresh : (hostOps0_2 (F := F)).Forall fun op => op.fresh = ∅ := by
  unfold hostOps0_2; simp only [List.Forall]; trivial
theorem hostOps0_3_fresh : (hostOps0_3 (F := F)).Forall fun op => op.fresh = ∅ := by
  unfold hostOps0_3; simp only [List.Forall]; trivial
theorem hostOps0_4_fresh : (hostOps0_4 (F := F)).Forall fun op => op.fresh = ∅ := by
  unfold hostOps0_4; simp only [List.Forall]; trivial

set_option maxHeartbeats 2000000 in
/-- The host operations, then the launch. -/
theorem hmain : Pipeline.HMain (Ix := Unit) (Name := ℕ) (U := UU nD τ) (Lvl := ℕ) cfgs 0 defs₀ Variants.nat m (main (F := F)) (V m) :=
  Pipeline.hmain_prefixes cfgs 0 defs₀ Variants.nat m main opss
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.Proof.PI

end
-- ==== Proof.Run.lean ====
module

public import proofs.«01_k».proof.Proof.Gen.KernelIdeal
public import proofs.«01_k».proof.Proof.Gen.KernelIdeal.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.Launch
public import proofs.«01_k».proof.Proof.Gen.KernelIdeal.Launch
public import proofs.«01_k».proof.Proof.Gen.KernelIdeal.Points
public import Idealize.ShloMosaic.Lib.Pipeline.ValueKit
public import proofs.«01_k».proof.Proof.Blocks

@[expose] public section

set_option maxRecDepth 16384

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = iblk m c 5 t := rfl
theorem after_6 (c : Dev nD) (t : Fin (cfg0 (F := F)).N) : (dats m 0 c).after 6 t = iblk m c 6 t := rfl
theorem after_7 (c : Dev nD) (t : Fin (cfg0 (F := F)).N) : (dats m 0 c).after 7 t = iblk m c 7 t := rfl
theorem after_8 (c : Dev nD) (t : Fin (cfg0 (F := F)).N) : (dats m 0 c).after 8 t = iblk m c 8 t := rfl
theorem after_9 (c : Dev nD) (t : Fin (cfg0 (F := F)).N) : (dats m 0 c).after 9 t = outsAt m c t := rfl

set_option maxHeartbeats 4000000 in
/-- The launch library's obligation, the result's block exact. -/
theorem body_obligation (hgo : Go F) (c : Dev nD) : BodyObligation (dats (F := F) m 0 c) (defs₀ (F := F)) Variants.nat () Set.univ := fun t => by
  rw [bigSep_W0, bigSep_W0, defs₀_row]
  have hpre : iprop((dats m 0 c).Φ t.castSucc ∗ (dats m 0 c).owesAt () t.castSucc
      ∗ (∃ d, owns (c : Thread nD τ) (st0_0 (F := F) t) fullShare ((dats m 0 c).before 0 t d))
      ∗ (∃ d, owns (c : Thread nD τ) (st0_1 (F := F) t) fullShare ((dats m 0 c).before 1 t d))
      ∗ (∃ d, owns (c : Thread nD τ) (st0_2 (F := F) t) fullShare ((dats m 0 c).before 2 t d))
      ∗ (∃ d, owns (c : Thread nD τ) (st0_3 (F := F) t) fullShare ((dats m 0 c).before 3 t d))
      ∗ (∃ d, owns (c : Thread nD τ) (st0_4 (F := F) t) fullShare ((dats m 0 c).before 4 t d))
      ∗ (∃ d, owns (c : Thread nD τ) (st0_5 (F := F) t) fullShare ((dats m 0 c).before 5 t d))
      ∗ (∃ d, owns (c : Thread nD τ) (st0_6 (F := F) t) fullShare ((dats m 0 c).before 6 t d))
      ∗ (∃ d, owns (c : Thread nD τ) (st0_7 (F := F) t) fullShare ((dats m 0 c).before 7 t d))
      ∗ (∃ d, owns (c : Thread nD τ) (st0_8 (F := F) t) fullShare ((dats m 0 c).before 8 t d))
      ∗ (∃ d, owns (c : Thread nD τ) (st0_9 (F := F) t) fullShare ((dats m 0 c).before 9 t d)))
      ⊢ bodyPre m c t := by
    unfold bodyPre
    iintro ⟨Hf, Ho, H0, H1, H2, H3, H4, H5, H6, H7, H8, ⟨%d, H9⟩⟩
    isplitl [Hf]; · iexact Hf
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  have hpost : bodyPost m c t ⊢ iprop((dats m 0 c).Φ t.succ ∗ (dats m 0 c).owesAt () t.succ
      ∗ owns (c : Thread nD τ) (st0_0 (F := F) t) fullShare ((dats m 0 c).after 0 t)
      ∗ owns (c : Thread nD τ) (st0_1 (F := F) t) fullShare ((dats m 0 c).after 1 t)
      ∗ owns (c : Thread nD τ) (st0_2 (F := F) t) fullShare ((dats m 0 c).after 2 t)
      ∗ owns (c : Thread nD τ) (st0_3 (F := F) t) fullShare ((dats m 0 c).after 3 t)
      ∗ owns (c : Thread nD τ) (st0_4 (F := F) t) fullShare ((dats m 0 c).after 4 t)
      ∗ owns (c : Thread nD τ) (st0_5 (F := F) t) fullShare ((dats m 0 c).after 5 t)
      ∗ owns (c : Thread nD τ) (st0_6 (F := F) t) fullShare ((dats m 0 c).after 6 t)
      ∗ owns (c : Thread nD τ) (st0_7 (F := F) t) fullShare ((dats m 0 c).after 7 t)
      ∗ owns (c : Thread nD τ) (st0_8 (F := F) t) fullShare ((dats m 0 c).after 8 t)
      ∗ owns (c : Thread nD τ) (st0_9 (F := F) t) fullShare ((dats m 0 c).after 9 t)) := by
    unfold bodyPost
    rw [show (dats m 0 c).Φ t.succ = (dats m 0 c).Φ t.castSucc from rfl, show (dats m 0 c).owesAt () t.succ = (dats m 0 c).owesAt () t.castSucc from rfl, after_0, after_1, after_2, after_3, after_4, after_5, after_6, after_7, after_8, after_9]
    iintro ⟨Hf, Ho, H0, H1, H2, H3, H4, H5, H6, H7, H8, ⟨%X, %hX, H9⟩⟩
    isplitl [Hf]; · iexact Hf
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [hX hgo]
    iexact H9
  exact triple_restated ((hpre.trans (sound_body m c t)).trans (wp_mono _ _ _ fun _ => hpost)) rfl .rfl fun _ => .rfl

set_option maxHeartbeats 8000000 in
set_option backward.isDefEq.respectTransparency.types false in
/-- The run: every array ends at what the proof data say. -/
theorem run_main (hgo : Go F) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.nat m ρ main
    (hbody := fun c => (body_obligation m hgo c).loose) (hshare := fun c => (dats m 0 c).share_full fun _ => rfl)
    (howed := fun _ _ => rfl) (V := V m) (hmain := hmain m) (hA := A_eq m) (hΦ := fun _ _ => rfl) (hQ' := fun _ h => h)

/-- The argument arrays of a run that ends as the launch promises. -/
theorem args_kept {r : Unit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 5).trans (((dats m 0 c).arrAt_in 5 rfl _).trans ((A_eq m c 5).trans (V_main_arg0 m c))),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c)⟩

/-- The arguments end as they began. -/
theorem frame (hgo : Go F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hs⟩ => ⟨fun c => args_kept m h c, hs⟩) (run_main m ρ hgo)

end Cert.Proof.PI

end
-- ==== Proof.Value.lean ====
/- The result array after the run: the reference's result. -/
module

public import proofs.«01_k».proof.Proof.Out
public import proofs.«01_k».proof.Proof.HostV
public import proofs.«01_k».proof.Proof.Run

@[expose] public section

set_option maxRecDepth 16384

noncomputable section

namespace Cert.Proof.PI

open Cert.KernelIdeal Cert.KernelIdeal.Gen
open Idealize.ShloMosaic Idealize.ShloMosaic.TcCoe
open Idealize.SL Idealize.SL.Sem

/-- A grid coordinate as a word is itself. -/
theorem word_coord (n : Fin 8) : (BitVec.ofNat 32 n.val).toNat = n.val := by
  rw [BitVec.toNat_ofNat]; exact Nat.mod_eq_of_lt (by have := n.isLt; omega)

/-- The batch and the block of queries of a grid point. -/
abbrev bt (t : Fin (cfg0 (F := Ideal)).N) : Fin 8 := (grid0.coords t) 0
abbrev pt' (t : Fin (cfg0 (F := Ideal)).N) : Fin 8 := (grid0.coords t) 1

section
variable (m : (ℓ : Loc nD τ sig) → Buf (Elt Ideal) ℓ) (c : Dev nD) (t : Fin (cfg0 (F := Ideal)).N)

theorem rd_0 (X : Buf (Elt Ideal) ((c : Thread nD τ).loc main_v29)) (n : Fin 2048) (e : Fin 512) :
    ((((cfg0 (F := Ideal)).win 0).blk t).view.read (Elt Ideal) X : Vec Ideal S1x2048x512 .bf16) (ix3 0 n e) = (X : Vec Ideal S8x2048x512 .bf16) (ix3 (bt t) n e) := by
  rw [View.read_apply]
  refine congrArg X (funext fun a => Fin.ext ?_)
  match a with
  | ⟨0, _⟩ => show (BitVec.ofNat 32 (bt t).val).toNat * 1 + 1 * 0 = (bt t).val; rw [word_coord]; omega
  | ⟨1, _⟩ => show 0 * 2048 + 1 * n.val = n.val; omega
  | ⟨2, _⟩ => show 0 * 512 + 1 * e.val = e.val; omega

theorem blk_0 (n : Fin 2048) (e : Fin 512) : (iblk m c 0 t : Vec Ideal S1x2048x512 .bf16) (ix3 0 n e)
    = (V m c main_v29 : Vec Ideal S8x2048x512 .bf16) (ix3 (bt t) n e) := rd_0 c t (V m c main_v29) n e

theorem rd_1 (X : Buf (Elt Ideal) ((c : Thread nD τ).loc main_v32)) (j : Fin 8) (e : Fin 512) (i : Fin 256) :
    ((((cfg0 (F := Ideal)).win 1).blk t).view.read (Elt Ideal) X : Vec Ideal S1x8x512x256 .bf16) (ix4 0 j e i) = (X : Vec Ideal S8x8x512x256 .bf16) (ix4 (bt t) j e i) := by
  rw [View.read_apply]
  refine congrArg X (funext fun a => Fin.ext ?_)
  match a with
  | ⟨0, _⟩ => show (BitVec.ofNat 32 (bt t).val).toNat * 1 + 1 * 0 = (bt t).val; rw [word_coord]; omega
  | ⟨1, _⟩ => show 0 * 8 + 1 * j.val = j.val; omega
  | ⟨2, _⟩ => show 0 * 512 + 1 * e.val = e.val; omega
  | ⟨3, _⟩ => show 0 * 256 + 1 * i.val = i.val; omega

theorem blk_1 (j : Fin 8) (e : Fin 512) (i : Fin 256) : (iblk m c 1 t : Vec Ideal S1x8x512x256 .bf16) (ix4 0 j e i)
    = (V m c main_v32 : Vec Ideal S8x8x512x256 .bf16) (ix4 (bt t) j e i) := rd_1 c t (V m c main_v32) j e i

theorem rd_2 (X : Buf (Elt Ideal) ((c : Thread nD τ).loc main_v28)) (h : Fin 8) (l : Fin 128) (i : Fin 256) :
    ((((cfg0 (F := Ideal)).win 2).blk t).view.read (Elt Ideal) X : Vec Ideal S1x8x128x256 .bf16) (ix4 0 h l i) = (X : Vec Ideal S8x8x128x2048 .bf16) (ix4 (bt t) h l ⟨(pt' t).val * 256 + i.val, row_lt _ _⟩) := by
  rw [View.read_apply]
  refine congrArg X (funext fun a => Fin.ext ?_)
  match a with
  | ⟨0, _⟩ => show (BitVec.ofNat 32 (bt t).val).toNat * 1 + 1 * 0 = (bt t).val; rw [word_coord]; omega
  | ⟨1, _⟩ => show 0 * 8 + 1 * h.val = h.val; omega
  | ⟨2, _⟩ => show 0 * 128 + 1 * l.val = l.val; omega
  | ⟨3, _⟩ => show (BitVec.ofNat 32 (pt' t).val).toNat * 256 + 1 * i.val = (pt' t).val * 256 + i.val; rw [word_coord]; omega

theorem blk_2 (h : Fin 8) (l : Fin 128) (i : Fin 256) : (iblk m c 2 t : Vec Ideal S1x8x128x256 .bf16) (ix4 0 h l i)
    = (V m c main_v28 : Vec Ideal S8x8x128x2048 .bf16) (ix4 (bt t) h l ⟨(pt' t).val * 256 + i.val, row_lt _ _⟩) := rd_2 c t (V m c main_v28) h l i

theorem rd_3 (X : Buf (Elt Ideal) ((c : Thread nD τ).loc main_v39)) (r : Fin 256) (e : Fin 512) :
    ((((cfg0 (F := Ideal)).win 3).blk t).view.read (Elt Ideal) X : Vec Ideal S1x256x512 .f32) (ix3 0 r e) = (X : Vec Ideal S8x2048x512 .f32) (ix3 (bt t) ⟨(pt' t).val * 256 + r.val, row_lt _ _⟩ e) := by
  rw [View.read_apply]
  refine congrArg X (funext fun a => Fin.ext ?_)
  match a with
  | ⟨0, _⟩ => show (BitVec.ofNat 32 (bt t).val).toNat * 1 + 1 * 0 = (bt t).val; rw [word_coord]; omega
  | ⟨1, _⟩ => show (BitVec.ofNat 32 (pt' t).val).toNat * 256 + 1 * r.val = (pt' t).val * 256 + r.val; rw [word_coord]; omega
  | ⟨2, _⟩ => show 0 * 512 + 1 * e.val = e.val; omega

theorem blk_3 (r : Fin 256) (e : Fin 512) : (iblk m c 3 t : Vec Ideal S1x256x512 .f32) (ix3 0 r e)
    = (V m c main_v39 : Vec Ideal S8x2048x512 .f32) (ix3 (bt t) ⟨(pt' t).val * 256 + r.val, row_lt _ _⟩ e) := rd_3 c t (V m c main_v39) r e

theorem rd_4 (X : Buf (Elt Ideal) ((c : Thread nD τ).loc main_v9)) (i k : Fin 256) :
    ((((cfg0 (F := Ideal)).win 4).blk t).view.read (Elt Ideal) X : Vec Ideal S256x256 .bf16) (ix2 i k) = (X : Vec Ideal S256x256 .bf16) (ix2 i k) := by
  rw [View.read_apply]
  refine congrArg X (funext fun a => Fin.ext ?_)
  match a with
  | ⟨0, _⟩ => show 0 * 256 + 1 * i.val = i.val; omega
  | ⟨1, _⟩ => show 0 * 256 + 1 * k.val = k.val; omega

theorem blk_4 (i k : Fin 256) : (iblk m c 4 t : Vec Ideal S256x256 .bf16) (ix2 i k)
    = (V m c main_v9 : Vec Ideal S256x256 .bf16) (ix2 i k) := rd_4 c t (V m c main_v9) i k

theorem rd_5 (X : Buf (Elt Ideal) ((c : Thread nD τ).loc main_arg0)) (r : Fin 256) (d : Fin 1024) :
    ((((cfg0 (F := Ideal)).win 5).blk t).view.read (Elt Ideal) X : Vec Ideal S1x256x1024 .f32) (ix3 0 r d) = (X : Vec Ideal S8x2048x1024 .f32) (ix3 (bt t) ⟨(pt' t).val * 256 + r.val, row_lt _ _⟩ d) := by
  rw [View.read_apply]
  refine congrArg X (funext fun a => Fin.ext ?_)
  match a with
  | ⟨0, _⟩ => show (BitVec.ofNat 32 (bt t).val).toNat * 1 + 1 * 0 = (bt t).val; rw [word_coord]; omega
  | ⟨1, _⟩ => show (BitVec.ofNat 32 (pt' t).val).toNat * 256 + 1 * r.val = (pt' t).val * 256 + r.val; rw [word_coord]; omega
  | ⟨2, _⟩ => show 0 * 1024 + 1 * d.val = d.val; omega

theorem blk_5 (r : Fin 256) (d : Fin 1024) : (iblk m c 5 t : Vec Ideal S1x256x1024 .f32) (ix3 0 r d)
    = (V m c main_arg0 : Vec Ideal S8x2048x1024 .f32) (ix3 (bt t) ⟨(pt' t).val * 256 + r.val, row_lt _ _⟩ d) := rd_5 c t (V m c main_arg0) r d

theorem rd_6 (X : Buf (Elt Ideal) ((c : Thread nD τ).loc main_v40)) (r : Fin 256) (e : Fin 512) :
    ((((cfg0 (F := Ideal)).win 6).blk t).view.read (Elt Ideal) X : Vec Ideal S1x256x512 .bf16) (ix3 0 r e) = (X : Vec Ideal S8x2048x512 .bf16) (ix3 (bt t) ⟨(pt' t).val * 256 + r.val, row_lt _ _⟩ e) := by
  rw [View.read_apply]
  refine congrArg X (funext fun a => Fin.ext ?_)
  match a with
  | ⟨0, _⟩ => show (BitVec.ofNat 32 (bt t).val).toNat * 1 + 1 * 0 = (bt t).val; rw [word_coord]; omega
  | ⟨1, _⟩ => show (BitVec.ofNat 32 (pt' t).val).toNat * 256 + 1 * r.val = (pt' t).val * 256 + r.val; rw [word_coord]; omega
  | ⟨2, _⟩ => show 0 * 512 + 1 * e.val = e.val; omega

theorem blk_6 (r : Fin 256) (e : Fin 512) : (iblk m c 6 t : Vec Ideal S1x256x512 .bf16) (ix3 0 r e)
    = (V m c main_v40 : Vec Ideal S8x2048x512 .bf16) (ix3 (bt t) ⟨(pt' t).val * 256 + r.val, row_lt _ _⟩ e) := rd_6 c t (V m c main_v40) r e

theorem rd_7 (X : Buf (Elt Ideal) ((c : Thread nD τ).loc main_v41)) (e : Fin 512) (d : Fin 1024) :
    ((((cfg0 (F := Ideal)).win 7).blk t).view.read (Elt Ideal) X : Vec Ideal S512x1024 .bf16) (ix2 e d) = (X : Vec Ideal S512x1024 .bf16) (ix2 e d) := by
  rw [View.read_apply]
  refine congrArg X (funext fun a => Fin.ext ?_)
  match a with
  | ⟨0, _⟩ => show 0 * 512 + 1 * e.val = e.val; omega
  | ⟨1, _⟩ => show 0 * 1024 + 1 * d.val = d.val; omega

theorem blk_7 (e : Fin 512) (d : Fin 1024) : (iblk m c 7 t : Vec Ideal S512x1024 .bf16) (ix2 e d)
    = (V m c main_v41 : Vec Ideal S512x1024 .bf16) (ix2 e d) := rd_7 c t (V m c main_v41) e d

theorem rd_8 (X : Buf (Elt Ideal) ((c : Thread nD τ).loc main_v42)) (e : Fin 512) (d : Fin 1024) :
    ((((cfg0 (F := Ideal)).win 8).blk t).view.read (Elt Ideal) X : Vec Ideal S512x1024 .bf16) (ix2 e d) = (X : Vec Ideal S512x1024 .bf16) (ix2 e d) := by
  rw [View.read_apply]
  refine congrArg X (funext fun a => Fin.ext ?_)
  match a with
  | ⟨0, _⟩ => show 0 * 512 + 1 * e.val = e.val; omega
  | ⟨1, _⟩ => show 0 * 1024 + 1 * d.val = d.val; omega

theorem blk_8 (e : Fin 512) (d : Fin 1024) : (iblk m c 8 t : Vec Ideal S512x1024 .bf16) (ix2 e d)
    = (V m c main_v42 : Vec Ideal S512x1024 .bf16) (ix2 e d) := rd_8 c t (V m c main_v42) e d

abbrev aX : FVec Ideal S8x2048x1024 .f32 := m ((c : Thread nD τ).loc main_arg0)
abbrev aOa : FVec Ideal S8x2048x512 .f32 := m ((c : Thread nD τ).loc main_arg1)
abbrev aQ : FVec Ideal S8x2048x512 .f32 := m ((c : Thread nD τ).loc main_arg2)
abbrev aK : FVec Ideal S8x2048x512 .f32 := m ((c : Thread nD τ).loc main_arg3)
abbrev aV : FVec Ideal S8x2048x512 .f32 := m ((c : Thread nD τ).loc main_arg4)
abbrev aG : FVec Ideal S8x2048x512 .f32 := m ((c : Thread nD τ).loc main_arg5)
abbrev aW : FVec Ideal S1x1024x1024 .f32 := m ((c : Thread nD τ).loc main_arg6)

/-- The result: the reference's function of the arguments. -/
def result : FVec Ideal S8x2048x1024 .f32 :=
  RI.rR (aX m c) (aOa m c) (mulf (RI.rO (aV m c) (RI.rA (RI.rZ (aQ m c) (aK m c)))) (RI.rG (aG m c))) (aW m c)

variable (hq : ∀ i, aQ m c i = ((aQ m c i).toReal : EReal)) (hk : ∀ i, aK m c i = ((aK m c i).toReal : EReal))

include hq hk in
/-- A point's block of the result. -/
theorem outs_eq (r : Fin 256) (d : Fin 1024) : outsAt m c t (ix3 0 r d) = result m c (ix3 (bt t) ⟨(pt' t).val * 256 + r.val, row_lt _ _⟩ d) := by
  unfold outsAt result
  refine outV_eq (aQ m c) (aK m c) (aV m c) (aG m c) (aOa m c) (aX m c) (aW m c) hq hk (bt t) (pt' t) _ _ _ _ _ _ _ _ _
    (fun n e => ?_) (fun j e i => ?_) (fun h l i => ?_) (fun r e => ?_) (fun i k => ?_) (fun r d => ?_) (fun r e => ?_) (fun e d => ?_) (fun e d => ?_) r d
  · rw [blk_0, V_v29]; rfl
  · rw [blk_1, V_v32, hV_apply]
  · rw [blk_2, V_v28]
  · rw [blk_3, V_v39]
  · rw [blk_4, V_v9, hU_apply]
  · rw [blk_5]; exact congrFun (V_main_arg0 m c) _
  · rw [blk_6, V_v40]; rfl
  · rw [blk_7, V_v41]
    refine Eq.trans ?_ (hW_apply (aW m c) ⟨e.val, low_lt e⟩ d)
    pointwise
  · rw [blk_8, V_v42]
    refine Eq.trans ?_ (hW_apply (aW m c) ⟨512 + e.val, high_lt e⟩ d)
    pointwise

include hq hk in
/-- What a point writes back is its block of the result. -/
theorem flushed_eq : (dats m 0 c).flushed 9 t = (((cfg0 (F := Ideal)).win 9).blk t).view.read (Elt Ideal) (result m c) := by
  show (((cfg0 (F := Ideal)).win 9).cut (grid0.coords t) ((dats m 0 c).after 9 t)) = _
  rw [after_9]
  refine funext fun (j : S1x256x1024.Idx) => ?_
  rw [View.read_apply]
  obtain ⟨r, d, rfl⟩ : ∃ (r : Fin 256) (d : Fin 1024), j = ix3 0 r d := ⟨j 1, j 2, by
    funext a
    match a with
    | ⟨0, _⟩ => exact Subsingleton.elim (α := Fin 1) _ _
    | ⟨1, _⟩ => rfl
    | ⟨2, _⟩ => rfl⟩
  refine (outs_eq m c t hq hk r d).trans ?_
  generalize result m c = X
  refine congrArg X (funext fun a => Fin.ext ?_)
  match a with
  | ⟨0, _⟩ => show (bt t).val = (BitVec.ofNat 32 (bt t).val).toNat * 1 + 1 * 0; rw [word_coord]; omega
  | ⟨1, _⟩ => show (pt' t).val * 256 + r.val = (BitVec.ofNat 32 (pt' t).val).toNat * 256 + 1 * r.val; rw [word_coord]; omega
  | ⟨2, _⟩ => show d.val = 0 * 1024 + 1 * d.val; omega

/-- Every batch and block of queries has a grid point. -/
theorem point (b p : Fin 8) : ∃ t : Fin grid0.N, ((grid0.coords t) 0).val = b.val ∧ ((grid0.coords t) 1).val = p.val := by
  have H : ∀ b p : Fin 8, ∃ t : Fin 64, ((grid0.coords (t.cast N_0.symm)) 0).val = b.val ∧ ((grid0.coords (t.cast N_0.symm)) 1).val = p.val := by
    decide +kernel
  obtain ⟨t, h⟩ := H b p
  exact ⟨_, h⟩

include hq hk in
/-- The result array after the run. -/
theorem final : (dats m 0 c).arrAt 9 (cfg0 (F := Ideal)).N = result m c :=
  (dats m 0 c).arrAt_eq_of_cover 9 (result m c) (fun t _ => flushed_eq m c t hq hk) fun (i : S8x2048x1024.Idx) => by
    have h1 : (i 1).val < 2048 := (i 1).isLt
    have h2 : (i 2).val < 1024 := (i 2).isLt
    obtain ⟨t, ht0, ht1⟩ := point (i 0) ⟨(i 1).val / 256, by omega⟩
    refine ⟨t, flush0_9 t, ?_⟩
    show i ∈ ((View.whole main_v43).slice (win0_9.rect t)).set
    rw [View.set_slice_whole, Rect.mem_set_unit]
    intro a
    match a with
    | ⟨0, _⟩ =>
      show (BitVec.ofNat 32 ((grid0.coords t) 0).val).toNat * 1 ≤ (i 0).val ∧ (i 0).val < (BitVec.ofNat 32 ((grid0.coords t) 0).val).toNat * 1 + 1
      rw [word_coord ((grid0.coords t) 0), ht0]; omega
    | ⟨1, _⟩ =>
      show (BitVec.ofNat 32 ((grid0.coords t) 1).val).toNat * 256 ≤ (i 1).val ∧ (i 1).val < (BitVec.ofNat 32 ((grid0.coords t) 1).val).toNat * 256 + 256
      rw [word_coord ((grid0.coords t) 1), ht1]; dsimp only; omega
    | ⟨2, _⟩ => show 0 * 1024 ≤ (i 2).val ∧ (i 2).val < 0 * 1024 + 1024; omega

/-- The run with the result array as the pipeline leaves it. -/
theorem run_value (ρ : Dev nD → PrngReg) (hgo : Go Ideal) : θ_run defs (onTc (τ := τ) (main (F := Ideal))) ⟨m, fun _ => 0, ρ⟩ (fun r => (∀ c : Dev nD,
      r.2.mem ((c.tc : Thread nD τ).loc main_v43) = (dats m 0 c).arrAt 9 (cfg0 (F := Ideal)).N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ ⟨h, _⟩ => ⟨fun c => (h c).1 9, fun c => args_kept m h c⟩) (run_main m ρ hgo)

end

end Cert.Proof.PI

end
-- ==== Proof.P.Words.lean ====
module

public import proofs.«01_k».proof.Proof.Gen.Kernel
public import proofs.«01_k».proof.Proof.Gen.Kernel.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.P.Tail
public import proofs.«01_k».proof.Proof.P.Blocks

@[expose] public section

set_option maxRecDepth 16384

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Head `h`'s keys, the block's first row given as the kernel's word. -/
def kW (c : Dev nD) (arg2 : Memref sig .tc .vmem S1x2048x512 .bf16) (f2 : Bf (F := F) c arg2) (w : BitVec 32) (j : ℕ)
    (hw : w.toNat = 256 * (j % 8)) (h : Fin 8) : Vec F S1x256x128 .bf16 :=
  arg2.view.readAt (Elt F) (Rect.unit (s := S1x2048x512) ![0, w.toNat, 128 * (h.val / 2)] S1x256x128.size
    (inb_off (s := S1x2048x512) (by rw [hw]) (inbK j h))).toLoadRect f2

theorem kW_eq (c : Dev nD) (arg2 : Memref sig .tc .vmem S1x2048x512 .bf16) (f2 : Bf (F := F) c arg2) (w : BitVec 32) (j : ℕ)
    (hw : w.toNat = 256 * (j % 8)) (h : Fin 8) : kW c arg2 f2 w j hw h = arg2.view.readAt (Elt F) (rK j h).toLoadRect f2 :=
  rd_off arg2.view f2 _ _ (by rw [hw])

/-- Head `h`'s values, the block's number given as the kernel's word. -/
def vW (c : Dev nD) (arg3 : Memref sig .tc .vmem S1x8x512x256 .bf16) (f3 : Bf (F := F) c arg3) (w : BitVec 32) (j : ℕ)
    (hw : w.toNat = j % 8) (h : Fin 8) : Vec F S1x1x64x256 .bf16 :=
  arg3.view.readAt (Elt F) (Rect.unit (s := S1x8x512x256) ![0, w.toNat, 64 * h.val, 0] S1x1x64x256.size
    (inb_off (s := S1x8x512x256) (by rw [hw]) (inbV j h))).toLoadRect f3

theorem vW_eq (c : Dev nD) (arg3 : Memref sig .tc .vmem S1x8x512x256 .bf16) (f3 : Bf (F := F) c arg3) (w : BitVec 32) (j : ℕ)
    (hw : w.toNat = j % 8) (h : Fin 8) : vW c arg3 f3 w j hw h = arg3.view.readAt (Elt F) (rV j h).toLoadRect f3 :=
  rd_off arg3.view f3 _ _ (by rw [hw])

theorem mulW : ∀ q : Fin 8, (Scalar.indexCast (Scalar.muli (BitVec.ofNat 32 q.val) 256#32)).toNat = 256 * (q.val % 8)
    ∧ (Scalar.indexCast (BitVec.ofNat 32 q.val)).toNat = q.val % 8 := by decide +kernel

theorem subW (q : Fin 8) (m : ℕ) (hq : q.val = m + 1) :
    (Scalar.indexCast (Scalar.muli (Scalar.subi (BitVec.ofNat 32 q.val) 1#32) 256#32)).toNat = 256 * (m % 8)
      ∧ (Scalar.indexCast (Scalar.subi (BitVec.ofNat 32 q.val) 1#32)).toNat = m % 8 := subMul' q 1 m (by omega)

end Cert.Proof.P

end
-- ==== Proof.P.Run.lean ====
module

public import proofs.«01_k».proof.Proof.Gen.Kernel
public import proofs.«01_k».proof.Proof.Gen.Kernel.Skeleton
public import Idealize.ShloMosaic.Lib.Tactic
public import Idealize.ShloMosaic.Lib.Tactic.Stretches
public import Idealize.ShloMosaic.Lib.Pipeline.Frame
public import Idealize.ShloMosaic.Lib.Pipeline.KitQuiescent
public import proofs.«01_k».proof.Proof.P.Launch
public import proofs.«01_k».proof.Proof.Gen.Kernel.Launch
public import proofs.«01_k».proof.Proof.Gen.Kernel.Points
public import Idealize.ShloMosaic.Lib.Pipeline.ValueKit
public import proofs.«01_k».proof.Proof.P.Blocks

@[expose] public section

set_option maxRecDepth 16384

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = iblk m c 5 t := rfl
theorem after_6 (c : Dev nD) (t : Fin (cfg0 (F := F)).N) : (dats m 0 c).after 6 t = iblk m c 6 t := rfl
theorem after_7 (c : Dev nD) (t : Fin (cfg0 (F := F)).N) : (dats m 0 c).after 7 t = iblk m c 7 t := rfl
theorem after_8 (c : Dev nD) (t : Fin (cfg0 (F := F)).N) : (dats m 0 c).after 8 t = iblk m c 8 t := rfl
theorem after_9 (c : Dev nD) (t : Fin (cfg0 (F := F)).N) : (dats m 0 c).after 9 t = outsAt m c t := rfl

/-- The window whose contents are not tracked: the result's. -/
def fgt (w : Fin (cfg0 (F := F)).W) : Bool := w.val == 9

set_option maxHeartbeats 4000000 in
/-- The launch library's obligation, the result's block unnamed. -/
theorem body_obligation (c : Dev nD) : BodyObligation (dats (F := F) m 0 c) (defs₀ (F := F)) Variants.nat () Set.univ (fgt (F := F)) := fun t => by
  rw [bigSep_W0, bigSep_W0, defs₀_row]
  have hpost : bodyPost m c t ⊢ iprop((dats m 0 c).Φ t.succ ∗ (dats m 0 c).owesAt () t.succ
      ∗ owns (c : Thread nD τ) (st0_0 (F := F) t) fullShare ((dats m 0 c).after 0 t)
      ∗ owns (c : Thread nD τ) (st0_1 (F := F) t) fullShare ((dats m 0 c).after 1 t)
      ∗ owns (c : Thread nD τ) (st0_2 (F := F) t) fullShare ((dats m 0 c).after 2 t)
      ∗ owns (c : Thread nD τ) (st0_3 (F := F) t) fullShare ((dats m 0 c).after 3 t)
      ∗ owns (c : Thread nD τ) (st0_4 (F := F) t) fullShare ((dats m 0 c).after 4 t)
      ∗ owns (c : Thread nD τ) (st0_5 (F := F) t) fullShare ((dats m 0 c).after 5 t)
      ∗ owns (c : Thread nD τ) (st0_6 (F := F) t) fullShare ((dats m 0 c).after 6 t)
      ∗ owns (c : Thread nD τ) (st0_7 (F := F) t) fullShare ((dats m 0 c).after 7 t)
      ∗ owns (c : Thread nD τ) (st0_8 (F := F) t) fullShare ((dats m 0 c).after 8 t)
      ∗ (∃ X, owns (c : Thread nD τ) (st0_9 (F := F) t) fullShare X)) := by
    unfold bodyPost
    rw [show (dats m 0 c).Φ t.succ = (dats m 0 c).Φ t.castSucc from rfl, show (dats m 0 c).owesAt () t.succ = (dats m 0 c).owesAt () t.castSucc from rfl, after_0, after_1, after_2, after_3, after_4, after_5, after_6, after_7, after_8]
    iintro ⟨Hf, Ho, H0, H1, H2, H3, H4, H5, H6, H7, H8, ⟨%X, %hX, H9⟩⟩
    isplitl [Hf]; · iexact Hf
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  exact triple_restated ((sound_body m c t).trans (wp_mono _ _ _ fun _ => hpost)) rfl .rfl fun _ => .rfl

set_option maxHeartbeats 8000000 in
set_option backward.isDefEq.respectTransparency.types false in
/-- The run: every input array ends as it was found. -/
theorem run_main : θ_run defs (onTc (τ := τ) (main (F := F))) (s₀ m ρ)
    (fun r => Pipeline.RDat.FramePost (cfgs 0) (fun c => (dats m 0 c).toRForget (fgt (F := F))) (V m) r ∧ r.2.sem = fun _ => 0) :=
  Pipeline.θ_run_frame_forget (Q' := _) cfgs (dats m) (0 : Fin 1) launch0 defs₀ Variants.nat (fgt (F := F)) m ρ main
    (hbody := fun c => (body_obligation m c).loose) (hshare := fun c => (dats m 0 c).share_full fun _ => rfl)
    (howed := fun _ _ => rfl) (V := V m) (hmain := hmain m) (hA := A_eq m) (hΦ := fun _ _ => rfl) (hQ' := fun _ h => h)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hs⟩ => ⟨fun c => ⟨(Pipeline.RDat.FramePost.arr_in h c 5 rfl).trans ((A_eq m c 5).trans (V_main_arg0 m c)),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c)⟩, hs⟩) (run_main m ρ)

end Cert.Proof.P

end
-- ==== Proof.Claims.lean ====
/- The frames of the three programs and the ledger of the two named constants.

   The loop of the kernel goes on while its largest accumulated exponent is at least the underflow constant; that
   constant is named, as minus infinity, so on the extended reals the loop never stops early (`go`). -/
module

public import proofs.«01_k».proof.Defs
public import proofs.«01_k».proof.Proof.Run
public import proofs.«01_k».proof.Proof.P.Run
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- Every extended real is at least the named underflow constant, which is minus infinity. -/
theorem go : Cert.Proof.PI.Go Ideal := fun x => by
  rw [show Named.named (F := Ideal) Cert.KernelIdeal.κ "underflow" (φ := .f32) 0xC3160000#32 = (⊥ : EReal) from
    IdealRules.named_const.ideal_named_scalar _ _ _ _ rfl, Ideal.scalar_cmpf_def]
  simp [Ideal.cmp]

theorem frame_p : Cert.quiescent_Kernel := fun m ρ _ => Cert.Proof.P.frame m ρ

theorem frame_pi : Cert.quiescent_KernelIdeal := fun m ρ _ => Cert.Proof.PI.frame m ρ go

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives the two constants the values they are named for. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "underflow" .f32 0xC3160000#32 ⊥ rfl⟩

end Cert.Proof

end
-- ==== Proof.Algebraic.lean ====
/- The value claim: on finite queries and keys the kernel's result is the reference's. -/
module

public import proofs.«01_k».proof.Defs
public import proofs.«01_k».proof.Proof.Value
public import proofs.«01_k».proof.Proof.Claims
public import proofs.«01_k».proof.Proof.Gen.Pre_finite_scores

@[expose] public section

set_option maxRecDepth 16384

noncomputable section

open Idealize.ShloMosaic Idealize.ShloMosaic.TcCoe Idealize.SL.Sem

namespace Cert.Proof

/-- An extended real whose absolute value is below plus infinity is a real. -/
theorem real_of_abs (x : Ideal .f32) (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hl : max (x : EReal) (-(x : EReal)) < ⊤ := by
    by_contra hn
    unfold Ideal.cmp at h'
    simp [hn] at h'
  rw [max_lt_iff] at hl
  exact (EReal.coe_toReal hl.1.ne fun hb => by rw [hb] at hl; simp at hl).symm

/-- Two bits whose conjunction is one are one. -/
theorem bits_of_and : ∀ a b : BitVec 1, IntOp.andi a b = 1#1 → a = 1#1 ∧ b = 1#1 := by decide

/-- The precondition says that the queries and the keys are reals. -/
theorem reals (m : (ℓ : Loc Cert.KernelIdeal.nD Cert.KernelIdeal.τ Cert.KernelIdeal.sig) → Buf (Elt Ideal) ℓ) [Cert.Pre_finite_scores.Facts]
    (h : Cert.Pre_KernelIdeal_finite_scores m)
    (c : Dev Cert.KernelIdeal.nD) : (∀ i, PI.aQ m c i = ((PI.aQ m c i).toReal : EReal)) ∧ ∀ i, PI.aK m c i = ((PI.aK m c i).toReal : EReal) := by
  have H := fun i => bits_of_and _ _ (congrFun (h c) i)
  exact ⟨fun i => real_of_abs _ (H i).1, fun i => real_of_abs _ (H i).2⟩

/-- On finite queries and keys both programs leave the same result and their arguments unchanged. -/
theorem algebraic [Cert.Pre_finite_scores.Facts] : Cert.algebraic_KernelIdeal_ReferenceIdeal_pre_finite_scores := fun m g m' g' hp hm => by
  refine ⟨fun c => PI.result m c, ?_, ?_⟩
  · refine (θ_run Cert.KernelIdeal.defs _ _).mono (fun r h c => ⟨?_, (h.2 c)⟩) (PI.run_value m g go)
    exact (h.1 c).trans (PI.final m c (reals m hp c).1 (reals m hp c).2)
  · refine (θ_run Cert.ReferenceIdeal.defs _ _).mono (fun r h c => ⟨(h c).1.trans ?_, (h c).2⟩) (Cert.ReferenceIdeal.Value.run (F := Ideal) m' g')
    obtain ⟨h0, h1, h2, h3, h4, h5, h6⟩ := hm c
    rw [RI.res_eq, h0, h1, h2, h3, h4, h5, h6]
    rfl

end Cert.Proof

end
-- ==== Proof.In.Heads.lean ====
/- The blocks of heads: two heads share 128 lanes, and each is stored with the lanes of the other zero. -/
module

public import proofs.«01_k».proof.Proof.Gen.Kernel2Ideal.Frame
public import Idealize.ShloMosaic.Lib.Pipeline.Value
public import Idealize.ShloMosaic.Lib.Pointwise
public import Idealize.ShloMosaic.Lib.WordCmp

@[expose] public section

set_option maxRecDepth 16384

noncomputable section

namespace Cert.Proof.In

open Cert.Kernel2Ideal Cert.Kernel2Ideal.Gen
open Idealize.ShloMosaic Idealize.ShloMosaic.TcCoe

/-- Whether a lane is one of the first head of its pair. -/
theorem mask_apply (r : Fin 512) (l : Fin 128) : k0_pay9 (ix2 r l) = BitVec.ofBool (decide (l.val < 64)) := by
  have hl := l.isLt
  pointwise [k0_pay9]
  rw [WordCmp.cmpi_slt_ofNat (by omega) (by omega)]

theorem mask26_apply (r : Fin 512) (l : Fin 128) : k0_pay26 (ix2 r l) = BitVec.ofBool (decide (l.val < 64)) := mask_apply r l
theorem mask54_apply (r : Fin 512) (l : Fin 128) : k0_pay54 (ix2 r l) = BitVec.ofBool (decide (l.val < 64)) := mask_apply r l

theorem emb_eq {s : Shape} (r : Rect s) (x : r.shape.Idx) : r.emb x = r.idx x := rfl

theorem xor_one (p : Bool) : IntOp.xori (BitVec.ofBool p) 1#1 = BitVec.ofBool (!p) := by cases p <;> rfl

/-- A head's columns on its half of the lanes, and zero on the other half. -/
def headsOf {n w : ℕ} [NeZero w] (P : Fin 512 → Fin w → EReal) : (⟨4, ![1, n, 128, 512]⟩ : Shape).Idx → EReal :=
  fun y => if (y 2).val / 64 = (y 1).val % 2 then P (y 3) (Fin.ofNat w (128 * ((y 1).val / 2) + (y 2).val)) else 0

/-- A position of a head's block is a lane and a token. -/
theorem pos_eq (x : S1x1x128x512.Idx) : ∃ (l : Fin 128) (r : Fin 512), x = ix4 0 0 l r := ⟨x 2, x 3, by
  funext a
  match a with
  | ⟨0, _⟩ => exact Subsingleton.elim (α := Fin 1) _ _
  | ⟨1, _⟩ => exact Subsingleton.elim (α := Fin 1) _ _
  | ⟨2, _⟩ => rfl
  | ⟨3, _⟩ => rfl⟩

section
variable (x0 : Vec Ideal S1x512x1024 .f32) (x1 : Vec Ideal S1x1024 .f32) (x2 : Vec Ideal S1024x5376 .bf16) (x3 : Vec Ideal S1x512 .f32)
  (x4 : Vec Ideal S1x512 .f32) (x5 : Vec Ideal S128x128 .bf16)

/-- The block of the first group's queries. -/
theorem out6_eq (y : S1x8x128x512.Idx) : out0_6 x0 x1 x2 x3 x4 x5 y = headsOf (n := 8) (fun r i => k0_pay72 x0 x1 x2 x3 x4 x5 (ix2 r i)) y := by
  unfold out0_6
  refine View.canon_apply_of_pieces _ _ (fun pc hpc => ?_) y (cover0_6 _ _ _ _ _ _ _ _ y)
  simp only [List.mem_cons, List.not_mem_nil, or_false] at hpc
  rcases hpc with rfl | rfl | rfl | rfl | rfl | rfl | rfl | rfl <;> intro x <;> obtain ⟨l, r, rfl⟩ := pos_eq x <;> have hl := l.isLt <;> rw [emb_eq] <;>
    pointwise [k0_pay10, k0_pay11, k0_pay12, k0_pay13, k0_pay14, k0_pay15, k0_pay16, k0_pay17, k0_pay18, k0_pay19, k0_pay73, mask_apply, xor_one, headsOf] <;>
    refine if_congr ?_ (congrArg (k0_pay72 x0 x1 x2 x3 x4 x5) (congrArg (ix2 r) (Fin.ext ?_))) rfl <;> simp <;> omega

/-- The block of the indexer's queries. -/
theorem out10_eq (y : S1x16x128x512.Idx) : out0_10 x0 x1 x2 x3 x4 x5 y = headsOf (n := 16) (fun r i => k0_pay74 x0 x1 x2 x3 x4 x5 (ix2 r i)) y := by
  unfold out0_10
  refine View.canon_apply_of_pieces _ _ (fun pc hpc => ?_) y (cover0_10 _ _ _ _ _ _ _ _ _ _ _ _ _ _ _ _ y)
  simp only [List.mem_cons, List.not_mem_nil, or_false] at hpc
  rcases hpc with rfl | rfl | rfl | rfl | rfl | rfl | rfl | rfl | rfl | rfl | rfl | rfl | rfl | rfl | rfl | rfl <;> intro x <;>
    obtain ⟨l, r, rfl⟩ := pos_eq x <;> have hl := l.isLt <;> rw [emb_eq] <;>
    pointwise [k0_pay27, k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay75, mask26_apply, xor_one, headsOf] <;>
    refine if_congr ?_ (congrArg (k0_pay74 x0 x1 x2 x3 x4 x5) (congrArg (ix2 r) (Fin.ext ?_))) rfl <;> simp <;> omega

/-- The block of the second group's queries. -/
theorem out13_eq (y : S1x8x128x512.Idx) : out0_13 x0 x1 x2 x3 x4 x5 y = headsOf (n := 8) (fun r i => k0_pay76 x0 x1 x2 x3 x4 x5 (ix2 r i)) y := by
  unfold out0_13
  refine View.canon_apply_of_pieces _ _ (fun pc hpc => ?_) y (cover0_13 _ _ _ _ _ _ _ _ y)
  simp only [List.mem_cons, List.not_mem_nil, or_false] at hpc
  rcases hpc with rfl | rfl | rfl | rfl | rfl | rfl | rfl | rfl <;> intro x <;> obtain ⟨l, r, rfl⟩ := pos_eq x <;> have hl := l.isLt <;> rw [emb_eq] <;>
    pointwise [k0_pay55, k0_pay56, k0_pay57, k0_pay58, k0_pay59, k0_pay60, k0_pay61, k0_pay62, k0_pay63, k0_pay64, k0_pay77, mask54_apply, xor_one, headsOf] <;>
    refine if_congr ?_ (congrArg (k0_pay76 x0 x1 x2 x3 x4 x5) (congrArg (ix2 r) (Fin.ext ?_))) rfl <;> simp <;> omega

end

end Cert.Proof.In

end
-- ==== Proof.In.Body.lean ====
/- What the body leaves in each block: a token's normalised row against a column of the packed weights. -/
module

public import proofs.«01_k».proof.Proof.In.Heads

@[expose] public section

set_option maxRecDepth 16384

noncomputable section

namespace Cert.Proof.In

open Cert.Kernel2Ideal Cert.Kernel2Ideal.Gen
open Idealize.ShloMosaic Idealize.ShloMosaic.TcCoe

/-- The root mean square's reciprocal, of a sum of squares over a count. -/
def rs (s n : EReal) : EReal := Ideal.rsqrt (Ideal.div s n + Ideal.ofBits .f32 0x358637BD#32)

/-- A row normalised, with its gain. -/
def hn (x g : Fin 1024 → EReal) (k : Fin 1024) : EReal := x k * rs (∑ j, x j * x j) (Ideal.ofBits .f32 0x44800000#32) * g k

/-- A row against a column. -/
def pj (h w : Fin 1024 → EReal) : EReal := ∑ k, h k * w k

/-- A gate. -/
def sl (z : EReal) : EReal := z * Ideal.div 1 (1 + Ideal.exp (-z))

section
variable (x0 : Vec Ideal S1x512x1024 .f32) (x1 : Vec Ideal S1x1024 .f32) (x2 : Vec Ideal S1024x5376 .bf16) (x3 : Vec Ideal S1x512 .f32)
  (x4 : Vec Ideal S1x512 .f32) (x5 : Vec Ideal S128x128 .bf16)

/-- The normalised row of a token of the block. -/
def hrow (r : Fin 512) : Fin 1024 → EReal := hn (fun k => x0 (ix3 0 r k)) fun k => x1 (ix2 0 k)

/-- A column of the packed weights. -/
def col (n : ℕ) : Fin 1024 → EReal := fun k => x2 (ix2 k (Fin.ofNat 5376 n))

theorem col_eq (n : ℕ) (h : n < 5376) (k : Fin 1024) : x2 (ix2 k ⟨n, h⟩) = col x2 n k :=
  congrArg (fun a => x2 (ix2 k a)) (Fin.ext (Nat.mod_eq_of_lt h).symm)

theorem pay68_apply (r : Fin 512) (k : Fin 1024) : k0_pay68 x0 x1 x2 x3 x4 x5 (ix2 r k) = hrow x0 x1 r k := by
  pointwise [k0_pay68, k0_pay4, hrow, hn, rs]

theorem pay69_apply (r i : Fin 512) : k0_pay69 x0 x1 x2 x3 x4 x5 (ix2 r i) = pj (hrow x0 x1 r) (col x2 i.val) := by
  have h := pay68_apply x0 x1 x2 x3 x4 x5 r
  unfold k0_pay68 at h
  pointwise [k0_pay69, k0_pay5, pj, h]
  exact Finset.sum_congr rfl fun k _ => congrArg _ (col_eq ..)

theorem pay74_apply (r : Fin 512) (i : Fin 1024) : k0_pay74 x0 x1 x2 x3 x4 x5 (ix2 r i) = pj (hrow x0 x1 r) (col x2 (2048 + i.val)) := by
  pointwise [k0_pay74, k0_pay25, pj, pay68_apply]
  exact Finset.sum_congr rfl fun k _ => congrArg _ (col_eq ..)

theorem pay76_apply (r i : Fin 512) : k0_pay76 x0 x1 x2 x3 x4 x5 (ix2 r i) = pj (hrow x0 x1 r) (col x2 (3328 + i.val)) := by
  pointwise [k0_pay76, k0_pay53, pj, pay68_apply]
  exact Finset.sum_congr rfl fun k _ => congrArg _ (col_eq ..)

/-- A position of a block of 512 columns is a token and a column. -/
theorem pos512 (x : S1x512x512.Idx) : ∃ (r i : Fin 512), x = ix3 0 r i := ⟨x 1, x 2, by
  funext a
  match a with
  | ⟨0, _⟩ => exact Subsingleton.elim (α := Fin 1) _ _
  | ⟨1, _⟩ => rfl
  | ⟨2, _⟩ => rfl⟩

theorem pos128 (x : S1x512x128.Idx) : ∃ (r : Fin 512) (i : Fin 128), x = ix3 0 r i := ⟨x 1, x 2, by
  funext a
  match a with
  | ⟨0, _⟩ => exact Subsingleton.elim (α := Fin 1) _ _
  | ⟨1, _⟩ => rfl
  | ⟨2, _⟩ => rfl⟩

theorem pos16 (x : S1x16x512.Idx) : ∃ (i : Fin 16) (r : Fin 512), x = ix3 0 i r := ⟨x 1, x 2, by
  funext a
  match a with
  | ⟨0, _⟩ => exact Subsingleton.elim (α := Fin 1) _ _
  | ⟨1, _⟩ => rfl
  | ⟨2, _⟩ => rfl⟩

theorem pos256 (x : S1x1x512x256.Idx) : ∃ (i : Fin 512) (r : Fin 256), x = ix4 0 0 i r := ⟨x 2, x 3, by
  funext a
  match a with
  | ⟨0, _⟩ => exact Subsingleton.elim (α := Fin 1) _ _
  | ⟨1, _⟩ => exact Subsingleton.elim (α := Fin 1) _ _
  | ⟨2, _⟩ => rfl
  | ⟨3, _⟩ => rfl⟩

/-- The second group's keys. -/
theorem out14_eq (y : S1x512x512.Idx) : out0_14 x0 x1 x2 x3 x4 x5 y = pj (hrow x0 x1 (y 1)) (col x2 (3840 + (y 2).val)) := by
  unfold out0_14
  refine View.canon_apply_of_pieces (Val := Elt Ideal) (fun y => pj (hrow x0 x1 (y 1)) (col x2 (3840 + (y 2).val))) _ (fun pc hpc => ?_) y (cover0_14 _ y)
  rw [List.mem_singleton.mp hpc]
  intro x
  obtain ⟨r, i, rfl⟩ := pos512 x
  rw [emb_eq]
  pointwise [k0_pay3, pj, pay68_apply]
  exact Finset.sum_congr rfl fun k _ => congrArg _ (col_eq ..)

/-- The gates. -/
theorem out9_eq (y : S1x512x512.Idx) : out0_9 x0 x1 x2 x3 x4 x5 y = sl (pj (hrow x0 x1 (y 1)) (col x2 (1536 + (y 2).val))) := by
  unfold out0_9
  refine View.canon_apply_of_pieces (Val := Elt Ideal) (fun y => sl (pj (hrow x0 x1 (y 1)) (col x2 (1536 + (y 2).val)))) _ (fun pc hpc => ?_) y (cover0_9 _ y)
  rw [List.mem_singleton.mp hpc]
  intro x
  obtain ⟨r, i, rfl⟩ := pos512 x
  rw [emb_eq]
  pointwise [k0_pay24, pj, pay68_apply, sl, col_eq]
  rw [zero_sub]

theorem out16_eq (y : S1x512x512.Idx) : out0_16 x0 x1 x2 x3 x4 x5 y = sl (pj (hrow x0 x1 (y 1)) (col x2 (4864 + (y 2).val))) := by
  unfold out0_16
  refine View.canon_apply_of_pieces (Val := Elt Ideal) (fun y => sl (pj (hrow x0 x1 (y 1)) (col x2 (4864 + (y 2).val)))) _ (fun pc hpc => ?_) y (cover0_16 _ y)
  rw [List.mem_singleton.mp hpc]
  intro x
  obtain ⟨r, i, rfl⟩ := pos512 x
  rw [emb_eq]
  pointwise [k0_pay2, pj, pay68_apply, sl, col_eq]
  rw [zero_sub]

/-- The indexer's keys, twice. -/
theorem out11_eq (y : S1x512x128.Idx) : out0_11 x0 x1 x2 x3 x4 x5 y = pj (hrow x0 x1 (y 1)) (col x2 (3072 + (y 2).val)) := by
  unfold out0_11
  refine View.canon_apply_of_pieces (Val := Elt Ideal) (fun y => pj (hrow x0 x1 (y 1)) (col x2 (3072 + (y 2).val))) _ (fun pc hpc => ?_) y (cover0_11 _ y)
  rw [List.mem_singleton.mp hpc]
  intro x
  obtain ⟨r, i, rfl⟩ := pos128 x
  rw [emb_eq]
  pointwise [k0_pay51, pj, pay68_apply]
  exact Finset.sum_congr rfl fun k _ => congrArg _ (col_eq ..)

/-- The indexer's weights. -/
theorem out12_eq (y : S1x16x512.Idx) : out0_12 x0 x1 x2 x3 x4 x5 y = pj (hrow x0 x1 (y 2)) (col x2 (3200 + (y 1).val)) := by
  unfold out0_12
  refine View.canon_apply_of_pieces (Val := Elt Ideal) (fun y => pj (hrow x0 x1 (y 2)) (col x2 (3200 + (y 1).val))) _ (fun pc hpc => ?_) y (cover0_12 _ y)
  rw [List.mem_singleton.mp hpc]
  intro x
  obtain ⟨i, r, rfl⟩ := pos16 x
  rw [emb_eq]
  pointwise [k0_pay52, pj, pay68_apply]
  exact Finset.sum_congr rfl fun k _ => congrArg _ (col_eq ..)

/-- The token of a position in a block of two tiles of 256. -/
def tok (j : Fin 2) (r : Fin 256) : Fin 512 := Fin.ofNat 512 (256 * j.val + r.val)

/-- The first group's values. -/
theorem out8_eq (y : S1x2x512x256.Idx) : out0_8 x0 x1 x2 x3 x4 x5 y = pj (hrow x0 x1 (tok (y 1) (y 3))) (col x2 (1024 + (y 2).val)) := by
  unfold out0_8
  refine View.canon_apply_of_pieces (Val := Elt Ideal) (fun y => pj (hrow x0 x1 (tok (y 1) (y 3))) (col x2 (1024 + (y 2).val))) _ (fun pc hpc => ?_) y (cover0_8 _ _ y)
  simp only [List.mem_cons, List.not_mem_nil, or_false] at hpc
  rcases hpc with rfl | rfl <;> intro x <;> obtain ⟨i, r, rfl⟩ := pos256 x <;> rw [emb_eq] <;> pointwise [k0_pay22, k0_pay23, k0_pay21, pj, pay68_apply] <;>
    refine Finset.sum_congr rfl fun k _ => congrArg₂ (· * ·) (congrArg (fun a => hrow x0 x1 a k) (Fin.ext ?_)) (col_eq ..) <;> simp [tok] <;> omega

/-- The second group's values. -/
theorem out15_eq (y : S1x2x512x256.Idx) : out0_15 x0 x1 x2 x3 x4 x5 y = pj (hrow x0 x1 (tok (y 1) (y 3))) (col x2 (4352 + (y 2).val)) := by
  unfold out0_15
  refine View.canon_apply_of_pieces (Val := Elt Ideal) (fun y => pj (hrow x0 x1 (tok (y 1) (y 3))) (col x2 (4352 + (y 2).val))) _ (fun pc hpc => ?_) y (cover0_15 _ _ y)
  simp only [List.mem_cons, List.not_mem_nil, or_false] at hpc
  rcases hpc with rfl | rfl <;> intro x <;> obtain ⟨i, r, rfl⟩ := pos256 x <;> rw [emb_eq] <;>
    pointwise [k0_pay1, k0_pay66, k0_pay67, k0_pay65, pj, pay68_apply] <;>
    refine Finset.sum_congr rfl fun k _ => congrArg₂ (· * ·) (congrArg (fun a => hrow x0 x1 a k) (Fin.ext ?_)) (col_eq ..) <;> simp [tok] <;> omega

end

end Cert.Proof.In

end
-- ==== Proof.In.Norm.lean ====
/- The per-head normalisation of the first group's queries and keys: each head's mean square from a matrix of ones and zeros. -/
module

public import proofs.«01_k».proof.Proof.In.Body

@[expose] public section

set_option maxRecDepth 16384

noncomputable section

namespace Cert.Proof.In

open Cert.Kernel2Ideal Cert.Kernel2Ideal.Gen
open Idealize.ShloMosaic Idealize.ShloMosaic.TcCoe

/-- A sum over two halves of 128 lanes of which one is zero. -/
theorem sum_half (f : ℕ → EReal) (r : ℕ) (hr : r < 2) :
    (∑ l : Fin 128, f l.val * if l.val / 64 = r then 1 else 0) = ∑ d : Fin 64, f (64 * r + d.val) := by
  have hs : (∑ l : Fin 128, f l.val * if l.val / 64 = r then 1 else 0)
      = (∑ d : Fin 64, f d.val * if d.val / 64 = r then 1 else 0) + ∑ d : Fin 64, f (64 + d.val) * if (64 + d.val) / 64 = r then 1 else 0 :=
    Fin.sum_univ_add (a := 64) (b := 64) fun l : Fin 128 => f l.val * if l.val / 64 = r then 1 else 0
  rw [hs]
  have hd : ∀ d : Fin 64, d.val / 64 = 0 ∧ (64 + d.val) / 64 = 1 := fun d => by omega
  simp only [(hd _).1, (hd _).2]
  interval_cases r
  · simp
  · simp

/-- A head's component, normalised over the head, with its gain. -/
def qk (f : ℕ → EReal) (i : ℕ) (g : EReal) : EReal :=
  f i * rs (∑ d : Fin 64, f (64 * (i / 64) + d.val) * f (64 * (i / 64) + d.val)) (Ideal.ofBits .f32 0x42800000#32) * g

theorem div_64 (s : EReal) : s * Ideal.ofBits .f32 0x3C800000#32 = Ideal.div s (Ideal.ofBits .f32 0x42800000#32) := by
  have h1 : Ideal.ofBits .f32 0x3C800000#32 = (((64 : ℝ)⁻¹ : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num), one_div]

/-- The sums of squares of the head a column belongs to, by which four groups of 128 columns the column lies in. -/
theorem group_sum (f : ℕ → EReal) (x5 : Vec Ideal S128x128 .bf16) (h5 : ∀ a b : Fin 128, x5 (ix2 a b) = if a.val / 64 = b.val / 64 then 1 else 0)
    (o i : ℕ) (h : i - o < 128) (ho : o ≤ i) (h128 : o % 128 = 0) :
    (∑ x : Fin 128, f (o + x.val) * f (o + x.val) * x5 (ix2 x ⟨i - o, h⟩)) = ∑ d : Fin 64, f (64 * (i / 64) + d.val) * f (64 * (i / 64) + d.val) := by
  simp only [h5]
  refine (sum_half (fun n => f (o + n) * f (o + n)) ((i - o) / 64) (by omega)).trans (Finset.sum_congr rfl fun d _ => ?_)
  rw [show 64 * (i / 64) + d.val = o + (64 * ((i - o) / 64) + d.val) by omega]

section
variable (x0 : Vec Ideal S1x512x1024 .f32) (x1 : Vec Ideal S1x1024 .f32) (x2 : Vec Ideal S1024x5376 .bf16) (x3 : Vec Ideal S1x512 .f32)
  (x4 : Vec Ideal S1x512 .f32) (x5 : Vec Ideal S128x128 .bf16)
  (h5 : ∀ a b : Fin 128, x5 (ix2 a b) = if a.val / 64 = b.val / 64 then 1 else 0)

include h5 in
theorem split_sum (f : ℕ → EReal) (i : Fin 512) :
    (if h : i.val < 128 then ∑ x : Fin 128, f x.val * f x.val * x5 (ix2 x ⟨i.val, h⟩)
      else if h : i.val - 128 < 128 then ∑ x : Fin 128, f (128 + x.val) * f (128 + x.val) * x5 (ix2 x ⟨i.val - 128, h⟩)
      else if h : i.val - 128 - 128 < 128 then ∑ x : Fin 128, f (256 + x.val) * f (256 + x.val) * x5 (ix2 x ⟨i.val - 128 - 128, h⟩)
      else ∑ x : Fin 128, f (384 + x.val) * f (384 + x.val) * x5 (ix2 x ⟨i.val - 128 - 128 - 128, by omega⟩))
    = ∑ d : Fin 64, f (64 * (i.val / 64) + d.val) * f (64 * (i.val / 64) + d.val) := by
  have hi := i.isLt
  have G := group_sum f x5 h5
  have e : ∀ n, f n = f (0 + n) := fun n => by rw [zero_add]
  split
  · refine (Finset.sum_congr rfl fun x _ => ?_).trans (G 0 i.val (by omega) (by omega) rfl)
    rw [e]; rfl
  split
  · exact G 128 i.val (by omega) (by omega) rfl
  split
  · refine (Finset.sum_congr rfl fun x _ => ?_).trans (G 256 i.val (by omega) (by omega) rfl)
    exact congrArg (fun a => _ * x5 (ix2 x a)) (Fin.ext (by simp; omega))
  · refine (Finset.sum_congr rfl fun x _ => ?_).trans (G 384 i.val (by omega) (by omega) rfl)
    exact congrArg (fun a => _ * x5 (ix2 x a)) (Fin.ext (by simp; omega))

include h5 in
/-- The first group's queries. -/
theorem pay72_apply (r i : Fin 512) : k0_pay72 x0 x1 x2 x3 x4 x5 (ix2 r i) = qk (fun n => pj (hrow x0 x1 r) (col x2 n)) i.val (x3 (ix2 0 i)) := by
  have h := pay69_apply x0 x1 x2 x3 x4 x5 r
  unfold k0_pay69 at h
  pointwise [k0_pay72, k0_pay69, k0_pay70, k0_pay71, k0_pay8, k0_pay7, k0_pay6, h]
  rw [split_sum x5 h5 (fun n => pj (hrow x0 x1 r) (col x2 n)) i, div_64]
  rfl

include h5 in
/-- The first group's keys. -/
theorem out7_eq (y : S1x512x512.Idx) : out0_7 x0 x1 x2 x3 x4 x5 y
    = qk (fun n => pj (hrow x0 x1 (y 1)) (col x2 (512 + n))) (y 2).val (x4 (ix2 0 (y 2))) := by
  unfold out0_7
  refine View.canon_apply_of_pieces (Val := Elt Ideal) (fun y => qk (fun n => pj (hrow x0 x1 (y 1)) (col x2 (512 + n))) (y 2).val (x4 (ix2 0 (y 2)))) _
    (fun pc hpc => ?_) y (cover0_7 _ y)
  rw [List.mem_singleton.mp hpc]
  intro x
  obtain ⟨r, i, rfl⟩ := pos512 x
  rw [emb_eq]
  pointwise [k0_pay20, pay68_apply, col_eq]
  have hs := split_sum x5 h5 (fun n => pj (hrow x0 x1 r) (col x2 (512 + n))) i
  unfold pj at hs
  rw [hs, div_64]
  rfl

end

end Cert.Proof.In

end
-- ==== Proof.In.Host.lean ====
/- The arrays the host hands to the projection, as functions of the arguments. -/
module

public import proofs.«01_k».proof.Proof.In.Norm
public import proofs.«01_k».proof.Proof.Gen.Kernel2Ideal.Frame
public import Idealize.ShloMosaic.Lib.Tactic

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem

/-- The projection's weights in the order of the kernel's columns. -/
def hW (W : FVec Ideal S1x1024x5200 .f32) : FVec Ideal S1024x5376 .bf16 :=
  truncf .bf16 (concatenate S1024x5376 1
    [⟨S1024x3136, extractStridedSlice S1024x3136 ![0, 0] (shapeCast S1024x5200 W shapeCasts_S1x1024x5200_S1024x5200) slices_S1024x5200_S1024x3136_0_0⟩,
     ⟨S1024x64, extractStridedSlice S1024x64 ![0, 3072] (shapeCast S1024x5200 W shapeCasts_S1x1024x5200_S1024x5200) slices_S1024x5200_S1024x64_0_3072⟩,
     ⟨S1024x16, mulf (extractStridedSlice S1024x16 ![0, 3136] (shapeCast S1024x5200 W shapeCasts_S1x1024x5200_S1024x5200) slices_S1024x5200_S1024x16_0_3136)
        (broadcastInDim S1024x16 ![] bcast_S_S1024x16 (constant S_ .f32 0x3D000000#32))⟩,
     ⟨S1024x112, broadcastInDim S1024x112 ![] bcast_S_S1024x112 (constant S_ .f32 0x00000000#32)⟩,
     ⟨S1024x2048, extractStridedSlice S1024x2048 ![0, 3152] (shapeCast S1024x5200 W shapeCasts_S1x1024x5200_S1024x5200) slices_S1024x5200_S1024x2048_0_3152⟩]
    concatenates_S1024x3136_S1024x64_S1024x16_S1024x112_S1024x2048_S1024x5376_d1) bitsLt_bf16_f32

/-- A gain of one head, once for each of eight heads. -/
def hG (g : FVec Ideal S1x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 g shapeCasts_S1x64_S64) shapeCasts_S64_S1x64)) shapeCasts_S8x64_S512)

/-- The floor of a quotient, as the host computes it: the truncated quotient, less one where the signs differ and the remainder is not zero. -/
def fdiv {s : Shape} (x k sk z o : IVec s 32) : IVec s 32 :=
  select (andi (cmpi .ne (signi x) sk) (cmpi .ne (Host.remsi x k) z)) (subi (Host.divsi x k) o) (Host.divsi x k)

/-- Which of 128 lanes lie in the same half. -/
def hS : FVec Ideal S128x128 .bf16 :=
  uitofp .bf16 (cmpi .eq
    (broadcastInDim S128x128 ![0, 1] bcast_S128x1_S128x128_0_1 (fdiv (broadcastInDim S128x1 ![0] bcast_S128_S128x1_0 (iotaInDim S128 32 0))
      (broadcastInDim S128x1 ![] bcast_S_S128x1 (constantI S_ 32 64#32)) (broadcastInDim S128x1 ![] bcast_S_S128x1 (signi (constantI S_ 32 64#32)))
      (broadcastInDim S128x1 ![] bcast_S_S128x1 (constantI S_ 32 0#32)) (broadcastInDim S128x1 ![] bcast_S_S128x1 (constantI S_ 32 1#32))))
    (broadcastInDim S128x128 ![0, 1] bcast_S1x128_S128x128_0_1 (fdiv (broadcastInDim S1x128 ![1] bcast_S128_S1x128_1 (iotaInDim S128 32 0))
      (broadcastInDim S1x128 ![] bcast_S_S1x128 (constantI S_ 32 64#32)) (broadcastInDim S1x128 ![] bcast_S_S1x128 (signi (constantI S_ 32 64#32)))
      (broadcastInDim S1x128 ![] bcast_S_S1x128 (constantI S_ 32 0#32)) (broadcastInDim S1x128 ![] bcast_S_S1x128 (constantI S_ 32 1#32)))))

/-- A gain of 1024 lanes. -/
def hN (g : FVec Ideal S1x1024 .f32) : FVec Ideal S1x1024 .f32 :=
  broadcastInDim S1x1024 ![1] bcast_S1024_S1x1024_1 (shapeCast S1024 g shapeCasts_S1x1024_S1024)

variable (m : (ℓ : Loc nD τ sig) → Buf (Elt Ideal) ℓ) (c : Dev nD)

theorem V_v18 : (V m c main_v18 : FVec Ideal S1024x5376 .bf16) = hW (m ((c : Thread nD τ).loc main_arg2)) := by
  unfold V V0
  simp only [List.flatten_cons, List.flatten_nil, List.append_nil, hostOps0, hostOps0_1, hostOps0_2, hostOps0_3, hostOps0_4, StableHlo.TRef.unary, StableHlo.TRef.binary, StableHlo.TRef.nullary, StableHlo.TRef.ternary, List.cons_append, List.nil_append]
  after_results_simp <;> rfl

theorem V_v23 : (V m c main_v23 : FVec Ideal S1x512 .f32) = hG (m ((c : Thread nD τ).loc main_arg3)) := by
  unfold V V0
  simp only [List.flatten_cons, List.flatten_nil, List.append_nil, hostOps0, hostOps0_1, hostOps0_2, hostOps0_3, hostOps0_4, StableHlo.TRef.unary, StableHlo.TRef.binary, StableHlo.TRef.nullary, StableHlo.TRef.ternary, List.cons_append, List.nil_append]
  after_results_simp <;> rfl

theorem V_v28 : (V m c main_v28 : FVec Ideal S1x512 .f32) = hG (m ((c : Thread nD τ).loc main_arg4)) := by
  unfold V V0
  simp only [List.flatten_cons, List.flatten_nil, List.append_nil, hostOps0, hostOps0_1, hostOps0_2, hostOps0_3, hostOps0_4, StableHlo.TRef.unary, StableHlo.TRef.binary, StableHlo.TRef.nullary, StableHlo.TRef.ternary, List.cons_append, List.nil_append]
  after_results_simp <;> rfl

theorem V_v30 : (V m c main_v30 : FVec Ideal S1x1024 .f32) = hN (m ((c : Thread nD τ).loc main_arg1)) := by
  unfold V V0
  simp only [List.flatten_cons, List.flatten_nil, List.append_nil, hostOps0, hostOps0_1, hostOps0_2, hostOps0_3, hostOps0_4, StableHlo.TRef.unary, StableHlo.TRef.binary, StableHlo.TRef.nullary, StableHlo.TRef.ternary, List.cons_append, List.nil_append]
  after_results_simp <;> rfl

theorem V_v8 : (V m c main_v8 : FVec Ideal S128x128 .bf16) = hS := by
  unfold V V0
  simp only [List.flatten_cons, List.flatten_nil, List.append_nil, hostOps0, hostOps0_1, hostOps0_2, hostOps0_3, hostOps0_4, StableHlo.TRef.unary, StableHlo.TRef.binary, StableHlo.TRef.nullary, StableHlo.TRef.ternary, List.cons_append, List.nil_append]
  after_results_simp <;> rfl

theorem hG_apply (g : FVec Ideal S1x64 .f32) (i : Fin 512) : hG g (ix2 0 i) = g (ix2 0 (Fin.ofNat 64 i.val)) := by
  pointwise [hG]
  rfl

theorem hN_apply (g : FVec Ideal S1x1024 .f32) (k : Fin 1024) : hN g (ix2 0 k) = g (ix2 0 k) := by
  pointwise [hN]

/-- The floor of a quotient by 64, on the words below 128. -/
theorem lane (a : Fin 128) :
    (Scalar.select
          (IntOp.andi
            (IntOp.cmpi CmpIPredicate.ne
              (if BitVec.ofNat 32 a.val = 0 then (0 : BitVec 32) else if (BitVec.ofNat 32 a.val).msb = true then -1 else 1)
              (if 64#32 = 0 then (0 : BitVec 32) else if (64#32).msb = true then -1 else 1))
            (IntOp.cmpi CmpIPredicate.ne (IntOp.remsi ArithUnit.host (BitVec.ofNat 32 a.val) 64#32) 0#32))
          (IntOp.subi (IntOp.divsi ArithUnit.host (BitVec.ofNat 32 a.val) 64#32) 1#32)
          (IntOp.divsi ArithUnit.host (BitVec.ofNat 32 a.val) 64#32)) = BitVec.ofNat 32 (a.val / 64) := by
  revert a; decide +kernel

theorem hS_apply (a b : Fin 128) : hS (ix2 a b) = if a.val / 64 = b.val / 64 then 1 else 0 := by
  pointwise [hS, fdiv]
  refine Eq.trans (congrArg₂ (fun u v => FloatOps.uitofp (F := Ideal) .bf16 (IntOp.cmpi CmpIPredicate.eq u v)) (lane a) (lane b)) ?_
  have e : (BitVec.ofNat 32 (a.val / 64) = BitVec.ofNat 32 (b.val / 64)) ↔ a.val / 64 = b.val / 64 := by
    rw [← BitVec.toNat_inj, BitVec.toNat_ofNat, BitVec.toNat_ofNat, Nat.mod_eq_of_lt (by omega), Nat.mod_eq_of_lt (by omega)]
  by_cases h : a.val / 64 = b.val / 64
  · rw [if_pos h, h]; simp [IntOp.cmpi, FloatOps.uitofp]
  · rw [if_neg h]
    have h' := mt e.mp h
    simp [IntOp.cmpi, FloatOps.uitofp, h']

/-- The columns before the indexer's weights keep their places. -/
theorem hW_low (W : FVec Ideal S1x1024x5200 .f32) (k : Fin 1024) (n : ℕ) (h : n < 3136) :
    hW W (ix2 k (Fin.ofNat 5376 n)) = W (ix3 0 k (Fin.ofNat 5200 n)) := by
  have hv : (Fin.ofNat 5376 n).val = n := Nat.mod_eq_of_lt (by omega)
  generalize Fin.ofNat 5376 n = j at hv
  pointwise [hW]
  rw [dif_pos (by omega)]
  exact congrArg (fun a => W (ix3 0 k a)) (Fin.ext (hv.trans (Nat.mod_eq_of_lt (by omega)).symm))

/-- The indexer's weights, scaled. -/
theorem hW_idx (W : FVec Ideal S1x1024x5200 .f32) (k : Fin 1024) (n : ℕ) (h : n < 16) :
    hW W (ix2 k (Fin.ofNat 5376 (3200 + n))) = W (ix3 0 k (Fin.ofNat 5200 (3136 + n))) * Ideal.ofBits .f32 0x3D000000#32 := by
  have hv : (Fin.ofNat 5376 (3200 + n)).val = 3200 + n := Nat.mod_eq_of_lt (by omega)
  generalize Fin.ofNat 5376 (3200 + n) = j at hv
  pointwise [hW]
  rw [dif_neg (by omega), dif_neg (by omega), dif_pos (by omega)]
  refine congrArg (fun a => W (ix3 0 k a) * _) (Fin.ext (Eq.trans ?_ (Nat.mod_eq_of_lt (by omega)).symm))
  show 3136 + (j.val - 3136 - 64) = 3136 + n
  omega

/-- The columns after them move up by 176. -/
theorem hW_high (W : FVec Ideal S1x1024x5200 .f32) (k : Fin 1024) (n : ℕ) (h : n < 2048) :
    hW W (ix2 k (Fin.ofNat 5376 (3328 + n))) = W (ix3 0 k (Fin.ofNat 5200 (3152 + n))) := by
  have hv : (Fin.ofNat 5376 (3328 + n)).val = 3328 + n := Nat.mod_eq_of_lt (by omega)
  generalize Fin.ofNat 5376 (3328 + n) = j at hv
  pointwise [hW]
  rw [dif_neg (by omega), dif_neg (by omega), dif_neg (by omega), dif_neg (by omega)]
  refine congrArg (fun a => W (ix3 0 k a)) (Fin.ext (Eq.trans ?_ (Nat.mod_eq_of_lt (by omega)).symm))
  show 3152 + (j.val - 3136 - 64 - 16 - 112) = 3152 + n
  omega

end Cert.Proof.In
-- ==== Proof.In.Emb.lean ====
/- Where a grid point's blocks lie in the arrays. -/
module

public import proofs.«01_k».proof.Proof.In.Host

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem

theorem row_lt (p : Fin 4) (r : Fin 512) : p.val * 512 + r.val < 2048 := by omega

/-- Row `r` of the block of tokens `p`. -/
def row (p : Fin 4) (r : Fin 512) : Fin 2048 := ⟨p.val * 512 + r.val, row_lt p r⟩

theorem pair_lt (p : Fin 4) (j : Fin 2) : p.val * 2 + j.val < 8 := by omega

/-- Block `j` of 256 tokens in the block of tokens `p`. -/
def pair (p : Fin 4) (j : Fin 2) : Fin 8 := ⟨p.val * 2 + j.val, pair_lt p j⟩

theorem word8 (n : Fin 8) : (BitVec.ofNat 32 n.val).toNat = n.val := by
  rw [BitVec.toNat_ofNat]; exact Nat.mod_eq_of_lt (by omega)

theorem word4 (n : Fin 4) : (BitVec.ofNat 32 n.val).toNat = n.val := by
  rw [BitVec.toNat_ofNat]; exact Nat.mod_eq_of_lt (by omega)

/-- The batch and the block of tokens of a grid point. -/
abbrev bt (t : Fin cfg0.N) : Fin 8 := (grid0.coords t) 0
abbrev pt (t : Fin cfg0.N) : Fin 4 := (grid0.coords t) 1

/-- Every batch and block of tokens has a grid point. -/
theorem point (b : Fin 8) (p : Fin 4) : ∃ t : Fin cfg0.N, bt t = b ∧ pt t = p := by
  have H : ∀ (b : Fin 8) (p : Fin 4), ∃ t : Fin 32, ((grid0.coords (t.cast N_0.symm)) 0).val = b.val ∧ ((grid0.coords (t.cast N_0.symm)) 1).val = p.val := by
    decide +kernel
  obtain ⟨t, h⟩ := H b p
  exact ⟨_, Fin.ext h.1, Fin.ext h.2⟩

theorem row_split (n : Fin 2048) : ∃ p r, row p r = n := ⟨⟨n.val / 512, by omega⟩, ⟨n.val % 512, by omega⟩, Fin.ext (by show n.val / 512 * 512 + n.val % 512 = n.val; omega)⟩

theorem pair_split (n : Fin 8) : ∃ p j, pair p j = n := ⟨⟨n.val / 2, by omega⟩, ⟨n.val % 2, by omega⟩, Fin.ext (by show n.val / 2 * 2 + n.val % 2 = n.val; omega)⟩

section
variable {w : ℕ} (a : ℕ) (b : Fin 8) (p : Fin 4)

/-- The coordinates of a block of rows, computed on words. -/
theorem at_b (x : ℕ) (hx : x < 1) : (BitVec.ofNat 32 b.val).toNat * 1 + 1 * x = b.val := by rw [word8]; omega
theorem at_p (r : Fin 512) : (BitVec.ofNat 32 p.val).toNat * 512 + 1 * r.val = (row p r).val := by rw [word4]; unfold row; dsimp only; omega
theorem at_j (j : Fin 2) : (BitVec.ofNat 32 p.val).toNat * 2 + 1 * j.val = (pair p j).val := by rw [word4]; unfold pair; dsimp only; omega
theorem at_0 (n x : ℕ) : 0 * n + 1 * x = x := by omega
end

/-- A block as the whole of its array. -/
theorem ext2 {n w : ℕ} (x : (⟨2, ![n, w]⟩ : Shape).Idx) (r : Fin n) (k : Fin w) (h0 : (x 0).val = r.val) (h1 : (x 1).val = k.val) : x = ix2 r k :=
  funext fun a => Fin.ext (match a with | ⟨0, _⟩ => h0 | ⟨1, _⟩ => h1)

theorem ext3 {b n w : ℕ} (x : (⟨3, ![b, n, w]⟩ : Shape).Idx) (i : Fin b) (r : Fin n) (k : Fin w) (h0 : (x 0).val = i.val) (h1 : (x 1).val = r.val)
    (h2 : (x 2).val = k.val) : x = ix3 i r k :=
  funext fun a => Fin.ext (match a with | ⟨0, _⟩ => h0 | ⟨1, _⟩ => h1 | ⟨2, _⟩ => h2)

theorem ext4 {b h n w : ℕ} (x : (⟨4, ![b, h, n, w]⟩ : Shape).Idx) (i : Fin b) (j : Fin h) (r : Fin n) (k : Fin w) (h0 : (x 0).val = i.val) (h1 : (x 1).val = j.val)
    (h2 : (x 2).val = r.val) (h3 : (x 3).val = k.val) : x = ix4 i j r k :=
  funext fun a => Fin.ext (match a with | ⟨0, _⟩ => h0 | ⟨1, _⟩ => h1 | ⟨2, _⟩ => h2 | ⟨3, _⟩ => h3)

variable (t : Fin cfg0.N)

theorem emb_0 (r : Fin 512) (k : Fin 1024) : (((cfg0.win 0).blk t).view.emb (ix3 (0 : Fin 1) r k) : S8x2048x1024.Idx) = ix3 (bt t) (row (pt t) r) k :=
  ext3 _ _ _ _ (at_b (bt t) 0 (by decide)) (at_p (pt t) r) (at_0 _ _)

theorem emb_1 (r : Fin 1) (k : Fin 1024) : (((cfg0.win 1).blk t).view.emb (ix2 r k) : S1x1024.Idx) = ix2 r k :=
  ext2 _ _ _ (at_0 _ _) (at_0 _ _)

theorem emb_2 (r : Fin 1024) (k : Fin 5376) : (((cfg0.win 2).blk t).view.emb (ix2 r k) : S1024x5376.Idx) = ix2 r k :=
  ext2 _ _ _ (at_0 _ _) (at_0 _ _)

theorem emb_3 (r : Fin 1) (k : Fin 512) : (((cfg0.win 3).blk t).view.emb (ix2 r k) : S1x512.Idx) = ix2 r k :=
  ext2 _ _ _ (at_0 _ _) (at_0 _ _)

theorem emb_4 (r : Fin 1) (k : Fin 512) : (((cfg0.win 4).blk t).view.emb (ix2 r k) : S1x512.Idx) = ix2 r k :=
  ext2 _ _ _ (at_0 _ _) (at_0 _ _)

theorem emb_5 (r k : Fin 128) : (((cfg0.win 5).blk t).view.emb (ix2 r k) : S128x128.Idx) = ix2 r k :=
  ext2 _ _ _ (at_0 _ _) (at_0 _ _)

theorem emb_6 (h : Fin 8) (l : Fin 128) (r : Fin 512) : (((cfg0.win 6).blk t).view.emb (ix4 (0 : Fin 1) h l r) : S8x8x128x2048.Idx) = ix4 (bt t) h l (row (pt t) r) :=
  ext4 _ _ _ _ _ (at_b (bt t) 0 (by decide)) (at_0 _ _) (at_0 _ _) (at_p (pt t) r)

theorem emb_7 (r k : Fin 512) : (((cfg0.win 7).blk t).view.emb (ix3 (0 : Fin 1) r k) : S8x2048x512.Idx) = ix3 (bt t) (row (pt t) r) k :=
  ext3 _ _ _ _ (at_b (bt t) 0 (by decide)) (at_p (pt t) r) (at_0 _ _)

theorem emb_8 (j : Fin 2) (l : Fin 512) (i : Fin 256) : (((cfg0.win 8).blk t).view.emb (ix4 (0 : Fin 1) j l i) : S8x8x512x256.Idx) = ix4 (bt t) (pair (pt t) j) l i :=
  ext4 _ _ _ _ _ (at_b (bt t) 0 (by decide)) (at_j (pt t) j) (at_0 _ _) (at_0 _ _)

theorem emb_9 (r k : Fin 512) : (((cfg0.win 9).blk t).view.emb (ix3 (0 : Fin 1) r k) : S8x2048x512.Idx) = ix3 (bt t) (row (pt t) r) k :=
  ext3 _ _ _ _ (at_b (bt t) 0 (by decide)) (at_p (pt t) r) (at_0 _ _)

theorem emb_10 (h : Fin 16) (l : Fin 128) (r : Fin 512) : (((cfg0.win 10).blk t).view.emb (ix4 (0 : Fin 1) h l r) : S8x16x128x2048.Idx) = ix4 (bt t) h l (row (pt t) r) :=
  ext4 _ _ _ _ _ (at_b (bt t) 0 (by decide)) (at_0 _ _) (at_0 _ _) (at_p (pt t) r)

theorem emb_11 (r : Fin 512) (k : Fin 128) : (((cfg0.win 11).blk t).view.emb (ix3 (0 : Fin 1) r k) : S8x2048x128.Idx) = ix3 (bt t) (row (pt t) r) k :=
  ext3 _ _ _ _ (at_b (bt t) 0 (by decide)) (at_p (pt t) r) (at_0 _ _)

theorem emb_12 (h : Fin 16) (r : Fin 512) : (((cfg0.win 12).blk t).view.emb (ix3 (0 : Fin 1) h r) : S8x16x2048.Idx) = ix3 (bt t) h (row (pt t) r) :=
  ext3 _ _ _ _ (at_b (bt t) 0 (by decide)) (at_0 _ _) (at_p (pt t) r)

theorem emb_13 (h : Fin 8) (l : Fin 128) (r : Fin 512) : (((cfg0.win 13).blk t).view.emb (ix4 (0 : Fin 1) h l r) : S8x8x128x2048.Idx) = ix4 (bt t) h l (row (pt t) r) :=
  ext4 _ _ _ _ _ (at_b (bt t) 0 (by decide)) (at_0 _ _) (at_0 _ _) (at_p (pt t) r)

theorem emb_14 (r k : Fin 512) : (((cfg0.win 14).blk t).view.emb (ix3 (0 : Fin 1) r k) : S8x2048x512.Idx) = ix3 (bt t) (row (pt t) r) k :=
  ext3 _ _ _ _ (at_b (bt t) 0 (by decide)) (at_p (pt t) r) (at_0 _ _)

theorem emb_15 (j : Fin 2) (l : Fin 512) (i : Fin 256) : (((cfg0.win 15).blk t).view.emb (ix4 (0 : Fin 1) j l i) : S8x8x512x256.Idx) = ix4 (bt t) (pair (pt t) j) l i :=
  ext4 _ _ _ _ _ (at_b (bt t) 0 (by decide)) (at_j (pt t) j) (at_0 _ _) (at_0 _ _)

theorem emb_16 (r k : Fin 512) : (((cfg0.win 16).blk t).view.emb (ix3 (0 : Fin 1) r k) : S8x2048x512.Idx) = ix3 (bt t) (row (pt t) r) k :=
  ext3 _ _ _ _ (at_b (bt t) 0 (by decide)) (at_p (pt t) r) (at_0 _ _)

/-- An array after the run, from what each point writes back and where its block lies. -/
theorem final_of (m : (ℓ : Loc nD τ sig) → Buf (Elt Ideal) ℓ) (c : Dev nD) (w : Fin cfg0.W)
    (A : Buf (Elt Ideal) ((cfg0.win w).arr.view.loc (c.tc : Thread nD τ)))
    (hfl : ∀ t : Fin cfg0.N, (cfg0.win w).flush t = true)
    (hv : ∀ t, (dats m 0 c).flushed w t = ((cfg0.win w).blk t).view.read (Elt Ideal) A)
    (hc : ∀ i : ((cfg0.win w).arr.view.loc (c.tc : Thread nD τ)).2.ty.Idx, ∃ t y, ((cfg0.win w).blk t).view.emb y = i) :
    (dats m 0 c).arrAt w cfg0.N = A :=
  (dats m 0 c).arrAt_eq_of_cover w A (fun t _ => hv t) fun i => by
    obtain ⟨t, y, rfl⟩ := hc i
    exact ⟨t, hfl t, View.emb_mem_set _ _⟩

end Cert.Proof.In
-- ==== Proof.In.Value.lean ====
/- The projection's arrays after the run, as functions of the arguments. -/
module

public import proofs.«01_k».proof.Proof.In.Emb

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem

/-- An array of rows from its entries. -/
def rowsA {w : ℕ} (f : Fin 8 → Fin 2048 → Fin w → EReal) : (⟨3, ![8, 2048, w]⟩ : Shape).Idx → EReal := fun y => f (y 0) (y 1) (y 2)

/-- Heads of 64 lanes, each in its half of 128 lanes and zero in the other. -/
def headsA {n w : ℕ} [NeZero w] (f : Fin 8 → Fin 2048 → Fin w → EReal) : (⟨4, ![8, n, 128, 2048]⟩ : Shape).Idx → EReal := fun y =>
  if (y 2).val / 64 = (y 1).val % 2 then f (y 0) (y 3) (Fin.ofNat w (128 * ((y 1).val / 2) + (y 2).val)) else 0

/-- Token `r` of the block of 256 tokens `j`. -/
def tokn (j : Fin 8) (r : Fin 256) : Fin 2048 := ⟨j.val * 256 + r.val, by omega⟩

/-- Blocks of 256 tokens, each transposed. -/
def blocksA {w : ℕ} (f : Fin 8 → Fin 2048 → Fin w → EReal) : (⟨4, ![8, 8, w, 256]⟩ : Shape).Idx → EReal := fun y => f (y 0) (tokn (y 1) (y 3)) (y 2)

/-- Rows transposed. -/
def turnA {w : ℕ} (f : Fin 8 → Fin 2048 → Fin w → EReal) : (⟨3, ![8, w, 2048]⟩ : Shape).Idx → EReal := fun y => f (y 0) (y 2) (y 1)

section
variable (X : FVec Ideal S8x2048x1024 .f32) (G : FVec Ideal S1x1024 .f32) (W : FVec Ideal S1x1024x5200 .f32) (Q : FVec Ideal S1x64 .f32)

/-- A token's row, normalised. -/
def ht (b : Fin 8) (n : Fin 2048) : Fin 1024 → EReal := hn (fun k => X (ix3 b n k)) fun k => G (ix2 0 k)

/-- A token's projection onto a packed column. -/
def pc (b : Fin 8) (n : Fin 2048) (i : ℕ) : EReal := pj (ht X G b n) (col (hW W) i)

/-- A token's projection onto columns from `o` on, normalised head by head. -/
def pq (o : ℕ) (b : Fin 8) (n : Fin 2048) (i : Fin 512) : EReal := qk (fun j => pc X G W b n (o + j)) i.val (hG Q (ix2 0 i))
end

variable (m : (ℓ : Loc nD τ sig) → Buf (Elt Ideal) ℓ) (c : Dev nD)

abbrev aX : FVec Ideal S8x2048x1024 .f32 := m ((c : Thread nD τ).loc main_arg0)
abbrev aG : FVec Ideal S1x1024 .f32 := m ((c : Thread nD τ).loc main_arg1)
abbrev aW : FVec Ideal S1x1024x5200 .f32 := m ((c : Thread nD τ).loc main_arg2)
abbrev aQ : FVec Ideal S1x64 .f32 := m ((c : Thread nD τ).loc main_arg3)
abbrev aK : FVec Ideal S1x64 .f32 := m ((c : Thread nD τ).loc main_arg4)

section
variable (t : Fin cfg0.N)

theorem blk_0 (r : Fin 512) (k : Fin 1024) : (iblk m c 0 t : FVec Ideal S1x512x1024 .f32) (ix3 0 r k) = aX m c (ix3 (bt t) (row (pt t) r) k) :=
  (congrArg (V m c main_arg0 : FVec Ideal S8x2048x1024 .f32) (emb_0 t r k)).trans (congrFun (V_main_arg0 m c) _)

theorem blk_1 (k : Fin 1024) : (iblk m c 1 t : FVec Ideal S1x1024 .f32) (ix2 0 k) = aG m c (ix2 0 k) :=
  (congrArg (V m c main_v30 : FVec Ideal S1x1024 .f32) (emb_1 t 0 k)).trans ((congrFun (V_v30 m c) _).trans (hN_apply _ k))

theorem blk_2 (k : Fin 1024) (i : Fin 5376) : (iblk m c 2 t : FVec Ideal S1024x5376 .bf16) (ix2 k i) = hW (aW m c) (ix2 k i) :=
  (congrArg (V m c main_v18 : FVec Ideal S1024x5376 .bf16) (emb_2 t k i)).trans (congrFun (V_v18 m c) _)

theorem blk_3 (i : Fin 512) : (iblk m c 3 t : FVec Ideal S1x512 .f32) (ix2 0 i) = hG (aQ m c) (ix2 0 i) :=
  (congrArg (V m c main_v23 : FVec Ideal S1x512 .f32) (emb_3 t 0 i)).trans (congrFun (V_v23 m c) _)

theorem blk_4 (i : Fin 512) : (iblk m c 4 t : FVec Ideal S1x512 .f32) (ix2 0 i) = hG (aK m c) (ix2 0 i) :=
  (congrArg (V m c main_v28 : FVec Ideal S1x512 .f32) (emb_4 t 0 i)).trans (congrFun (V_v28 m c) _)

theorem blk_5 (a b : Fin 128) : ((iblk m c 5 t : FVec Ideal S128x128 .bf16) (ix2 a b) : EReal) = (if a.val / 64 = b.val / 64 then 1 else 0 : EReal) :=
  (congrArg (V m c main_v8 : FVec Ideal S128x128 .bf16) (emb_5 t a b)).trans ((congrFun (V_v8 m c) _).trans (hS_apply a b))

theorem row_eq (r : Fin 512) : hrow (iblk m c 0 t) (iblk m c 1 t) r = ht (aX m c) (aG m c) (bt t) (row (pt t) r) :=
  congrArg₂ hn (funext fun k => blk_0 m c t r k) (funext fun k => blk_1 m c t k)

theorem colW_eq (i : ℕ) : col (iblk m c 2 t) i = col (hW (aW m c)) i := funext fun k => blk_2 m c t k _

/-- A projection of a block is the token's. -/
theorem pj_eq (r : Fin 512) (i : ℕ) : pj (hrow (iblk m c 0 t) (iblk m c 1 t) r) (col (iblk m c 2 t) i) = pc (aX m c) (aG m c) (aW m c) (bt t) (row (pt t) r) i :=
  congrArg₂ pj (row_eq m c t r) (colW_eq m c t i)

theorem tok_eq (j : Fin 2) (r : Fin 256) : row (pt t) (tok j r) = tokn (pair (pt t) j) r :=
  Fin.ext (by
    show (pt t).val * 512 + (256 * j.val + r.val) % 512 = ((pt t).val * 2 + j.val) * 256 + r.val
    omega)

end

/-- The blocks of each kind cover the arrays. -/
theorem rows_cover {w : ℕ} (i : (⟨3, ![8, 2048, w]⟩ : Shape).Idx) : ∃ t r k, ix3 (bt t) (row (pt t) r) k = i := by
  obtain ⟨p, r, hr⟩ := row_split (i 1)
  obtain ⟨t, ht, hp⟩ := point (i 0) p
  exact ⟨t, r, i 2, (ext3 _ _ _ _ (by rw [ht]) (by rw [hp, hr]) rfl).symm⟩

theorem turn_cover {w : ℕ} (i : (⟨3, ![8, w, 2048]⟩ : Shape).Idx) : ∃ t k r, ix3 (bt t) k (row (pt t) r) = i := by
  obtain ⟨p, r, hr⟩ := row_split (i 2)
  obtain ⟨t, ht, hp⟩ := point (i 0) p
  exact ⟨t, i 1, r, (ext3 _ _ _ _ (by rw [ht]) rfl (by rw [hp, hr])).symm⟩

theorem heads_cover {n : ℕ} (i : (⟨4, ![8, n, 128, 2048]⟩ : Shape).Idx) : ∃ t h l r, ix4 (bt t) h l (row (pt t) r) = i := by
  obtain ⟨p, r, hr⟩ := row_split (i 3)
  obtain ⟨t, ht, hp⟩ := point (i 0) p
  exact ⟨t, i 1, i 2, r, (ext4 _ _ _ _ _ (by rw [ht]) rfl rfl (by rw [hp, hr])).symm⟩

theorem blocks_cover {w : ℕ} (i : (⟨4, ![8, 8, w, 256]⟩ : Shape).Idx) : ∃ t j l k, ix4 (bt t) (pair (pt t) j) l k = i := by
  obtain ⟨p, j, hj⟩ := pair_split (i 1)
  obtain ⟨t, ht, hp⟩ := point (i 0) p
  exact ⟨t, j, i 2, i 3, (ext4 _ _ _ _ _ (by rw [ht]) (by rw [hp, hj]) rfl rfl).symm⟩

theorem pos4 {h n w : ℕ} (y : (⟨4, ![1, h, n, w]⟩ : Shape).Idx) : ∃ i r k, y = ix4 0 i r k :=
  ⟨y 1, y 2, y 3, ext4 _ _ _ _ _ (Nat.lt_one_iff.mp (y 0).isLt) rfl rfl rfl⟩

theorem whole_7 (A : FVec Ideal S8x2048x512 .bf16)
    (hA : ∀ t r k, out0_7 (iblk m c 0 t) (iblk m c 1 t) (iblk m c 2 t) (iblk m c 3 t) (iblk m c 4 t) (iblk m c 5 t) (ix3 0 r k) = A (ix3 (bt t) (row (pt t) r) k)) :
    (dats m 0 c).arrAt 7 cfg0.N = A :=
  final_of m c 7 A flush0_7 (fun t => funext fun (y : S1x512x512.Idx) => by
    obtain ⟨r, k, rfl⟩ := pos512 y
    exact (congrFun (after0_7 m c t) _).trans ((hA t r k).trans (congrArg A (emb_7 t r k)).symm)) fun (i : S8x2048x512.Idx) => by
    obtain ⟨t, r, k, rfl⟩ := rows_cover i
    exact ⟨t, ix3 (0 : Fin 1) r k, emb_7 t r k⟩

theorem whole_9 (A : FVec Ideal S8x2048x512 .f32)
    (hA : ∀ t r k, out0_9 (iblk m c 0 t) (iblk m c 1 t) (iblk m c 2 t) (iblk m c 3 t) (iblk m c 4 t) (iblk m c 5 t) (ix3 0 r k) = A (ix3 (bt t) (row (pt t) r) k)) :
    (dats m 0 c).arrAt 9 cfg0.N = A :=
  final_of m c 9 A flush0_9 (fun t => funext fun (y : S1x512x512.Idx) => by
    obtain ⟨r, k, rfl⟩ := pos512 y
    exact (congrFun (after0_9 m c t) _).trans ((hA t r k).trans (congrArg A (emb_9 t r k)).symm)) fun (i : S8x2048x512.Idx) => by
    obtain ⟨t, r, k, rfl⟩ := rows_cover i
    exact ⟨t, ix3 (0 : Fin 1) r k, emb_9 t r k⟩

theorem whole_11 (A : FVec Ideal S8x2048x128 .bf16)
    (hA : ∀ t r k, out0_11 (iblk m c 0 t) (iblk m c 1 t) (iblk m c 2 t) (iblk m c 3 t) (iblk m c 4 t) (iblk m c 5 t) (ix3 0 r k) = A (ix3 (bt t) (row (pt t) r) k)) :
    (dats m 0 c).arrAt 11 cfg0.N = A :=
  final_of m c 11 A flush0_11 (fun t => funext fun (y : S1x512x128.Idx) => by
    obtain ⟨r, k, rfl⟩ := pos128 y
    exact (congrFun (after0_11 m c t) _).trans ((hA t r k).trans (congrArg A (emb_11 t r k)).symm)) fun (i : S8x2048x128.Idx) => by
    obtain ⟨t, r, k, rfl⟩ := rows_cover i
    exact ⟨t, ix3 (0 : Fin 1) r k, emb_11 t r k⟩

theorem whole_14 (A : FVec Ideal S8x2048x512 .bf16)
    (hA : ∀ t r k, out0_14 (iblk m c 0 t) (iblk m c 1 t) (iblk m c 2 t) (iblk m c 3 t) (iblk m c 4 t) (iblk m c 5 t) (ix3 0 r k) = A (ix3 (bt t) (row (pt t) r) k)) :
    (dats m 0 c).arrAt 14 cfg0.N = A :=
  final_of m c 14 A flush0_14 (fun t => funext fun (y : S1x512x512.Idx) => by
    obtain ⟨r, k, rfl⟩ := pos512 y
    exact (congrFun (after0_14 m c t) _).trans ((hA t r k).trans (congrArg A (emb_14 t r k)).symm)) fun (i : S8x2048x512.Idx) => by
    obtain ⟨t, r, k, rfl⟩ := rows_cover i
    exact ⟨t, ix3 (0 : Fin 1) r k, emb_14 t r k⟩

theorem whole_16 (A : FVec Ideal S8x2048x512 .f32)
    (hA : ∀ t r k, out0_16 (iblk m c 0 t) (iblk m c 1 t) (iblk m c 2 t) (iblk m c 3 t) (iblk m c 4 t) (iblk m c 5 t) (ix3 0 r k) = A (ix3 (bt t) (row (pt t) r) k)) :
    (dats m 0 c).arrAt 16 cfg0.N = A :=
  final_of m c 16 A flush0_16 (fun t => funext fun (y : S1x512x512.Idx) => by
    obtain ⟨r, k, rfl⟩ := pos512 y
    exact (congrFun (after0_16 m c t) _).trans ((hA t r k).trans (congrArg A (emb_16 t r k)).symm)) fun (i : S8x2048x512.Idx) => by
    obtain ⟨t, r, k, rfl⟩ := rows_cover i
    exact ⟨t, ix3 (0 : Fin 1) r k, emb_16 t r k⟩

theorem whole_6 (A : FVec Ideal S8x8x128x2048 .bf16)
    (hA : ∀ t h l r, out0_6 (iblk m c 0 t) (iblk m c 1 t) (iblk m c 2 t) (iblk m c 3 t) (iblk m c 4 t) (iblk m c 5 t) (ix4 0 h l r) = A (ix4 (bt t) h l (row (pt t) r))) :
    (dats m 0 c).arrAt 6 cfg0.N = A :=
  final_of m c 6 A flush0_6 (fun t => funext fun (y : S1x8x128x512.Idx) => by
    obtain ⟨h, l, r, rfl⟩ := pos4 y
    exact (congrFun (after0_6 m c t) _).trans ((hA t h l r).trans (congrArg A (emb_6 t h l r)).symm)) fun (i : S8x8x128x2048.Idx) => by
    obtain ⟨t, h, l, r, rfl⟩ := heads_cover i
    exact ⟨t, ix4 (0 : Fin 1) h l r, emb_6 t h l r⟩

theorem whole_10 (A : FVec Ideal S8x16x128x2048 .bf16)
    (hA : ∀ t h l r, out0_10 (iblk m c 0 t) (iblk m c 1 t) (iblk m c 2 t) (iblk m c 3 t) (iblk m c 4 t) (iblk m c 5 t) (ix4 0 h l r) = A (ix4 (bt t) h l (row (pt t) r))) :
    (dats m 0 c).arrAt 10 cfg0.N = A :=
  final_of m c 10 A flush0_10 (fun t => funext fun (y : S1x16x128x512.Idx) => by
    obtain ⟨h, l, r, rfl⟩ := pos4 y
    exact (congrFun (after0_10 m c t) _).trans ((hA t h l r).trans (congrArg A (emb_10 t h l r)).symm)) fun (i : S8x16x128x2048.Idx) => by
    obtain ⟨t, h, l, r, rfl⟩ := heads_cover i
    exact ⟨t, ix4 (0 : Fin 1) h l r, emb_10 t h l r⟩

theorem whole_13 (A : FVec Ideal S8x8x128x2048 .bf16)
    (hA : ∀ t h l r, out0_13 (iblk m c 0 t) (iblk m c 1 t) (iblk m c 2 t) (iblk m c 3 t) (iblk m c 4 t) (iblk m c 5 t) (ix4 0 h l r) = A (ix4 (bt t) h l (row (pt t) r))) :
    (dats m 0 c).arrAt 13 cfg0.N = A :=
  final_of m c 13 A flush0_13 (fun t => funext fun (y : S1x8x128x512.Idx) => by
    obtain ⟨h, l, r, rfl⟩ := pos4 y
    exact (congrFun (after0_13 m c t) _).trans ((hA t h l r).trans (congrArg A (emb_13 t h l r)).symm)) fun (i : S8x8x128x2048.Idx) => by
    obtain ⟨t, h, l, r, rfl⟩ := heads_cover i
    exact ⟨t, ix4 (0 : Fin 1) h l r, emb_13 t h l r⟩

theorem whole_8 (A : FVec Ideal S8x8x512x256 .bf16)
    (hA : ∀ t j l k, out0_8 (iblk m c 0 t) (iblk m c 1 t) (iblk m c 2 t) (iblk m c 3 t) (iblk m c 4 t) (iblk m c 5 t) (ix4 0 j l k) = A (ix4 (bt t) (pair (pt t) j) l k)) :
    (dats m 0 c).arrAt 8 cfg0.N = A :=
  final_of m c 8 A flush0_8 (fun t => funext fun (y : S1x2x512x256.Idx) => by
    obtain ⟨j, l, k, rfl⟩ := pos4 y
    exact (congrFun (after0_8 m c t) _).trans ((hA t j l k).trans (congrArg A (emb_8 t j l k)).symm)) fun (i : S8x8x512x256.Idx) => by
    obtain ⟨t, j, l, k, rfl⟩ := blocks_cover i
    exact ⟨t, ix4 (0 : Fin 1) j l k, emb_8 t j l k⟩

theorem whole_15 (A : FVec Ideal S8x8x512x256 .bf16)
    (hA : ∀ t j l k, out0_15 (iblk m c 0 t) (iblk m c 1 t) (iblk m c 2 t) (iblk m c 3 t) (iblk m c 4 t) (iblk m c 5 t) (ix4 0 j l k) = A (ix4 (bt t) (pair (pt t) j) l k)) :
    (dats m 0 c).arrAt 15 cfg0.N = A :=
  final_of m c 15 A flush0_15 (fun t => funext fun (y : S1x2x512x256.Idx) => by
    obtain ⟨j, l, k, rfl⟩ := pos4 y
    exact (congrFun (after0_15 m c t) _).trans ((hA t j l k).trans (congrArg A (emb_15 t j l k)).symm)) fun (i : S8x8x512x256.Idx) => by
    obtain ⟨t, j, l, k, rfl⟩ := blocks_cover i
    exact ⟨t, ix4 (0 : Fin 1) j l k, emb_15 t j l k⟩

theorem whole_12 (A : FVec Ideal S8x16x2048 .f32)
    (hA : ∀ t k r, out0_12 (iblk m c 0 t) (iblk m c 1 t) (iblk m c 2 t) (iblk m c 3 t) (iblk m c 4 t) (iblk m c 5 t) (ix3 0 k r) = A (ix3 (bt t) k (row (pt t) r))) :
    (dats m 0 c).arrAt 12 cfg0.N = A :=
  final_of m c 12 A flush0_12 (fun t => funext fun (y : S1x16x512.Idx) => by
    obtain ⟨k, r, rfl⟩ := pos16 y
    exact (congrFun (after0_12 m c t) _).trans ((hA t k r).trans (congrArg A (emb_12 t k r)).symm)) fun (i : S8x16x2048.Idx) => by
    obtain ⟨t, k, r, rfl⟩ := turn_cover i
    exact ⟨t, ix3 (0 : Fin 1) k r, emb_12 t k r⟩

/-- Window 9: the first group's gates. -/
theorem final_9 : (dats m 0 c).arrAt 9 cfg0.N = rowsA (w := 512) fun b n i => sl (pc (aX m c) (aG m c) (aW m c) b n (1536 + i.val)) :=
  whole_9 m c _ fun t r k => (out9_eq ..).trans (congrArg sl (pj_eq m c t r _))

/-- Window 11: the indexer's keys, twice. -/
theorem final_11 : (dats m 0 c).arrAt 11 cfg0.N = rowsA (w := 128) fun b n i => pc (aX m c) (aG m c) (aW m c) b n (3072 + i.val) :=
  whole_11 m c _ fun t r k => (out11_eq ..).trans (pj_eq m c t r _)

/-- Window 14: the second group's keys. -/
theorem final_14 : (dats m 0 c).arrAt 14 cfg0.N = rowsA (w := 512) fun b n i => pc (aX m c) (aG m c) (aW m c) b n (3840 + i.val) :=
  whole_14 m c _ fun t r k => (out14_eq ..).trans (pj_eq m c t r _)

/-- Window 16: the second group's gates. -/
theorem final_16 : (dats m 0 c).arrAt 16 cfg0.N = rowsA (w := 512) fun b n i => sl (pc (aX m c) (aG m c) (aW m c) b n (4864 + i.val)) :=
  whole_16 m c _ fun t r k => (out16_eq ..).trans (congrArg sl (pj_eq m c t r _))

/-- Window 8: the first group's values. -/
theorem final_8 : (dats m 0 c).arrAt 8 cfg0.N = blocksA (w := 512) fun b n i => pc (aX m c) (aG m c) (aW m c) b n (1024 + i.val) :=
  whole_8 m c _ fun t j l k => (out8_eq ..).trans ((pj_eq m c t _ _).trans (congrArg (fun a => pc (aX m c) (aG m c) (aW m c) (bt t) a (1024 + l.val)) (tok_eq t j k)))

/-- Window 15: the second group's values. -/
theorem final_15 : (dats m 0 c).arrAt 15 cfg0.N = blocksA (w := 512) fun b n i => pc (aX m c) (aG m c) (aW m c) b n (4352 + i.val) :=
  whole_15 m c _ fun t j l k => (out15_eq ..).trans ((pj_eq m c t _ _).trans (congrArg (fun a => pc (aX m c) (aG m c) (aW m c) (bt t) a (4352 + l.val)) (tok_eq t j k)))

/-- Window 12: the indexer's weights. -/
theorem final_12 : (dats m 0 c).arrAt 12 cfg0.N = turnA (w := 16) fun b n i => pc (aX m c) (aG m c) (aW m c) b n (3200 + i.val) :=
  whole_12 m c _ fun t k r => (out12_eq ..).trans (pj_eq m c t r _)

/-- Heads of a block are heads of the array. -/
theorem heads_eq {n w : ℕ} [NeZero w] (P : Fin 512 → Fin w → EReal) (f : Fin 8 → Fin 2048 → Fin w → EReal) (b : Fin 8) (p : Fin 4)
    (h : ∀ r i, P r i = f b (row p r) i) (j : Fin n) (l : Fin 128) (r : Fin 512) : headsOf (n := n) P (ix4 0 j l r) = headsA (n := n) f (ix4 b j l (row p r)) :=
  if_congr Iff.rfl (h _ _) rfl

/-- Window 10: the indexer's queries. -/
theorem final_10 : (dats m 0 c).arrAt 10 cfg0.N = headsA (n := 16) (w := 1024) fun b n i => pc (aX m c) (aG m c) (aW m c) b n (2048 + i.val) :=
  whole_10 m c _ fun t h l r => (out10_eq ..).trans (heads_eq _ _ (bt t) (pt t) (fun r i => (pay74_apply ..).trans (pj_eq m c t r _)) h l r)

/-- Window 13: the second group's queries. -/
theorem final_13 : (dats m 0 c).arrAt 13 cfg0.N = headsA (n := 8) (w := 512) fun b n i => pc (aX m c) (aG m c) (aW m c) b n (3328 + i.val) :=
  whole_13 m c _ fun t h l r => (out13_eq ..).trans (heads_eq _ _ (bt t) (pt t) (fun r i => (pay76_apply ..).trans (pj_eq m c t r _)) h l r)

/-- Window 6: the first group's queries. -/
theorem final_6 : (dats m 0 c).arrAt 6 cfg0.N = headsA (n := 8) (w := 512) (pq (aX m c) (aG m c) (aW m c) (aQ m c) 0) :=
  whole_6 m c _ fun t h l r => (out6_eq ..).trans (heads_eq _ _ (bt t) (pt t) (fun r i => by
    refine (pay72_apply _ _ _ _ _ _ (blk_5 m c t) r i).trans ?_
    exact congrArg₂ (fun f g => qk f i.val g) (funext fun j => (pj_eq m c t r j).trans (congrArg _ (Nat.zero_add j).symm)) (blk_3 m c t i)) h l r)

/-- Window 7: the first group's keys. -/
theorem final_7 : (dats m 0 c).arrAt 7 cfg0.N = rowsA (w := 512) (pq (aX m c) (aG m c) (aW m c) (aK m c) 512) :=
  whole_7 m c _ fun t r k => (out7_eq _ _ _ _ _ _ (blk_5 m c t) _).trans
    (congrArg₂ (fun f g => qk f k.val g) (funext fun j => pj_eq m c t r (512 + j)) (blk_4 m c t k))

end Cert.Proof.In
-- ==== Proof.In.Un.lean ====
/- The layouts the host gives the projection's arrays, at an index. -/
module

public import proofs.«01_k».proof.Proof.In.Value

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem

/-- A head's own half. -/
theorem headsA_apply {N w : ℕ} [NeZero w] (f : Fin 8 → Fin 2048 → Fin w → EReal) (b : Fin 8) (h : Fin N) (n : Fin 2048) (d : Fin 64) (q : Fin 128)
    (h1 : q.val / 64 = h.val % 2) (h2 : 128 * (h.val / 2) + q.val = 64 * h.val + d.val) :
    headsA f (ix4 b h q n) = f b n (Fin.ofNat w (64 * h.val + d.val)) := by
  rw [← h2]
  exact if_pos h1

/-- Pairs of rows laid one after the other. -/
theorem merge_pairs {α : Type} {B P P2 Q N : ℕ} (hP : P2 = 2 * P) (v : (⟨5, ![B, P, 2, Q, N]⟩ : Shape).Idx → α)
    (hc : (⟨5, ![B, P, 2, Q, N]⟩ : Shape).ShapeCasts ⟨4, ![B, P2, Q, N]⟩) (b : Fin B) (h : Fin P2) (q : Fin Q) (n : Fin N) (p : Fin P) (e : Fin 2)
    (he : h.val = 2 * p.val + e.val) : shapeCast ⟨4, ![B, P2, Q, N]⟩ v hc (ix4 b h q n) = v (ix5 b p e q n) := by
  subst hP
  refine shapeCast_apply v hc _ _ ?_
  rw [rowMajor_val5 _ _ _ _ _ rfl rfl rfl rfl, rowMajor_val4 _ _ _ _ rfl rfl rfl]
  change b.val * (P * (2 * (Q * N))) + p.val * (2 * (Q * N)) + e.val * (Q * N) + q.val * N + n.val
    = b.val * (2 * P * (Q * N)) + h.val * (Q * N) + q.val * N + n.val
  rw [he]; ring

/-- And taken apart. -/
theorem split_pairs {α : Type} {B P P2 Q N : ℕ} (hP : P2 = 2 * P) (v : (⟨4, ![B, P2, Q, N]⟩ : Shape).Idx → α)
    (hc : (⟨4, ![B, P2, Q, N]⟩ : Shape).ShapeCasts ⟨5, ![B, P, 2, Q, N]⟩) (b : Fin B) (h : Fin P2) (q : Fin Q) (n : Fin N) (p : Fin P) (e : Fin 2)
    (he : h.val = 2 * p.val + e.val) : shapeCast ⟨5, ![B, P, 2, Q, N]⟩ v hc (ix5 b p e q n) = v (ix4 b h q n) := by
  subst hP
  refine shapeCast_apply v hc _ _ ?_
  rw [rowMajor_val5 _ _ _ _ _ rfl rfl rfl rfl, rowMajor_val4 _ _ _ _ rfl rfl rfl]
  change b.val * (2 * P * (Q * N)) + h.val * (Q * N) + q.val * N + n.val
    = b.val * (P * (2 * (Q * N))) + p.val * (2 * (Q * N)) + e.val * (Q * N) + q.val * N + n.val
  rw [he]; ring

/-- An axis of one entry dropped. -/
theorem drop_one {α : Type} {B P Q N : ℕ} (v : (⟨5, ![B, P, 1, Q, N]⟩ : Shape).Idx → α)
    (hc : (⟨5, ![B, P, 1, Q, N]⟩ : Shape).ShapeCasts ⟨4, ![B, P, Q, N]⟩) (b : Fin B) (p : Fin P) (q : Fin Q) (n : Fin N) :
    shapeCast ⟨4, ![B, P, Q, N]⟩ v hc (ix4 b p q n) = v (ix5 b p 0 q n) := by
  refine shapeCast_apply v hc _ _ ?_
  rw [rowMajor_val5 _ _ _ _ _ rfl rfl rfl rfl, rowMajor_val4 _ _ _ _ rfl rfl rfl]
  change b.val * (P * (1 * (Q * N))) + p.val * (1 * (Q * N)) + 0 * (Q * N) + q.val * N + n.val
    = b.val * (P * (Q * N)) + p.val * (Q * N) + q.val * N + n.val
  ring

/-- The even heads of 8, and the odd ones, from their halves. -/
def lo8 (C : FVec Ideal S8x4x2x128x2048 .bf16) : FVec Ideal S8x4x1x64x2048 .bf16 :=
  broadcastInDim S8x4x1x64x2048 ![0, 1, 3, 4] bcast_S8x4x64x2048_S8x4x1x64x2048_0_1_3_4 (shapeCast S8x4x64x2048
    (extractStridedSlice S8x4x1x64x2048 ![0, 0, 0, 0, 0] C slices_S8x4x2x128x2048_S8x4x1x64x2048_0_0_0_0_0) shapeCasts_S8x4x1x64x2048_S8x4x64x2048)
def hi8 (C : FVec Ideal S8x4x2x128x2048 .bf16) : FVec Ideal S8x4x1x64x2048 .bf16 :=
  broadcastInDim S8x4x1x64x2048 ![0, 1, 3, 4] bcast_S8x4x64x2048_S8x4x1x64x2048_0_1_3_4 (shapeCast S8x4x64x2048
    (extractStridedSlice S8x4x1x64x2048 ![0, 0, 1, 64, 0] C slices_S8x4x2x128x2048_S8x4x1x64x2048_0_0_1_64_0) shapeCasts_S8x4x1x64x2048_S8x4x64x2048)
/-- 8 heads of 64 lanes from their halves of 128. -/
def un8 (A : FVec Ideal S8x8x128x2048 .bf16) : FVec Ideal S8x2048x8x64 .bf16 :=
  transpose S8x2048x8x64 [0, 3, 1, 2] (shapeCast S8x8x64x2048 (concatenate S8x4x2x64x2048 2
    [⟨S8x4x1x64x2048, lo8 (shapeCast S8x4x2x128x2048 A shapeCasts_S8x8x128x2048_S8x4x2x128x2048)⟩, ⟨S8x4x1x64x2048, hi8 (shapeCast S8x4x2x128x2048 A shapeCasts_S8x8x128x2048_S8x4x2x128x2048)⟩]
    concatenates_S8x4x1x64x2048_S8x4x1x64x2048_S8x4x2x64x2048_d2) shapeCasts_S8x4x2x64x2048_S8x8x64x2048) transposes_S8x8x64x2048_S8x2048x8x64_0_3_1_2

theorem lo8_apply (C : FVec Ideal S8x4x2x128x2048 .bf16) (b : Fin 8) (p : Fin 4) (q : Fin 64) (n : Fin 2048) :
    lo8 C (ix5 b p 0 q n) = C (ix5 b p 0 (Fin.ofNat 128 q.val) n) := by
  unfold lo8
  generalize e : extractStridedSlice S8x4x1x64x2048 ![0, 0, 0, 0, 0] C slices_S8x4x2x128x2048_S8x4x1x64x2048_0_0_0_0_0 = D
  generalize e' : shapeCast S8x4x64x2048 D shapeCasts_S8x4x1x64x2048_S8x4x64x2048 = D'
  pointwise []
  rw [← e']
  refine (drop_one D _ b p q n).trans ?_
  rw [← e]
  pointwise []
  refine congrArg (fun q => C (ix5 b p _ q n)) (Fin.ext ?_)
  simp only [Fin.ofNat]; omega

theorem hi8_apply (C : FVec Ideal S8x4x2x128x2048 .bf16) (b : Fin 8) (p : Fin 4) (q : Fin 64) (n : Fin 2048) :
    hi8 C (ix5 b p 0 q n) = C (ix5 b p 1 (Fin.ofNat 128 (64 + q.val)) n) := by
  unfold hi8
  generalize e : extractStridedSlice S8x4x1x64x2048 ![0, 0, 1, 64, 0] C slices_S8x4x2x128x2048_S8x4x1x64x2048_0_0_1_64_0 = D
  generalize e' : shapeCast S8x4x64x2048 D shapeCasts_S8x4x1x64x2048_S8x4x64x2048 = D'
  pointwise []
  rw [← e']
  refine (drop_one D _ b p q n).trans ?_
  rw [← e]
  pointwise []
  refine congrArg (fun q => C (ix5 b p _ q n)) (Fin.ext ?_)
  simp only [Fin.ofNat]; omega

theorem turn8_apply (D : FVec Ideal S8x8x64x2048 .bf16) (b : Fin 8) (n : Fin 2048) (h : Fin 8) (d : Fin 64) :
    transpose S8x2048x8x64 [0, 3, 1, 2] D transposes_S8x8x64x2048_S8x2048x8x64_0_3_1_2 (ix4 b n h d) = D (ix4 b h d n) := by
  refine transpose_apply _ D _ _ _ fun b => ?_
  fin_cases b <;> rfl

theorem both8_apply (D E : FVec Ideal S8x4x1x64x2048 .bf16) (b : Fin 8) (p : Fin 4) (e : Fin 2) (d : Fin 64) (n : Fin 2048) :
    concatenate S8x4x2x64x2048 2 [⟨S8x4x1x64x2048, D⟩, ⟨S8x4x1x64x2048, E⟩] concatenates_S8x4x1x64x2048_S8x4x1x64x2048_S8x4x2x64x2048_d2 (ix5 b p e d n) = if e.val < 1 then D (ix5 b p 0 d n) else E (ix5 b p 0 d n) := by
  pointwise []
  split
  · exact congrArg (fun e => D (ix5 b p e d n)) (Fin.ext (by dsimp only <;> omega))
  · exact congrArg (fun e => E (ix5 b p e d n)) (Fin.ext (by dsimp only <;> omega))

theorem un8_apply (f : Fin 8 → Fin 2048 → Fin 512 → EReal) (b : Fin 8) (n : Fin 2048) (h : Fin 8) (d : Fin 64) :
    un8 (headsA f) (ix4 b n h d) = f b n (Fin.ofNat 512 (64 * h.val + d.val)) := by
  have he : h.val = 2 * (h.val / 2) + h.val % 2 := (Nat.div_add_mod h.val 2).symm
  refine (turn8_apply _ b n h d).trans ?_
  refine (merge_pairs (B := 8) (P := 4) (P2 := 8) (Q := 64) (N := 2048) rfl _ _ b h d n ⟨h.val / 2, by omega⟩ ⟨h.val % 2, by omega⟩ he).trans ?_
  refine (both8_apply _ _ b _ _ d n).trans ?_
  split
  · rename_i hl
    refine (lo8_apply _ b _ d n).trans ?_
    refine (split_pairs (B := 8) (P := 4) (P2 := 8) (Q := 128) (N := 2048) rfl _ _ b h _ n _ 0 ?_).trans ?_
    · dsimp only at hl ⊢; simp only [Fin.val_zero]; omega
    · refine headsA_apply f b h n d _ ?_ ?_ <;> simp only [Fin.ofNat] at hl ⊢ <;> omega
  · rename_i hl
    refine (hi8_apply _ b _ d n).trans ?_
    refine (split_pairs (B := 8) (P := 4) (P2 := 8) (Q := 128) (N := 2048) rfl _ _ b h _ n _ 1 ?_).trans ?_
    · dsimp only at hl ⊢; simp only [Fin.val_one]; omega
    · refine headsA_apply f b h n d _ ?_ ?_ <;> simp only [Fin.ofNat] at hl ⊢ <;> omega

/-- The even heads of 16, and the odd ones, from their halves. -/
def lo16 (C : FVec Ideal S8x8x2x128x2048 .bf16) : FVec Ideal S8x8x1x64x2048 .bf16 :=
  broadcastInDim S8x8x1x64x2048 ![0, 1, 3, 4] bcast_S8x8x64x2048_S8x8x1x64x2048_0_1_3_4 (shapeCast S8x8x64x2048
    (extractStridedSlice S8x8x1x64x2048 ![0, 0, 0, 0, 0] C slices_S8x8x2x128x2048_S8x8x1x64x2048_0_0_0_0_0) shapeCasts_S8x8x1x64x2048_S8x8x64x2048)
def hi16 (C : FVec Ideal S8x8x2x128x2048 .bf16) : FVec Ideal S8x8x1x64x2048 .bf16 :=
  broadcastInDim S8x8x1x64x2048 ![0, 1, 3, 4] bcast_S8x8x64x2048_S8x8x1x64x2048_0_1_3_4 (shapeCast S8x8x64x2048
    (extractStridedSlice S8x8x1x64x2048 ![0, 0, 1, 64, 0] C slices_S8x8x2x128x2048_S8x8x1x64x2048_0_0_1_64_0) shapeCasts_S8x8x1x64x2048_S8x8x64x2048)
/-- 16 heads of 64 lanes from their halves of 128. -/
def un16 (A : FVec Ideal S8x16x128x2048 .bf16) : FVec Ideal S8x2048x16x64 .bf16 :=
  transpose S8x2048x16x64 [0, 3, 1, 2] (shapeCast S8x16x64x2048 (concatenate S8x8x2x64x2048 2
    [⟨S8x8x1x64x2048, lo16 (shapeCast S8x8x2x128x2048 A shapeCasts_S8x16x128x2048_S8x8x2x128x2048)⟩, ⟨S8x8x1x64x2048, hi16 (shapeCast S8x8x2x128x2048 A shapeCasts_S8x16x128x2048_S8x8x2x128x2048)⟩]
    concatenates_S8x8x1x64x2048_S8x8x1x64x2048_S8x8x2x64x2048_d2) shapeCasts_S8x8x2x64x2048_S8x16x64x2048) transposes_S8x16x64x2048_S8x2048x16x64_0_3_1_2

theorem lo16_apply (C : FVec Ideal S8x8x2x128x2048 .bf16) (b : Fin 8) (p : Fin 8) (q : Fin 64) (n : Fin 2048) :
    lo16 C (ix5 b p 0 q n) = C (ix5 b p 0 (Fin.ofNat 128 q.val) n) := by
  unfold lo16
  generalize e : extractStridedSlice S8x8x1x64x2048 ![0, 0, 0, 0, 0] C slices_S8x8x2x128x2048_S8x8x1x64x2048_0_0_0_0_0 = D
  generalize e' : shapeCast S8x8x64x2048 D shapeCasts_S8x8x1x64x2048_S8x8x64x2048 = D'
  pointwise []
  rw [← e']
  refine (drop_one D _ b p q n).trans ?_
  rw [← e]
  pointwise []
  refine congrArg (fun q => C (ix5 b p _ q n)) (Fin.ext ?_)
  simp only [Fin.ofNat]; omega

theorem hi16_apply (C : FVec Ideal S8x8x2x128x2048 .bf16) (b : Fin 8) (p : Fin 8) (q : Fin 64) (n : Fin 2048) :
    hi16 C (ix5 b p 0 q n) = C (ix5 b p 1 (Fin.ofNat 128 (64 + q.val)) n) := by
  unfold hi16
  generalize e : extractStridedSlice S8x8x1x64x2048 ![0, 0, 1, 64, 0] C slices_S8x8x2x128x2048_S8x8x1x64x2048_0_0_1_64_0 = D
  generalize e' : shapeCast S8x8x64x2048 D shapeCasts_S8x8x1x64x2048_S8x8x64x2048 = D'
  pointwise []
  rw [← e']
  refine (drop_one D _ b p q n).trans ?_
  rw [← e]
  pointwise []
  refine congrArg (fun q => C (ix5 b p _ q n)) (Fin.ext ?_)
  simp only [Fin.ofNat]; omega

theorem turn16_apply (D : FVec Ideal S8x16x64x2048 .bf16) (b : Fin 8) (n : Fin 2048) (h : Fin 16) (d : Fin 64) :
    transpose S8x2048x16x64 [0, 3, 1, 2] D transposes_S8x16x64x2048_S8x2048x16x64_0_3_1_2 (ix4 b n h d) = D (ix4 b h d n) := by
  refine transpose_apply _ D _ _ _ fun b => ?_
  fin_cases b <;> rfl

theorem both16_apply (D E : FVec Ideal S8x8x1x64x2048 .bf16) (b : Fin 8) (p : Fin 8) (e : Fin 2) (d : Fin 64) (n : Fin 2048) :
    concatenate S8x8x2x64x2048 2 [⟨S8x8x1x64x2048, D⟩, ⟨S8x8x1x64x2048, E⟩] concatenates_S8x8x1x64x2048_S8x8x1x64x2048_S8x8x2x64x2048_d2 (ix5 b p e d n) = if e.val < 1 then D (ix5 b p 0 d n) else E (ix5 b p 0 d n) := by
  pointwise []
  split
  · exact congrArg (fun e => D (ix5 b p e d n)) (Fin.ext (by dsimp only <;> omega))
  · exact congrArg (fun e => E (ix5 b p e d n)) (Fin.ext (by dsimp only <;> omega))

theorem un16_apply (f : Fin 8 → Fin 2048 → Fin 1024 → EReal) (b : Fin 8) (n : Fin 2048) (h : Fin 16) (d : Fin 64) :
    un16 (headsA f) (ix4 b n h d) = f b n (Fin.ofNat 1024 (64 * h.val + d.val)) := by
  have he : h.val = 2 * (h.val / 2) + h.val % 2 := (Nat.div_add_mod h.val 2).symm
  refine (turn16_apply _ b n h d).trans ?_
  refine (merge_pairs (B := 8) (P := 8) (P2 := 16) (Q := 64) (N := 2048) rfl _ _ b h d n ⟨h.val / 2, by omega⟩ ⟨h.val % 2, by omega⟩ he).trans ?_
  refine (both16_apply _ _ b _ _ d n).trans ?_
  split
  · rename_i hl
    refine (lo16_apply _ b _ d n).trans ?_
    refine (split_pairs (B := 8) (P := 8) (P2 := 16) (Q := 128) (N := 2048) rfl _ _ b h _ n _ 0 ?_).trans ?_
    · dsimp only at hl ⊢; simp only [Fin.val_zero]; omega
    · refine headsA_apply f b h n d _ ?_ ?_ <;> simp only [Fin.ofNat] at hl ⊢ <;> omega
  · rename_i hl
    refine (hi16_apply _ b _ d n).trans ?_
    refine (split_pairs (B := 8) (P := 8) (P2 := 16) (Q := 128) (N := 2048) rfl _ _ b h _ n _ 1 ?_).trans ?_
    · dsimp only at hl ⊢; simp only [Fin.val_one]; omega
    · refine headsA_apply f b h n d _ ?_ ?_ <;> simp only [Fin.ofNat] at hl ⊢ <;> omega

/-- Rows from blocks of 256 tokens. -/
def unB (A : FVec Ideal S8x8x512x256 .bf16) : FVec Ideal S8x2048x512 .bf16 :=
  shapeCast S8x2048x512 (transpose S8x8x256x512 [0, 1, 3, 2] A transposes_S8x8x512x256_S8x8x256x512_0_1_3_2) shapeCasts_S8x8x256x512_S8x2048x512

theorem unB_apply (f : Fin 8 → Fin 2048 → Fin 512 → EReal) (b : Fin 8) (n : Fin 2048) (i : Fin 512) : unB (blocksA f) (ix3 b n i) = f b n i := by
  pointwise [unB, blocksA]
  exact congrArg (fun a => f b a i) (Fin.ext (by unfold tokn; dsimp only; omega))

end Cert.Proof.In
-- ==== Proof.In.Post.lean ====
/- What the host makes of the projection's arrays. -/
module

public import proofs.«01_k».proof.Proof.In.Un

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem

/-- The first of two copies of 64 lanes. -/
def cut (A : FVec Ideal S8x2048x128 .bf16) : FVec Ideal S8x2048x64 .bf16 :=
  extractStridedSlice S8x2048x64 ![0, 0, 0] A slices_S8x2048x128_S8x2048x64_0_0_0

variable (U : Valuation τ sig (Elt Ideal))

theorem post_41 : (StableHlo.after hostOps1 U (Proc.devRef .tc main_v41) : FVec Ideal S8x2048x8x64 .bf16) = un8 (U (Proc.devRef .tc main_v31_0)) := by
  simp only [hostOps1]
  after_results_simp <;> rfl

theorem post_43 : (StableHlo.after hostOps1 U (Proc.devRef .tc main_v43) : FVec Ideal S8x2048x512 .bf16) = unB (U (Proc.devRef .tc main_v31_2)) := by
  simp only [hostOps1]
  after_results_simp <;> rfl

theorem post_53 : (StableHlo.after hostOps1 U (Proc.devRef .tc main_v53) : FVec Ideal S8x2048x16x64 .bf16) = un16 (U (Proc.devRef .tc main_v31_4)) := by
  simp only [hostOps1]
  after_results_simp <;> rfl

theorem post_54 : (StableHlo.after hostOps1 U (Proc.devRef .tc main_v54) : FVec Ideal S8x2048x64 .bf16) = cut (U (Proc.devRef .tc main_v31_5)) := by
  simp only [hostOps1]
  after_results_simp <;> rfl

theorem post_55 : (StableHlo.after hostOps1 U (Proc.devRef .tc main_v55) : FVec Ideal S8x2048x16 .f32) = transpose S8x2048x16 [0, 2, 1] (U (Proc.devRef .tc main_v31_6)) transposes_S8x16x2048_S8x2048x16_0_2_1 := by
  simp only [hostOps1]
  after_results_simp <;> rfl

theorem post_65 : (StableHlo.after hostOps1 U (Proc.devRef .tc main_v65) : FVec Ideal S8x2048x8x64 .bf16) = un8 (U (Proc.devRef .tc main_v31_7)) := by
  simp only [hostOps1]
  after_results_simp <;> rfl

theorem post_67 : (StableHlo.after hostOps1 U (Proc.devRef .tc main_v67) : FVec Ideal S8x2048x512 .bf16) = unB (U (Proc.devRef .tc main_v31_9)) := by
  simp only [hostOps1]
  after_results_simp <;> rfl

variable (m : (ℓ : Loc nD τ sig) → Buf (Elt Ideal) ℓ) (c : Dev nD)

/-- The buffers as the kernel leaves them. -/
abbrev U0 : Valuation τ sig (Elt Ideal) := Pipeline.withArrays (cfgs 0).spec c (V0 m c) fun w => (dats m 0 c).arrAt w (cfgs 0).N

theorem inj0 : Function.Injective (Pipeline.arrRef spec0) := by decide

theorem arr_of (w : Fin 17) : U0 m c (Proc.devRef .tc (Pipeline.arrRef spec0 w)) = (dats m 0 c).arrAt w cfg0.N :=
  Pipeline.withArrays_arr spec0 inj0 c (V0 m c) (fun w => (dats m 0 c).arrAt w cfg0.N) w

theorem tail_eq (b : Ref sig .tc) : Pipeline.afterTail₀ cfgs (dats m) 0 (V0 m) [hostOps1] c b = StableHlo.after hostOps1 (U0 m c) (Proc.devRef .tc b) := by
  unfold Pipeline.afterTail₀
  rw [List.flatten_cons, List.flatten_nil, List.append_nil]

end Cert.Proof.In
-- ==== Proof.In.Ref.lean ====
/- The projection's reference as functions of its arguments, and its results at an index. -/
module

public import proofs.«01_k».proof.Proof.Gen.Reference2Ideal.Run
public import proofs.«01_k».proof.Proof.In.Norm
public import Idealize.ShloMosaic.Lib.Pointwise
public import Idealize.ShloMosaic.Lib.IdealHost

@[expose] public section

set_option maxRecDepth 16384

noncomputable section

namespace Cert.Proof.In.R

open Cert.Reference2Ideal Cert.Reference2Ideal.Gen
open Idealize.ShloMosaic Idealize.ShloMosaic.TcCoe

abbrev T := FVec Ideal S8x2048x512 .f32
abbrev T4 := FVec Ideal S8x2048x8x64 .f32

/-- The normalised tokens. -/
def rH (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf
      (broadcastInDim S8x2048x1 ![0, 1] bcast_S8x2048_S8x2048x1_0_1 (Host.reduceAdd (mulf x x) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast _ g shapeCasts_S1x1024_S1024)))

/-- Their projection. -/
def rP (h : FVec Ideal S8x2048x1024 .f32) (w : FVec Ideal S1x1024x5200 .f32) : FVec Ideal S8x2048x5200 .f32 :=
  Host.dotGeneral dot_S8x2048x1024_S1024x5200_S8x2048x5200_2_0_01_1_n_n none h (shapeCast _ w shapeCasts_S1x1024x5200_S1024x5200)

/-- Heads normalised. -/
def rN (p : T) (g : FVec Ideal S1x64 .f32) : T4 :=
  mulf (mulf (shapeCast _ p shapeCasts_S8x2048x512_S8x2048x8x64) (broadcastInDim S8x2048x8x64 ![0, 1, 2, 3] bcast_S8x2048x8x1_S8x2048x8x64_0_1_2_3
      (Host.rsqrt (addf (Host.divf (broadcastInDim S8x2048x8x1 ![0, 1, 2] bcast_S8x2048x8_S8x2048x8x1_0_1_2
        (Host.reduceAdd (mulf (shapeCast _ p shapeCasts_S8x2048x512_S8x2048x8x64) (shapeCast _ p shapeCasts_S8x2048x512_S8x2048x8x64))
          (constant S_ .f32 0x00000000#32) reducesTo_S8x2048x8x64_S8x2048x8_d3 h_S_))
        (broadcastInDim S8x2048x8x1 ![] bcast_S_S8x2048x8x1 (constant S_ .f32 0x42800000#32))) (broadcastInDim S8x2048x8x1 ![] bcast_S_S8x2048x8x1 (constant S_ .f32 0x358637BD#32))))))
    (broadcastInDim S8x2048x8x64 ![0, 1, 2, 3] bcast_S1x1x1x64_S8x2048x8x64_0_1_2_3 (broadcastInDim S1x1x1x64 ![3] bcast_S64_S1x1x1x64_3 (shapeCast _ g shapeCasts_S1x64_S64)))

/-- A gate. -/
def rG (g : T) : T :=
  mulf g (Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf g))))

theorem rH_apply (x : FVec Ideal S8x2048x1024 .f32) (g : FVec Ideal S1x1024 .f32) (b : Fin 8) (n : Fin 2048) (k : Fin 1024) :
    rH x g (ix3 b n k) = hn (fun k => x (ix3 b n k)) (fun k => g (ix2 0 k)) k := by
  pointwise [rH, hn, rs]

theorem rP_apply (h : FVec Ideal S8x2048x1024 .f32) (w : FVec Ideal S1x1024x5200 .f32) (b : Fin 8) (n : Fin 2048) (i : Fin 5200) :
    rP h w (ix3 b n i) = pj (fun k => h (ix3 b n k)) (fun k => w (ix3 0 k i)) := by
  pointwise [rP, pj]

theorem rN_apply (p : T) (g : FVec Ideal S1x64 .f32) (b : Fin 8) (n : Fin 2048) (h : Fin 8) (d : Fin 64) :
    rN p g (ix4 b n h d) = qk (fun j => p (ix3 b n (Fin.ofNat 512 j))) (64 * h.val + d.val) (g (ix2 0 d)) := by
  pointwise [rN, qk, rs]
  have e : ∀ d : Fin 64, (⟨h.val * 64 + d.val, by omega⟩ : Fin 512) = Fin.ofNat 512 (64 * h.val + d.val) :=
    fun d => Fin.ext (by simp only [Fin.ofNat]; omega)
  have q : (64 * h.val + d.val) / 64 = h.val := by omega
  simp only [e, q]

theorem rG_apply (p : T) (b : Fin 8) (n : Fin 2048) (i : Fin 512) : rG p (ix3 b n i) = sl (p (ix3 b n i)) := by
  pointwise [rG, sl]

variable (P : FVec Ideal S8x2048x5200 .f32)

/-- What is kept of the projection: its results, as functions of it. -/
def r0 (g : FVec Ideal S1x64 .f32) : FVec Ideal S8x2048x8x64 .bf16 :=
  truncf .bf16 (rN (extractStridedSlice S8x2048x512 ![0, 0, 0] P slices_S8x2048x5200_S8x2048x512_0_0_0) g) bitsLt_bf16_f32
def r1 (g : FVec Ideal S1x64 .f32) : FVec Ideal S8x2048x512 .bf16 :=
  truncf .bf16 (shapeCast _ (rN (extractStridedSlice S8x2048x512 ![0, 0, 512] P slices_S8x2048x5200_S8x2048x512_0_0_512) g)
    shapeCasts_S8x2048x8x64_S8x2048x512) bitsLt_bf16_f32
def r2 : FVec Ideal S8x2048x512 .bf16 :=
  truncf .bf16 (extractStridedSlice S8x2048x512 ![0, 0, 1024] P slices_S8x2048x5200_S8x2048x512_0_0_1024) bitsLt_bf16_f32
def r3 : T := rG (extractStridedSlice S8x2048x512 ![0, 0, 1536] P slices_S8x2048x5200_S8x2048x512_0_0_1536)
def r4 : FVec Ideal S8x2048x16x64 .bf16 :=
  truncf .bf16 (shapeCast _ (extractStridedSlice S8x2048x1024 ![0, 0, 2048] P slices_S8x2048x5200_S8x2048x1024_0_0_2048)
    shapeCasts_S8x2048x1024_S8x2048x16x64) bitsLt_bf16_f32
def r5 : FVec Ideal S8x2048x64 .bf16 :=
  truncf .bf16 (extractStridedSlice S8x2048x64 ![0, 0, 3072] P slices_S8x2048x5200_S8x2048x64_0_0_3072) bitsLt_bf16_f32
def r6 : FVec Ideal S8x2048x16 .f32 :=
  mulf (extractStridedSlice S8x2048x16 ![0, 0, 3136] P slices_S8x2048x5200_S8x2048x16_0_0_3136)
    (broadcastInDim S8x2048x16 ![] bcast_S_S8x2048x16 (constant S_ .f32 0x3D000000#32))
def r7 : FVec Ideal S8x2048x8x64 .bf16 :=
  truncf .bf16 (shapeCast _ (extractStridedSlice S8x2048x512 ![0, 0, 3152] P slices_S8x2048x5200_S8x2048x512_0_0_3152)
    shapeCasts_S8x2048x512_S8x2048x8x64) bitsLt_bf16_f32
def r8 : FVec Ideal S8x2048x512 .bf16 :=
  truncf .bf16 (extractStridedSlice S8x2048x512 ![0, 0, 3664] P slices_S8x2048x5200_S8x2048x512_0_0_3664) bitsLt_bf16_f32
def r9 : FVec Ideal S8x2048x512 .bf16 :=
  truncf .bf16 (extractStridedSlice S8x2048x512 ![0, 0, 4176] P slices_S8x2048x5200_S8x2048x512_0_0_4176) bitsLt_bf16_f32
def r10 : T := rG (extractStridedSlice S8x2048x512 ![0, 0, 4688] P slices_S8x2048x5200_S8x2048x512_0_0_4688)

/-- A column of the projection, by its number. -/
def cl (b : Fin 8) (n : Fin 2048) (i : ℕ) : EReal := P (ix3 b n (Fin.ofNat 5200 i))

/-- A number in range is the column it names. -/
theorem cl_of (b : Fin 8) (n : Fin 2048) (i : Fin 5200) (j : ℕ) (h : i.val = j) : P (ix3 b n i) = cl P b n j := by
  subst h
  exact congrArg (fun i => P (ix3 b n i)) (Fin.ext (Nat.mod_eq_of_lt i.isLt).symm)

/-- The roots agree where the columns do. -/
theorem qk_congr {f f' : ℕ → EReal} (h : ∀ j, j < 512 → f j = f' j) (i : ℕ) (hi : i < 512) (g : EReal) : qk f i g = qk f' i g := by
  have e : ∀ d : Fin 64, f (64 * (i / 64) + d) = f' (64 * (i / 64) + d) := fun d => h _ (by omega)
  simp only [qk, e, h i hi]

variable (b : Fin 8) (n : Fin 2048)

theorem r0_apply (g : FVec Ideal S1x64 .f32) (h : Fin 8) (d : Fin 64) :
    r0 P g (ix4 b n h d) = qk (cl P b n) (64 * h.val + d.val) (g (ix2 0 d)) := by
  refine (rN_apply _ g b n h d).trans (qk_congr (fun j hj => ?_) _ (by omega) _)
  pointwise []
  exact cl_of P b n _ _ (by simp only [Fin.ofNat]; omega)

theorem r1_apply (g : FVec Ideal S1x64 .f32) (i : Fin 512) :
    r1 P g (ix3 b n i) = qk (fun j => cl P b n (512 + j)) i.val (g (ix2 0 (Fin.ofNat 64 i.val))) := by
  unfold r1
  generalize e : extractStridedSlice S8x2048x512 ![0, 0, 512] P slices_S8x2048x5200_S8x2048x512_0_0_512 = p
  generalize eq : rN p g = q
  pointwise []
  rw [← eq, rN_apply]
  have hi : 64 * (i.val / 64) + i.val % 64 = i.val := Nat.div_add_mod i.val 64
  dsimp only
  rw [hi]
  refine qk_congr (fun j hj => ?_) _ i.isLt _
  rw [← e]
  pointwise []
  exact cl_of P b n _ _ (by simp only [Fin.ofNat]; omega)

theorem r2_apply (i : Fin 512) : r2 P (ix3 b n i) = cl P b n (1024 + i.val) := by
  pointwise [r2]
  exact cl_of P b n _ _ (by dsimp only <;> omega)

theorem r3_apply (i : Fin 512) : r3 P (ix3 b n i) = sl (cl P b n (1536 + i.val)) := by
  refine (rG_apply _ b n i).trans (congrArg sl ?_)
  pointwise []
  exact cl_of P b n _ _ (by dsimp only <;> omega)

theorem r4_apply (h : Fin 16) (d : Fin 64) : r4 P (ix4 b n h d) = cl P b n (2048 + (64 * h.val + d.val)) := by
  pointwise [r4]
  exact cl_of P b n _ _ (by dsimp only <;> omega)

theorem r5_apply (i : Fin 64) : r5 P (ix3 b n i) = cl P b n (3072 + i.val) := by
  pointwise [r5]
  exact cl_of P b n _ _ (by dsimp only <;> omega)

theorem r6_apply (i : Fin 16) : r6 P (ix3 b n i) = cl P b n (3136 + i.val) * Ideal.ofBits .f32 0x3D000000#32 := by
  pointwise [r6]
  rw [cl_of P b n _ (3136 + i.val) (by dsimp only <;> omega)]

theorem r7_apply (h : Fin 8) (d : Fin 64) : r7 P (ix4 b n h d) = cl P b n (3152 + (64 * h.val + d.val)) := by
  pointwise [r7]
  exact cl_of P b n _ _ (by dsimp only <;> omega)

theorem r8_apply (i : Fin 512) : r8 P (ix3 b n i) = cl P b n (3152 + (512 + i.val)) := by
  pointwise [r8]
  exact cl_of P b n _ _ (by dsimp only <;> omega)

theorem r9_apply (i : Fin 512) : r9 P (ix3 b n i) = cl P b n (3152 + (1024 + i.val)) := by
  pointwise [r9]
  exact cl_of P b n _ _ (by dsimp only <;> omega)

theorem r10_apply (i : Fin 512) : r10 P (ix3 b n i) = sl (cl P b n (3152 + (1536 + i.val))) := by
  refine (rG_apply _ b n i).trans (congrArg sl ?_)
  pointwise []
  exact cl_of P b n _ _ (by dsimp only <;> omega)

open Idealize.SL Idealize.SL.Sem

/-- A device's projection. -/
def rA (m : (ℓ : Loc nD τ sig) → Buf (Elt Ideal) ℓ) (c : Dev nD) : FVec Ideal S8x2048x5200 .f32 :=
  rP (rH (m ((c.tc : Thread nD τ).loc main_arg0)) (m ((c.tc : Thread nD τ).loc main_arg1))) (m ((c.tc : Thread nD τ).loc main_arg2))

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = r0 (rA m c) (m ((c.tc : Thread nD τ).loc main_arg3))
      ∧ r.2.mem ((c.tc : Thread nD τ).loc main_v61) = r1 (rA m c) (m ((c.tc : Thread nD τ).loc main_arg4))
      ∧ r.2.mem ((c.tc : Thread nD τ).loc main_v62) = r2 (rA m c)
      ∧ r.2.mem ((c.tc : Thread nD τ).loc main_v63) = r3 (rA m c)
      ∧ r.2.mem ((c.tc : Thread nD τ).loc main_v65) = r4 (rA m c)
      ∧ r.2.mem ((c.tc : Thread nD τ).loc main_v66) = r5 (rA m c)
      ∧ r.2.mem ((c.tc : Thread nD τ).loc main_v58) = r6 (rA m c)
      ∧ r.2.mem ((c.tc : Thread nD τ).loc main_v68) = r7 (rA m c)
      ∧ r.2.mem ((c.tc : Thread nD τ).loc main_v69) = r8 (rA m c)
      ∧ r.2.mem ((c.tc : Thread nD τ).loc main_v70) = r9 (rA m c)
      ∧ r.2.mem ((c.tc : Thread nD τ).loc main_v71) = r10 (rA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => h c) (Cert.Reference2Ideal.Value.run (F := Ideal) m ρ)

end Cert.Proof.In.R
-- ==== Proof.In.Same.lean ====
/- The kernel's arrays are the reference's. -/
module

public import proofs.«01_k».proof.Proof.In.Post
public import proofs.«01_k».proof.Proof.In.Ref
public import proofs.«01_k».proof.Proof.Pure

@[expose] public section

set_option maxRecDepth 16384

noncomputable section

namespace Cert.Proof.In

open Cert.Kernel2Ideal Cert.Kernel2Ideal.Gen
open Idealize.ShloMosaic Idealize.ShloMosaic.TcCoe
open Idealize.SL Idealize.SL.Sem

variable (X : FVec Ideal S8x2048x1024 .f32) (G : FVec Ideal S1x1024 .f32) (W : FVec Ideal S1x1024x5200 .f32) (Q : FVec Ideal S1x64 .f32)

/-- The reference's projection. -/
def P0 : FVec Ideal Cert.Reference2Ideal.S8x2048x5200 .f32 := R.rP (R.rH X G) W

variable (b : Fin 8) (n : Fin 2048)

theorem cl_eq (i : ℕ) : R.cl (P0 X G W) b n i = pj (ht X G b n) fun k => W (ix3 0 k (Fin.ofNat 5200 i)) :=
  (R.rP_apply _ W b n _).trans (congrArg (pj · _) (funext fun k => R.rH_apply X G b n k))

theorem pc_low (i : ℕ) (h : i < 3136) : pc X G W b n i = R.cl (P0 X G W) b n i :=
  (congrArg (pj _) (funext fun k => hW_low W k i h)).trans (cl_eq X G W b n i).symm

theorem pc_high (i : ℕ) (h : i < 2048) : pc X G W b n (3328 + i) = R.cl (P0 X G W) b n (3152 + i) :=
  (congrArg (pj _) (funext fun k => hW_high W k i h)).trans (cl_eq X G W b n (3152 + i)).symm

/-- One over 32. -/
theorem ofBits_scale : Ideal.ofBits .f32 0x3D000000#32 = ((1 / 32 : ℝ) : EReal) := by
  simp [Ideal.ofBits, Ideal.ieee]
  rw [← EReal.coe_mul]
  norm_num

/-- The scale of the weights' columns is the scale of the product. -/
theorem pc_idx (i : ℕ) (h : i < 16) : pc X G W b n (3200 + i) = R.cl (P0 X G W) b n (3136 + i) * Ideal.ofBits .f32 0x3D000000#32 := by
  refine (congrArg (pj _) (funext fun k => hW_idx W k i h)).trans ?_
  rw [cl_eq, ofBits_scale]
  unfold pj
  rw [Cert.Proof.Pure.sum_mul_coe _ _ (by norm_num)]
  exact Finset.sum_congr rfl fun k _ => (mul_assoc _ _ _).symm

/-- Arrays that agree at every index are one. -/
theorem fun3 {b n w : ℕ} {f g : (⟨3, ![b, n, w]⟩ : Shape).Idx → EReal} (h : ∀ i j k, f (ix3 i j k) = g (ix3 i j k)) : f = g :=
  funext fun y => by rw [ext3 y (y 0) (y 1) (y 2) rfl rfl rfl]; exact h _ _ _

theorem fun4 {a b n w : ℕ} {f g : (⟨4, ![a, b, n, w]⟩ : Shape).Idx → EReal} (h : ∀ i j k l, f (ix4 i j k l) = g (ix4 i j k l)) : f = g :=
  funext fun y => by rw [ext4 y (y 0) (y 1) (y 2) (y 3) rfl rfl rfl rfl]; exact h _ _ _ _

/-- A lane of a head is a column of the 512. -/
theorem lane_val (h : Fin 8) (d : Fin 64) : (Fin.ofNat 512 (64 * h.val + d.val)).val = 64 * h.val + d.val :=
  Nat.mod_eq_of_lt (by omega)

theorem lane_val16 (h : Fin 16) (d : Fin 64) : (Fin.ofNat 1024 (64 * h.val + d.val)).val = 64 * h.val + d.val :=
  Nat.mod_eq_of_lt (by omega)

theorem same_0 : un8 (headsA (pq X G W Q 0)) = R.r0 (P0 X G W) Q := fun4 fun b n h d => by
  rw [un8_apply, R.r0_apply]
  unfold pq
  rw [hG_apply, lane_val]
  refine (R.qk_congr (fun j hj => ?_) _ (by omega) _).trans (congrArg (fun d => qk _ _ (Q (ix2 0 d))) (Fin.ext ?_))
  · rw [Nat.zero_add]; exact pc_low X G W b n j (by omega)
  · simp only [Fin.ofNat]; omega

theorem same_1 : rowsA (pq X G W Q 512) = R.r1 (P0 X G W) Q := fun3 fun b n i => by
  rw [R.r1_apply]
  change pq X G W Q 512 b n i = _
  unfold pq
  rw [hG_apply]
  exact R.qk_congr (fun j hj => pc_low X G W b n _ (by omega)) _ i.isLt _

theorem same_2 : unB (blocksA fun b n i => pc X G W b n (1024 + i.val)) = R.r2 (P0 X G W) := fun3 fun b n i => by
  rw [unB_apply, R.r2_apply]
  exact pc_low X G W b n _ (by omega)

theorem same_3 : (rowsA fun b n (i : Fin 512) => sl (pc X G W b n (1536 + i.val))) = R.r3 (P0 X G W) := fun3 fun b n i => by
  rw [R.r3_apply]
  exact congrArg sl (pc_low X G W b n _ (by omega))

theorem same_4 : un16 (headsA fun b n (i : Fin 1024) => pc X G W b n (2048 + i.val)) = R.r4 (P0 X G W) := fun4 fun b n h d => by
  rw [un16_apply, R.r4_apply, lane_val16]
  exact pc_low X G W b n _ (by omega)

theorem same_5 : cut (rowsA fun b n (i : Fin 128) => pc X G W b n (3072 + i.val)) = R.r5 (P0 X G W) := fun3 fun b n i => by
  rw [R.r5_apply]
  refine (extractStridedSlice_apply _ _ _ _ (ix3 b n (Fin.ofNat 128 i.val)) fun a => ?_).trans ?_
  · fin_cases a
    · exact (Nat.zero_add _).symm
    · exact (Nat.zero_add _).symm
    · exact (Nat.mod_eq_of_lt (by omega)).trans (Nat.zero_add _).symm
  · have hi : (Fin.ofNat 128 i.val).val = i.val := Nat.mod_eq_of_lt (by omega)
    change pc X G W b n (3072 + (Fin.ofNat 128 i.val).val) = _
    rw [hi]
    exact pc_low X G W b n _ (by omega)

theorem same_6 : transpose S8x2048x16 [0, 2, 1] (turnA fun b n (i : Fin 16) => pc X G W b n (3200 + i.val)) transposes_S8x16x2048_S8x2048x16_0_2_1
    = R.r6 (P0 X G W) := fun3 fun b n i => by
  rw [R.r6_apply]
  refine (transpose_apply _ _ _ _ (ix3 b i n) fun a => ?_).trans (pc_idx X G W b n i.val i.isLt)
  fin_cases a <;> rfl

theorem same_7 : un8 (headsA fun b n (i : Fin 512) => pc X G W b n (3328 + i.val)) = R.r7 (P0 X G W) := fun4 fun b n h d => by
  rw [un8_apply, R.r7_apply, lane_val]
  exact pc_high X G W b n _ (by omega)

theorem same_8 : (rowsA fun b n (i : Fin 512) => pc X G W b n (3840 + i.val)) = R.r8 (P0 X G W) := fun3 fun b n i => by
  rw [R.r8_apply, ← pc_high X G W b n _ (by omega)]
  exact congrArg (fun i => pc X G W b n i) (show 3840 + i.val = 3328 + (512 + i.val) by omega)

theorem same_9 : unB (blocksA fun b n i => pc X G W b n (4352 + i.val)) = R.r9 (P0 X G W) := fun3 fun b n i => by
  rw [unB_apply, R.r9_apply, ← pc_high X G W b n _ (by omega)]
  exact congrArg (pc X G W b n) (by omega)

theorem same_10 : (rowsA fun b n (i : Fin 512) => sl (pc X G W b n (4864 + i.val))) = R.r10 (P0 X G W) := fun3 fun b n i => by
  rw [R.r10_apply, ← pc_high X G W b n _ (by omega)]
  exact congrArg (fun i => sl (pc X G W b n i)) (show 4864 + i.val = 3328 + (1536 + i.val) by omega)

end Cert.Proof.In
-- ==== Proof.In.Algebraic.lean ====
/- The projection's claims. -/
module

public import proofs.«01_k».proof.Defs
public import proofs.«01_k».proof.Proof.In.Same
public import proofs.«01_k».proof.Proof.Gen.Kernel2.Frame
public import proofs.«01_k».proof.Proof.Gen.Kernel2Ideal.Frame
public import Idealize.ShloMosaic.Lib.Quiescent

@[expose] public section

set_option maxRecDepth 16384

noncomputable section

namespace Cert.Proof.In

open Idealize.ShloMosaic Idealize.ShloMosaic.TcCoe
open Idealize.SL Idealize.SL.Sem

section
open Cert.Kernel2Ideal Cert.Kernel2Ideal.Gen

variable (m : (ℓ : Loc nD τ sig) → Buf (Elt Ideal) ℓ) (c : Dev nD)

/-- The reference's projection of a device's arguments. -/
def proj : FVec Ideal Cert.Reference2Ideal.S8x2048x5200 .f32 := P0 (aX m c) (aG m c) (aW m c)

/-- What a buffer holds at the end. -/
abbrev fin (b : Ref sig .tc) := Pipeline.afterTail₀ cfgs (dats m) 0 (V0 m) [hostOps1] c b

theorem ker_0 : fin m c main_v41 = R.r0 (proj m c) (aQ m c) :=
  (tail_eq m c main_v41).trans ((post_41 _).trans ((congrArg un8 ((arr_of m c 6).trans (final_6 m c))).trans (same_0 ..)))
theorem ker_1 : (dats m 0 c).arrAt 7 cfg0.N = R.r1 (proj m c) (aK m c) := (final_7 m c).trans (same_1 ..)
theorem ker_2 : fin m c main_v43 = R.r2 (proj m c) :=
  (tail_eq m c main_v43).trans ((post_43 _).trans ((congrArg unB ((arr_of m c 8).trans (final_8 m c))).trans (same_2 ..)))
theorem ker_3 : (dats m 0 c).arrAt 9 cfg0.N = R.r3 (proj m c) := (final_9 m c).trans (same_3 ..)
theorem ker_4 : fin m c main_v53 = R.r4 (proj m c) :=
  (tail_eq m c main_v53).trans ((post_53 _).trans ((congrArg un16 ((arr_of m c 10).trans (final_10 m c))).trans (same_4 ..)))
theorem ker_5 : fin m c main_v54 = R.r5 (proj m c) :=
  (tail_eq m c main_v54).trans ((post_54 _).trans ((congrArg cut ((arr_of m c 11).trans (final_11 m c))).trans (same_5 ..)))
theorem ker_6 : fin m c main_v55 = R.r6 (proj m c) :=
  (tail_eq m c main_v55).trans ((post_55 _).trans ((congrArg (fun A => transpose S8x2048x16 [0, 2, 1] A transposes_S8x16x2048_S8x2048x16_0_2_1)
    ((arr_of m c 12).trans (final_12 m c))).trans (same_6 ..)))
theorem ker_7 : fin m c main_v65 = R.r7 (proj m c) :=
  (tail_eq m c main_v65).trans ((post_65 _).trans ((congrArg un8 ((arr_of m c 13).trans (final_13 m c))).trans (same_7 ..)))
theorem ker_8 : (dats m 0 c).arrAt 14 cfg0.N = R.r8 (proj m c) := (final_14 m c).trans (same_8 ..)
theorem ker_9 : fin m c main_v67 = R.r9 (proj m c) :=
  (tail_eq m c main_v67).trans ((post_67 _).trans ((congrArg unB ((arr_of m c 15).trans (final_15 m c))).trans (same_9 ..)))
theorem ker_10 : (dats m 0 c).arrAt 16 cfg0.N = R.r10 (proj m c) := (final_16 m c).trans (same_10 ..)

end

theorem r0_congr {P P' : FVec Ideal Cert.Reference2Ideal.S8x2048x5200 .f32} {g g' : FVec Ideal Cert.Reference2Ideal.S1x64 .f32} (hP : P = P') (hg : g = g') :
    R.r0 P g = R.r0 P' g' := by rw [hP, hg]

theorem r1_congr {P P' : FVec Ideal Cert.Reference2Ideal.S8x2048x5200 .f32} {g g' : FVec Ideal Cert.Reference2Ideal.S1x64 .f32} (hP : P = P') (hg : g = g') :
    R.r1 P g = R.r1 P' g' := by rw [hP, hg]

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2.2.2.2.2.2.2.2.2.2.2, sem_eq_zero_of_no_sems (by decide) r.2⟩)
    (Cert.Reference2Ideal.Value.run (F := Ideal) m ρ)

theorem preserves : Cert.preserves_Kernel2_Kernel2Ideal := trivial

section
open Cert.Kernel2Ideal Cert.Kernel2Ideal.Gen

set_option maxHeartbeats 2000000 in
/-- Both programs leave the same eleven results and their arguments unchanged. -/
theorem algebraic : Cert.algebraic_Kernel2Ideal_Reference2Ideal := fun m g m' g' _ hm => by
  refine ⟨fun c => R.r0 (proj m c) (aQ m c), fun c => R.r1 (proj m c) (aK m c), fun c => R.r2 (proj m c), fun c => R.r3 (proj m c),
    fun c => R.r4 (proj m c), fun c => R.r5 (proj m c), fun c => R.r6 (proj m c), fun c => R.r7 (proj m c), fun c => R.r8 (proj m c),
    fun c => R.r9 (proj m c), fun c => R.r10 (proj m c), ?_, ?_⟩
  · refine (θ_run Cert.Kernel2Ideal.defs _ _).mono (fun r h c => ?_) (θ_run_and (run_main m g) (unchanged m g))
    have w := (h.1 c).1
    have o := fun b hb => (h.1 c).2 b hb
    exact ⟨(o main_v41 (Pipeline.mem_restRefs_of main_v41 (by decide) (by decide))).trans (ker_0 m c), (w 7).trans (ker_1 m c),
      (o main_v43 (Pipeline.mem_restRefs_of main_v43 (by decide) (by decide))).trans (ker_2 m c), (w 9).trans (ker_3 m c),
      (o main_v53 (Pipeline.mem_restRefs_of main_v53 (by decide) (by decide))).trans (ker_4 m c),
      (o main_v54 (Pipeline.mem_restRefs_of main_v54 (by decide) (by decide))).trans (ker_5 m c),
      (o main_v55 (Pipeline.mem_restRefs_of main_v55 (by decide) (by decide))).trans (ker_6 m c),
      (o main_v65 (Pipeline.mem_restRefs_of main_v65 (by decide) (by decide))).trans (ker_7 m c), (w 14).trans (ker_8 m c),
      (o main_v67 (Pipeline.mem_restRefs_of main_v67 (by decide) (by decide))).trans (ker_9 m c), (w 16).trans (ker_10 m c), h.2 c⟩
  · have e : ∀ c, R.rA m' c = proj m c := fun c => by
      obtain ⟨h0, h1, h2, -⟩ := hm c
      unfold R.rA
      rw [h0, h1, h2]
      rfl
    refine (θ_run Cert.Reference2Ideal.defs _ _).mono (fun r h c => ?_) (R.run m' g')
    have q := h c
    have hc := hm c
    have e0 := r0_congr (e c) hc.2.2.2.1
    have e1 := r1_congr (e c) hc.2.2.2.2
    exact ⟨q.1.trans e0,
      q.2.1.trans e1,
      q.2.2.1.trans (congrArg R.r2 (e c)),
      q.2.2.2.1.trans (congrArg R.r3 (e c)),
      q.2.2.2.2.1.trans (congrArg R.r4 (e c)),
      q.2.2.2.2.2.1.trans (congrArg R.r5 (e c)),
      q.2.2.2.2.2.2.1.trans (congrArg R.r6 (e c)),
      q.2.2.2.2.2.2.2.1.trans (congrArg R.r7 (e c)),
      q.2.2.2.2.2.2.2.2.1.trans (congrArg R.r8 (e c)),
      q.2.2.2.2.2.2.2.2.2.1.trans (congrArg R.r9 (e c)),
      q.2.2.2.2.2.2.2.2.2.2.1.trans (congrArg R.r10 (e c)),
      q.2.2.2.2.2.2.2.2.2.2.2⟩

end

end Cert.Proof.In
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite_scores
public import proofs.«01_k».proof.Proof.Algebraic
public import proofs.«01_k».proof.Proof.In.Algebraic

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_scores.Gen.facts,
  frame_p, frame_pi, fun m ρ _ => Cert.Proof.PI.frame m ρ go, frame_ri,
  fun m ρ _ => frame_ri m ρ trivial, In.frame_p, In.frame_pi, In.frame_ri,
  preserves, @algebraic Cert.Pre_finite_scores.Gen.facts, In.preserves, In.algebraic⟩

end Cert.Proof

end
